-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied_poly [hPre_untied_poly : Cert.Pre_untied_poly.Facts] (m : (ℓ : Loc Cert.KernelIdeal.nD Cert.KernelIdeal.τ Cert.KernelIdeal.sig) → Buf (Elt Ideal) ℓ) : Prop :=
  ∀ c : Dev Cert.KernelIdeal.nD,
    (Cert.Pre_untied_poly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_untied_poly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_untied_poly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_untied_poly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_untied_poly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferencePolyIdeal (m : (ℓ : Loc Cert.ReferencePolyIdeal.nD Cert.ReferencePolyIdeal.τ Cert.ReferencePolyIdeal.sig) → Buf (Elt Ideal) ℓ) : Prop :=
  True

def Pre_ReferencePolyIdeal_untied_poly [hPre_untied_poly : Cert.Pre_untied_poly.Facts] (m : (ℓ : Loc Cert.ReferencePolyIdeal.nD Cert.ReferencePolyIdeal.τ Cert.ReferencePolyIdeal.sig) → Buf (Elt Ideal) ℓ) : Prop :=
  ∀ c : Dev Cert.ReferencePolyIdeal.nD,
    (Cert.Pre_untied_poly.fn (F := Ideal) (m ((c.tc : Thread Cert.ReferencePolyIdeal.nD Cert.ReferencePolyIdeal.τ).loc Cert.ReferencePolyIdeal.main_arg0)) (m ((c.tc : Thread Cert.ReferencePolyIdeal.nD Cert.ReferencePolyIdeal.τ).loc Cert.ReferencePolyIdeal.main_arg1)) (m ((c.tc : Thread Cert.ReferencePolyIdeal.nD Cert.ReferencePolyIdeal.τ).loc Cert.ReferencePolyIdeal.main_arg2))).1 = (fun _ => 1#1)
    ∧ (Cert.Pre_untied_poly.fn (F := Ideal) (m ((c.tc : Thread Cert.ReferencePolyIdeal.nD Cert.ReferencePolyIdeal.τ).loc Cert.ReferencePolyIdeal.main_arg0)) (m ((c.tc : Thread Cert.ReferencePolyIdeal.nD Cert.ReferencePolyIdeal.τ).loc Cert.ReferencePolyIdeal.main_arg1)) (m ((c.tc : Thread Cert.ReferencePolyIdeal.nD Cert.ReferencePolyIdeal.τ).loc Cert.ReferencePolyIdeal.main_arg2))).2.1 = (fun _ => 1#1)
    ∧ (Cert.Pre_untied_poly.fn (F := Ideal) (m ((c.tc : Thread Cert.ReferencePolyIdeal.nD Cert.ReferencePolyIdeal.τ).loc Cert.ReferencePolyIdeal.main_arg0)) (m ((c.tc : Thread Cert.ReferencePolyIdeal.nD Cert.ReferencePolyIdeal.τ).loc Cert.ReferencePolyIdeal.main_arg1)) (m ((c.tc : Thread Cert.ReferencePolyIdeal.nD Cert.ReferencePolyIdeal.τ).loc Cert.ReferencePolyIdeal.main_arg2))).2.2.1 = (fun _ => 1#1)
    ∧ (Cert.Pre_untied_poly.fn (F := Ideal) (m ((c.tc : Thread Cert.ReferencePolyIdeal.nD Cert.ReferencePolyIdeal.τ).loc Cert.ReferencePolyIdeal.main_arg0)) (m ((c.tc : Thread Cert.ReferencePolyIdeal.nD Cert.ReferencePolyIdeal.τ).loc Cert.ReferencePolyIdeal.main_arg1)) (m ((c.tc : Thread Cert.ReferencePolyIdeal.nD Cert.ReferencePolyIdeal.τ).loc Cert.ReferencePolyIdeal.main_arg2))).2.2.2.1 = (fun _ => 1#1)
    ∧ (Cert.Pre_untied_poly.fn (F := Ideal) (m ((c.tc : Thread Cert.ReferencePolyIdeal.nD Cert.ReferencePolyIdeal.τ).loc Cert.ReferencePolyIdeal.main_arg0)) (m ((c.tc : Thread Cert.ReferencePolyIdeal.nD Cert.ReferencePolyIdeal.τ).loc Cert.ReferencePolyIdeal.main_arg1)) (m ((c.tc : Thread Cert.ReferencePolyIdeal.nD Cert.ReferencePolyIdeal.τ).loc Cert.ReferencePolyIdeal.main_arg2))).2.2.2.2 = (fun _ => 1#1)

def Pre_KernelAtan (m : (ℓ : Loc Cert.KernelAtan.nD Cert.KernelAtan.τ Cert.KernelAtan.sig) → Buf (Elt Bits) ℓ) : Prop :=
  True

def Pre_KernelAtanIdeal (m : (ℓ : Loc Cert.KernelAtanIdeal.nD Cert.KernelAtanIdeal.τ Cert.KernelAtanIdeal.sig) → Buf (Elt Ideal) ℓ) : Prop :=
  True

def Pre_KernelAtanIdeal_untied [hPre_untied : Cert.Pre_untied.Facts] (m : (ℓ : Loc Cert.KernelAtanIdeal.nD Cert.KernelAtanIdeal.τ Cert.KernelAtanIdeal.sig) → Buf (Elt Ideal) ℓ) : Prop :=
  ∀ c : Dev Cert.KernelAtanIdeal.nD,
    (Cert.Pre_untied.fn (F := Ideal) (m ((c.tc : Thread Cert.KernelAtanIdeal.nD Cert.KernelAtanIdeal.τ).loc Cert.KernelAtanIdeal.main_arg0)) (m ((c.tc : Thread Cert.KernelAtanIdeal.nD Cert.KernelAtanIdeal.τ).loc Cert.KernelAtanIdeal.main_arg1)) (m ((c.tc : Thread Cert.KernelAtanIdeal.nD Cert.KernelAtanIdeal.τ).loc Cert.KernelAtanIdeal.main_arg2))).1 = (fun _ => 1#1)
    ∧ (Cert.Pre_untied.fn (F := Ideal) (m ((c.tc : Thread Cert.KernelAtanIdeal.nD Cert.KernelAtanIdeal.τ).loc Cert.KernelAtanIdeal.main_arg0)) (m ((c.tc : Thread Cert.KernelAtanIdeal.nD Cert.KernelAtanIdeal.τ).loc Cert.KernelAtanIdeal.main_arg1)) (m ((c.tc : Thread Cert.KernelAtanIdeal.nD Cert.KernelAtanIdeal.τ).loc Cert.KernelAtanIdeal.main_arg2))).2.1 = (fun _ => 1#1)
    ∧ (Cert.Pre_untied.fn (F := Ideal) (m ((c.tc : Thread Cert.KernelAtanIdeal.nD Cert.KernelAtanIdeal.τ).loc Cert.KernelAtanIdeal.main_arg0)) (m ((c.tc : Thread Cert.KernelAtanIdeal.nD Cert.KernelAtanIdeal.τ).loc Cert.KernelAtanIdeal.main_arg1)) (m ((c.tc : Thread Cert.KernelAtanIdeal.nD Cert.KernelAtanIdeal.τ).loc Cert.KernelAtanIdeal.main_arg2))).2.2.1 = (fun _ => 1#1)
    ∧ (Cert.Pre_untied.fn (F := Ideal) (m ((c.tc : Thread Cert.KernelAtanIdeal.nD Cert.KernelAtanIdeal.τ).loc Cert.KernelAtanIdeal.main_arg0)) (m ((c.tc : Thread Cert.KernelAtanIdeal.nD Cert.KernelAtanIdeal.τ).loc Cert.KernelAtanIdeal.main_arg1)) (m ((c.tc : Thread Cert.KernelAtanIdeal.nD Cert.KernelAtanIdeal.τ).loc Cert.KernelAtanIdeal.main_arg2))).2.2.2.1 = (fun _ => 1#1)
    ∧ (Cert.Pre_untied.fn (F := Ideal) (m ((c.tc : Thread Cert.KernelAtanIdeal.nD Cert.KernelAtanIdeal.τ).loc Cert.KernelAtanIdeal.main_arg0)) (m ((c.tc : Thread Cert.KernelAtanIdeal.nD Cert.KernelAtanIdeal.τ).loc Cert.KernelAtanIdeal.main_arg1)) (m ((c.tc : Thread Cert.KernelAtanIdeal.nD Cert.KernelAtanIdeal.τ).loc Cert.KernelAtanIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_untied_poly [hKernelIdeal : Cert.KernelIdeal.Facts] [hPre_untied_poly : Cert.Pre_untied_poly.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied_poly m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferencePolyIdeal [hReferencePolyIdeal : Cert.ReferencePolyIdeal.Facts] : Prop :=
  ∀ (m : (ℓ : Loc Cert.ReferencePolyIdeal.nD Cert.ReferencePolyIdeal.τ Cert.ReferencePolyIdeal.sig) → Buf (Elt Ideal) ℓ) (g : Dev Cert.ReferencePolyIdeal.nD → PrngReg), Pre_ReferencePolyIdeal m →
    θ_run (Cert.ReferencePolyIdeal.defs (F := Ideal)) (onTc (τ := Cert.ReferencePolyIdeal.τ) (Cert.ReferencePolyIdeal.main (F := Ideal))) ⟨m, fun _ => 0, g⟩ (fun r => (∀ c : Dev Cert.ReferencePolyIdeal.nD,
      r.2.mem ((c.tc : Thread Cert.ReferencePolyIdeal.nD Cert.ReferencePolyIdeal.τ).loc Cert.ReferencePolyIdeal.main_arg0) = m ((c.tc : Thread Cert.ReferencePolyIdeal.nD Cert.ReferencePolyIdeal.τ).loc Cert.ReferencePolyIdeal.main_arg0)
      ∧ r.2.mem ((c.tc : Thread Cert.ReferencePolyIdeal.nD Cert.ReferencePolyIdeal.τ).loc Cert.ReferencePolyIdeal.main_arg1) = m ((c.tc : Thread Cert.ReferencePolyIdeal.nD Cert.ReferencePolyIdeal.τ).loc Cert.ReferencePolyIdeal.main_arg1)
      ∧ r.2.mem ((c.tc : Thread Cert.ReferencePolyIdeal.nD Cert.ReferencePolyIdeal.τ).loc Cert.ReferencePolyIdeal.main_arg2) = m ((c.tc : Thread Cert.ReferencePolyIdeal.nD Cert.ReferencePolyIdeal.τ).loc Cert.ReferencePolyIdeal.main_arg2))
      ∧ r.2.sem = fun _ => 0)

def quiescent_ReferencePolyIdeal_pre_untied_poly [hReferencePolyIdeal : Cert.ReferencePolyIdeal.Facts] [hPre_untied_poly : Cert.Pre_untied_poly.Facts] : Prop :=
  ∀ (m : (ℓ : Loc Cert.ReferencePolyIdeal.nD Cert.ReferencePolyIdeal.τ Cert.ReferencePolyIdeal.sig) → Buf (Elt Ideal) ℓ) (g : Dev Cert.ReferencePolyIdeal.nD → PrngReg), Pre_ReferencePolyIdeal_untied_poly m →
    θ_run (Cert.ReferencePolyIdeal.defs (F := Ideal)) (onTc (τ := Cert.ReferencePolyIdeal.τ) (Cert.ReferencePolyIdeal.main (F := Ideal))) ⟨m, fun _ => 0, g⟩ (fun r => (∀ c : Dev Cert.ReferencePolyIdeal.nD,
      r.2.mem ((c.tc : Thread Cert.ReferencePolyIdeal.nD Cert.ReferencePolyIdeal.τ).loc Cert.ReferencePolyIdeal.main_arg0) = m ((c.tc : Thread Cert.ReferencePolyIdeal.nD Cert.ReferencePolyIdeal.τ).loc Cert.ReferencePolyIdeal.main_arg0)
      ∧ r.2.mem ((c.tc : Thread Cert.ReferencePolyIdeal.nD Cert.ReferencePolyIdeal.τ).loc Cert.ReferencePolyIdeal.main_arg1) = m ((c.tc : Thread Cert.ReferencePolyIdeal.nD Cert.ReferencePolyIdeal.τ).loc Cert.ReferencePolyIdeal.main_arg1)
      ∧ r.2.mem ((c.tc : Thread Cert.ReferencePolyIdeal.nD Cert.ReferencePolyIdeal.τ).loc Cert.ReferencePolyIdeal.main_arg2) = m ((c.tc : Thread Cert.ReferencePolyIdeal.nD Cert.ReferencePolyIdeal.τ).loc Cert.ReferencePolyIdeal.main_arg2))
      ∧ r.2.sem = fun _ => 0)

def quiescent_KernelAtan [hKernelAtan : Cert.KernelAtan.Facts] : Prop :=
  ∀ (m : (ℓ : Loc Cert.KernelAtan.nD Cert.KernelAtan.τ Cert.KernelAtan.sig) → Buf (Elt Bits) ℓ) (g : Dev Cert.KernelAtan.nD → PrngReg), Pre_KernelAtan m →
    θ_run (Cert.KernelAtan.defs (F := Bits)) (onTc (τ := Cert.KernelAtan.τ) (Cert.KernelAtan.main (F := Bits))) ⟨m, fun _ => 0, g⟩ (fun r => (∀ c : Dev Cert.KernelAtan.nD,
      r.2.mem ((c.tc : Thread Cert.KernelAtan.nD Cert.KernelAtan.τ).loc Cert.KernelAtan.main_arg0) = m ((c.tc : Thread Cert.KernelAtan.nD Cert.KernelAtan.τ).loc Cert.KernelAtan.main_arg0)
      ∧ r.2.mem ((c.tc : Thread Cert.KernelAtan.nD Cert.KernelAtan.τ).loc Cert.KernelAtan.main_arg1) = m ((c.tc : Thread Cert.KernelAtan.nD Cert.KernelAtan.τ).loc Cert.KernelAtan.main_arg1)
      ∧ r.2.mem ((c.tc : Thread Cert.KernelAtan.nD Cert.KernelAtan.τ).loc Cert.KernelAtan.main_arg2) = m ((c.tc : Thread Cert.KernelAtan.nD Cert.KernelAtan.τ).loc Cert.KernelAtan.main_arg2))
      ∧ r.2.sem = fun _ => 0)

def quiescent_KernelAtanIdeal [hKernelAtanIdeal : Cert.KernelAtanIdeal.Facts] : Prop :=
  ∀ (m : (ℓ : Loc Cert.KernelAtanIdeal.nD Cert.KernelAtanIdeal.τ Cert.KernelAtanIdeal.sig) → Buf (Elt Ideal) ℓ) (g : Dev Cert.KernelAtanIdeal.nD → PrngReg), Pre_KernelAtanIdeal m →
    θ_run (Cert.KernelAtanIdeal.defs (F := Ideal)) (onTc (τ := Cert.KernelAtanIdeal.τ) (Cert.KernelAtanIdeal.main (F := Ideal))) ⟨m, fun _ => 0, g⟩ (fun r => (∀ c : Dev Cert.KernelAtanIdeal.nD,
      r.2.mem ((c.tc : Thread Cert.KernelAtanIdeal.nD Cert.KernelAtanIdeal.τ).loc Cert.KernelAtanIdeal.main_arg0) = m ((c.tc : Thread Cert.KernelAtanIdeal.nD Cert.KernelAtanIdeal.τ).loc Cert.KernelAtanIdeal.main_arg0)
      ∧ r.2.mem ((c.tc : Thread Cert.KernelAtanIdeal.nD Cert.KernelAtanIdeal.τ).loc Cert.KernelAtanIdeal.main_arg1) = m ((c.tc : Thread Cert.KernelAtanIdeal.nD Cert.KernelAtanIdeal.τ).loc Cert.KernelAtanIdeal.main_arg1)
      ∧ r.2.mem ((c.tc : Thread Cert.KernelAtanIdeal.nD Cert.KernelAtanIdeal.τ).loc Cert.KernelAtanIdeal.main_arg2) = m ((c.tc : Thread Cert.KernelAtanIdeal.nD Cert.KernelAtanIdeal.τ).loc Cert.KernelAtanIdeal.main_arg2))
      ∧ r.2.sem = fun _ => 0)

def quiescent_KernelAtanIdeal_pre_untied [hKernelAtanIdeal : Cert.KernelAtanIdeal.Facts] [hPre_untied : Cert.Pre_untied.Facts] : Prop :=
  ∀ (m : (ℓ : Loc Cert.KernelAtanIdeal.nD Cert.KernelAtanIdeal.τ Cert.KernelAtanIdeal.sig) → Buf (Elt Ideal) ℓ) (g : Dev Cert.KernelAtanIdeal.nD → PrngReg), Pre_KernelAtanIdeal_untied m →
    θ_run (Cert.KernelAtanIdeal.defs (F := Ideal)) (onTc (τ := Cert.KernelAtanIdeal.τ) (Cert.KernelAtanIdeal.main (F := Ideal))) ⟨m, fun _ => 0, g⟩ (fun r => (∀ c : Dev Cert.KernelAtanIdeal.nD,
      r.2.mem ((c.tc : Thread Cert.KernelAtanIdeal.nD Cert.KernelAtanIdeal.τ).loc Cert.KernelAtanIdeal.main_arg0) = m ((c.tc : Thread Cert.KernelAtanIdeal.nD Cert.KernelAtanIdeal.τ).loc Cert.KernelAtanIdeal.main_arg0)
      ∧ r.2.mem ((c.tc : Thread Cert.KernelAtanIdeal.nD Cert.KernelAtanIdeal.τ).loc Cert.KernelAtanIdeal.main_arg1) = m ((c.tc : Thread Cert.KernelAtanIdeal.nD Cert.KernelAtanIdeal.τ).loc Cert.KernelAtanIdeal.main_arg1)
      ∧ r.2.mem ((c.tc : Thread Cert.KernelAtanIdeal.nD Cert.KernelAtanIdeal.τ).loc Cert.KernelAtanIdeal.main_arg2) = m ((c.tc : Thread Cert.KernelAtanIdeal.nD Cert.KernelAtanIdeal.τ).loc Cert.KernelAtanIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferencePolyIdeal_pre_untied_poly [hKernelIdeal : Cert.KernelIdeal.Facts] [hReferencePolyIdeal : Cert.ReferencePolyIdeal.Facts] [hPre_untied_poly : Cert.Pre_untied_poly.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferencePolyIdeal.nD Cert.ReferencePolyIdeal.τ Cert.ReferencePolyIdeal.sig) → Buf (Elt Ideal) ℓ) (g' : Dev Cert.ReferencePolyIdeal.nD → PrngReg), Pre_KernelIdeal_untied_poly m →
    (∀ c : Dev Cert.KernelIdeal.nD,
      m' ((c.tc : Thread Cert.ReferencePolyIdeal.nD Cert.ReferencePolyIdeal.τ).loc Cert.ReferencePolyIdeal.main_arg0) = m ((c.tc : Thread Cert.KernelIdeal.nD Cert.KernelIdeal.τ).loc Cert.KernelIdeal.main_arg0)
      ∧ m' ((c.tc : Thread Cert.ReferencePolyIdeal.nD Cert.ReferencePolyIdeal.τ).loc Cert.ReferencePolyIdeal.main_arg1) = m ((c.tc : Thread Cert.KernelIdeal.nD Cert.KernelIdeal.τ).loc Cert.KernelIdeal.main_arg1)
      ∧ m' ((c.tc : Thread Cert.ReferencePolyIdeal.nD Cert.ReferencePolyIdeal.τ).loc Cert.ReferencePolyIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferencePolyIdeal.defs (F := Ideal)) (onTc (τ := Cert.ReferencePolyIdeal.τ) (Cert.ReferencePolyIdeal.main (F := Ideal))) ⟨m', fun _ => 0, g'⟩ (fun r => ∀ c : Dev Cert.ReferencePolyIdeal.nD,
          r.2.mem ((c.tc : Thread Cert.ReferencePolyIdeal.nD Cert.ReferencePolyIdeal.τ).loc Cert.ReferencePolyIdeal.main_v319) = v0 c
          ∧ r.2.mem ((c.tc : Thread Cert.ReferencePolyIdeal.nD Cert.ReferencePolyIdeal.τ).loc Cert.ReferencePolyIdeal.main_v320) = v1 c
          ∧ r.2.mem ((c.tc : Thread Cert.ReferencePolyIdeal.nD Cert.ReferencePolyIdeal.τ).loc Cert.ReferencePolyIdeal.main_v321) = v2 c
          ∧ r.2.mem ((c.tc : Thread Cert.ReferencePolyIdeal.nD Cert.ReferencePolyIdeal.τ).loc Cert.ReferencePolyIdeal.main_arg0) = m' ((c.tc : Thread Cert.ReferencePolyIdeal.nD Cert.ReferencePolyIdeal.τ).loc Cert.ReferencePolyIdeal.main_arg0)
          ∧ r.2.mem ((c.tc : Thread Cert.ReferencePolyIdeal.nD Cert.ReferencePolyIdeal.τ).loc Cert.ReferencePolyIdeal.main_arg1) = m' ((c.tc : Thread Cert.ReferencePolyIdeal.nD Cert.ReferencePolyIdeal.τ).loc Cert.ReferencePolyIdeal.main_arg1)
          ∧ r.2.mem ((c.tc : Thread Cert.ReferencePolyIdeal.nD Cert.ReferencePolyIdeal.τ).loc Cert.ReferencePolyIdeal.main_arg2) = m' ((c.tc : Thread Cert.ReferencePolyIdeal.nD Cert.ReferencePolyIdeal.τ).loc Cert.ReferencePolyIdeal.main_arg2))

def preserves_KernelAtan_KernelAtanIdeal : Prop :=
  True

def algebraic_KernelAtanIdeal_ReferenceIdeal_pre_untied [hKernelAtanIdeal : Cert.KernelAtanIdeal.Facts] [hReferenceIdeal : Cert.ReferenceIdeal.Facts] [hPre_untied : Cert.Pre_untied.Facts] : Prop :=
  ∀ (m : (ℓ : Loc Cert.KernelAtanIdeal.nD Cert.KernelAtanIdeal.τ Cert.KernelAtanIdeal.sig) → Buf (Elt Ideal) ℓ) (g : Dev Cert.KernelAtanIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelAtanIdeal_untied m →
    (∀ c : Dev Cert.KernelAtanIdeal.nD,
      m' ((c.tc : Thread Cert.ReferenceIdeal.nD Cert.ReferenceIdeal.τ).loc Cert.ReferenceIdeal.main_arg0) = m ((c.tc : Thread Cert.KernelAtanIdeal.nD Cert.KernelAtanIdeal.τ).loc Cert.KernelAtanIdeal.main_arg0)
      ∧ m' ((c.tc : Thread Cert.ReferenceIdeal.nD Cert.ReferenceIdeal.τ).loc Cert.ReferenceIdeal.main_arg1) = m ((c.tc : Thread Cert.KernelAtanIdeal.nD Cert.KernelAtanIdeal.τ).loc Cert.KernelAtanIdeal.main_arg1)
      ∧ m' ((c.tc : Thread Cert.ReferenceIdeal.nD Cert.ReferenceIdeal.τ).loc Cert.ReferenceIdeal.main_arg2) = m ((c.tc : Thread Cert.KernelAtanIdeal.nD Cert.KernelAtanIdeal.τ).loc Cert.KernelAtanIdeal.main_arg2)) →
    ∃ (v0 : (c : Dev Cert.KernelAtanIdeal.nD) → Buf (Elt Ideal) ((c.tc : Thread Cert.KernelAtanIdeal.nD Cert.KernelAtanIdeal.τ).loc Cert.KernelAtanIdeal.main_v0_0)) (v1 : (c : Dev Cert.KernelAtanIdeal.nD) → Buf (Elt Ideal) ((c.tc : Thread Cert.KernelAtanIdeal.nD Cert.KernelAtanIdeal.τ).loc Cert.KernelAtanIdeal.main_v0_1)) (v2 : (c : Dev Cert.KernelAtanIdeal.nD) → Buf (Elt Ideal) ((c.tc : Thread Cert.KernelAtanIdeal.nD Cert.KernelAtanIdeal.τ).loc Cert.KernelAtanIdeal.main_v0_2)),
      θ_run (Cert.KernelAtanIdeal.defs (F := Ideal)) (onTc (τ := Cert.KernelAtanIdeal.τ) (Cert.KernelAtanIdeal.main (F := Ideal))) ⟨m, fun _ => 0, g⟩ (fun r => ∀ c : Dev Cert.KernelAtanIdeal.nD,
          r.2.mem ((c.tc : Thread Cert.KernelAtanIdeal.nD Cert.KernelAtanIdeal.τ).loc Cert.KernelAtanIdeal.main_v0_0) = v0 c
          ∧ r.2.mem ((c.tc : Thread Cert.KernelAtanIdeal.nD Cert.KernelAtanIdeal.τ).loc Cert.KernelAtanIdeal.main_v0_1) = v1 c
          ∧ r.2.mem ((c.tc : Thread Cert.KernelAtanIdeal.nD Cert.KernelAtanIdeal.τ).loc Cert.KernelAtanIdeal.main_v0_2) = v2 c
          ∧ r.2.mem ((c.tc : Thread Cert.KernelAtanIdeal.nD Cert.KernelAtanIdeal.τ).loc Cert.KernelAtanIdeal.main_arg0) = m ((c.tc : Thread Cert.KernelAtanIdeal.nD Cert.KernelAtanIdeal.τ).loc Cert.KernelAtanIdeal.main_arg0)
          ∧ r.2.mem ((c.tc : Thread Cert.KernelAtanIdeal.nD Cert.KernelAtanIdeal.τ).loc Cert.KernelAtanIdeal.main_arg1) = m ((c.tc : Thread Cert.KernelAtanIdeal.nD Cert.KernelAtanIdeal.τ).loc Cert.KernelAtanIdeal.main_arg1)
          ∧ r.2.mem ((c.tc : Thread Cert.KernelAtanIdeal.nD Cert.KernelAtanIdeal.τ).loc Cert.KernelAtanIdeal.main_arg2) = m ((c.tc : Thread Cert.KernelAtanIdeal.nD Cert.KernelAtanIdeal.τ).loc Cert.KernelAtanIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferencePolyIdeal : Cert.ReferencePolyIdeal.Facts) (hKernelAtan : Cert.KernelAtan.Facts) (hKernelAtanIdeal : Cert.KernelAtanIdeal.Facts) (hReferenceIdeal : Cert.ReferenceIdeal.Facts) (hPre_untied_poly : Cert.Pre_untied_poly.Facts) (hPre_untied : Cert.Pre_untied.Facts),
    quiescent_Kernel (hKernel := hKernel)
    ∧ quiescent_KernelIdeal (hKernelIdeal := hKernelIdeal)
    ∧ quiescent_KernelIdeal_pre_untied_poly (hKernelIdeal := hKernelIdeal) (hPre_untied_poly := hPre_untied_poly)
    ∧ quiescent_ReferencePolyIdeal (hReferencePolyIdeal := hReferencePolyIdeal)
    ∧ quiescent_ReferencePolyIdeal_pre_untied_poly (hReferencePolyIdeal := hReferencePolyIdeal) (hPre_untied_poly := hPre_untied_poly)
    ∧ quiescent_KernelAtan (hKernelAtan := hKernelAtan)
    ∧ quiescent_KernelAtanIdeal (hKernelAtanIdeal := hKernelAtanIdeal)
    ∧ quiescent_KernelAtanIdeal_pre_untied (hKernelAtanIdeal := hKernelAtanIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferencePolyIdeal_pre_untied_poly (hKernelIdeal := hKernelIdeal) (hReferencePolyIdeal := hReferencePolyIdeal) (hPre_untied_poly := hPre_untied_poly)
    ∧ preserves_KernelAtan_KernelAtanIdeal
    ∧ algebraic_KernelAtanIdeal_ReferenceIdeal_pre_untied (hKernelAtanIdeal := hKernelAtanIdeal) (hReferenceIdeal := hReferenceIdeal) (hPre_untied := hPre_untied)
-- ==== Pre_untied.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x4x16x33600 : Shape := ⟨4, ![8, 4, 16, 33600]⟩
abbrev S_ : Shape := ⟨0, ![]⟩
abbrev S8x4x33600 : Shape := ⟨3, ![8, 4, 33600]⟩
abbrev S8x4x1x33600 : Shape := ⟨4, ![8, 4, 1, 33600]⟩
abbrev S16 : Shape := ⟨1, ![16]⟩
abbrev S1x1x16x1 : Shape := ⟨4, ![1, 1, 16, 1]⟩
abbrev S8x33600 : Shape := ⟨2, ![8, 33600]⟩
abbrev S8x20x1 : Shape := ⟨3, ![8, 20, 1]⟩
abbrev S8x20 : Shape := ⟨2, ![8, 20]⟩
abbrev S8x20x33600 : Shape := ⟨3, ![8, 20, 33600]⟩
abbrev S8x20x11 : Shape := ⟨3, ![8, 20, 11]⟩
abbrev S8x20x10 : Shape := ⟨3, ![8, 20, 10]⟩

class Facts : Prop where
  shapeCasts_S8x64x33600_S8x4x16x33600 : S8x64x33600.ShapeCasts S8x4x16x33600
  reducesTo_S8x4x16x33600_S8x4x33600_d2 : S8x4x16x33600.ReducesTo [2] S8x4x33600
  h_S_ : 0 < S_.numel
  bcast_S_S8x4x33600 : S_.BroadcastsInDim S8x4x33600 (![] : Fin 0 → Fin S8x4x33600.rank)
  bcast_S8x4x33600_S8x4x1x33600_0_1_3 : S8x4x33600.BroadcastsInDim S8x4x1x33600 (![0, 1, 3] : Fin 3 → Fin S8x4x1x33600.rank)
  bcast_S8x4x1x33600_S8x4x16x33600_0_1_2_3 : S8x4x1x33600.BroadcastsInDim S8x4x16x33600 (![0, 1, 2, 3] : Fin 4 → Fin S8x4x16x33600.rank)
  bcast_S16_S1x1x16x1_2 : S16.BroadcastsInDim S1x1x16x1 (![2] : Fin 1 → Fin S1x1x16x1.rank)
  bcast_S1x1x16x1_S8x4x16x33600_0_1_2_3 : S1x1x16x1.BroadcastsInDim S8x4x16x33600 (![0, 1, 2, 3] : Fin 4 → Fin S8x4x16x33600.rank)
  slices_S8x4x33600_S8x1x33600_0_0_0 : S8x4x33600.Slices ![0, 0, 0] S8x1x33600
  shapeCasts_S8x1x33600_S8x33600 : S8x1x33600.ShapeCasts S8x33600
  slices_S8x4x33600_S8x1x33600_0_1_0 : S8x4x33600.Slices ![0, 1, 0] S8x1x33600
  slices_S8x4x33600_S8x1x33600_0_2_0 : S8x4x33600.Slices ![0, 2, 0] S8x1x33600
  slices_S8x4x33600_S8x1x33600_0_3_0 : S8x4x33600.Slices ![0, 3, 0] S8x1x33600
  bcast_S8x33600_S8x1x33600_0_2 : S8x33600.BroadcastsInDim S8x1x33600 (![0, 2] : Fin 2 → Fin S8x1x33600.rank)
  slices_S8x20x4_S8x20x1_0_0_0 : S8x20x4.Slices ![0, 0, 0] S8x20x1
  shapeCasts_S8x20x1_S8x20 : S8x20x1.ShapeCasts S8x20
  bcast_S8x20_S8x20x1_0_1 : S8x20.BroadcastsInDim S8x20x1 (![0, 1] : Fin 2 → Fin S8x20x1.rank)
  slices_S8x20x4_S8x20x1_0_0_1 : S8x20x4.Slices ![0, 0, 1] S8x20x1
  slices_S8x20x4_S8x20x1_0_0_2 : S8x20x4.Slices ![0, 0, 2] S8x20x1
  slices_S8x20x4_S8x20x1_0_0_3 : S8x20x4.Slices ![0, 0, 3] S8x20x1
  bcast_S8x1x33600_S8x20x33600_0_1_2 : S8x1x33600.BroadcastsInDim S8x20x33600 (![0, 1, 2] : Fin 3 → Fin S8x20x33600.rank)
  bcast_S8x20x1_S8x20x33600_0_1_2 : S8x20x1.BroadcastsInDim S8x20x33600 (![0, 1, 2] : Fin 3 → Fin S8x20x33600.rank)
  bcast_S_S8x20x33600 : S_.BroadcastsInDim S8x20x33600 (![] : Fin 0 → Fin S8x20x33600.rank)
  bcast_S_S8x20x1 : S_.BroadcastsInDim S8x20x1 (![] : Fin 0 → Fin S8x20x1.rank)
  bcast_S_S8x1x33600 : S_.BroadcastsInDim S8x1x33600 (![] : Fin 0 → Fin S8x1x33600.rank)
  sliceFits_S8x20x33600_S8x20x11 : S8x20x33600.Slices (fun _ => 0) S8x20x11
  bcast_S_S8x64x33600 : S_.BroadcastsInDim S8x64x33600 (![] : Fin 0 → Fin S8x64x33600.rank)
  bcast_S_S8x20x4 : S_.BroadcastsInDim S8x20x4 (![] : Fin 0 → Fin S8x20x4.rank)
  slices_S8x20x11_S8x20x10_0_0_1 : S8x20x11.Slices ![0, 0, 1] S8x20x10
  slices_S8x20x11_S8x20x10_0_0_0 : S8x20x11.Slices ![0, 0, 0] S8x20x10
  bcast_S_S8x20x10 : S_.BroadcastsInDim S8x20x10 (![] : Fin 0 → Fin S8x20x10.rank)

variable [Facts]

def fn_part7 {F : FTy → Type} [FloatOps F] (main_values : FVec F S8x20x11 .f32) (main_v136 : IVec S8x64x33600 1) (main_v139 : IVec S8x1x33600 1) (main_v142 : IVec S8x20x4 1) (main_v147 : IVec S8x20 1) (main_v148 : FVec F S8x20x10 .f32) (main_v149 : FVec F S8x20x10 .f32) : IVec S8x64x33600 1 × IVec S8x1x33600 1 × IVec S8x20x4 1 × IVec S8x20 1 × IVec S8x20x10 1 :=
  let main_v150 : IVec S8x20x10 1 := cmpf .olt main_v148 main_v149
  let main_v151 : FVec F S8x20x10 .f32 := (extractStridedSlice S8x20x10 ![0, 0, 0] · slices_S8x20x11_S8x20x10_0_0_0) main_values
  let main_cst_15 : FVec F S_ .f32 := constant S_ .f32 0x00000000#32
  let main_v152 : FVec F S8x20x10 .f32 := broadcastInDim S8x20x10 ![] bcast_S_S8x20x10 main_cst_15
  let main_v153 : IVec S8x20x10 1 := cmpf .ole main_v151 main_v152
  let main_v154 : IVec S8x20x10 1 := ori main_v150 main_v153
  (main_v136, main_v139, main_v142, main_v147, main_v154)

def fn_part6 {F : FTy → Type} [FloatOps F] (main_arg0 : FVec F S8x64x33600 .f32) (main_arg1 : FVec F S8x1x33600 .f32) (main_arg2 : FVec F S8x20x4 .f32) (main_v75 : FVec F S8x20x33600 .f32) (main_v125 : FVec F S8x20x33600 .f32) (main_v129 : FVec F S8x20x33600 .f32) (main_v130 : FVec F S8x20x33600 .f32) : IVec S8x64x33600 1 × IVec S8x1x33600 1 × IVec S8x20x4 1 × IVec S8x20 1 × IVec S8x20x10 1 :=
  let main_v131 : FVec F S8x20x33600 .f32 := mulf main_v125 main_v129
  let main_v132 : FVec F S8x20x33600 .f32 := addf main_v130 main_v131
  let main_v133 : FVec F S8x20x33600 .f32 := subf main_v75 main_v132
  let main_values : FVec F S8x20x11 .f32 := (fun x => (Host.topK S8x20x11 2 (FloatOps.cmpfTotal .gt) x sliceFits_S8x20x33600_S8x20x11).1) main_v133
  let main_indices : IVec S8x20x11 32 := (fun x => (Host.topK S8x20x11 2 (FloatOps.cmpfTotal .gt) x sliceFits_S8x20x33600_S8x20x11).2) main_v133
  let main_v134 : FVec F S8x64x33600 .f32 := Host.absf main_arg0
  let main_cst_12 : FVec F S_ .f32 := constant S_ .f32 0x7F800000#32
  let main_v135 : FVec F S8x64x33600 .f32 := broadcastInDim S8x64x33600 ![] bcast_S_S8x64x33600 main_cst_12
  let main_v136 : IVec S8x64x33600 1 := cmpf .olt main_v134 main_v135
  let main_v137 : FVec F S8x1x33600 .f32 := Host.absf main_arg1
  let main_cst_13 : FVec F S_ .f32 := constant S_ .f32 0x7F800000#32
  let main_v138 : FVec F S8x1x33600 .f32 := broadcastInDim S8x1x33600 ![] bcast_S_S8x1x33600 main_cst_13
  let main_v139 : IVec S8x1x33600 1 := cmpf .olt main_v137 main_v138
  let main_v140 : FVec F S8x20x4 .f32 := Host.absf main_arg2
  let main_cst_14 : FVec F S_ .f32 := constant S_ .f32 0x7F800000#32
  let main_v141 : FVec F S8x20x4 .f32 := broadcastInDim S8x20x4 ![] bcast_S_S8x20x4 main_cst_14
  let main_v142 : IVec S8x20x4 1 := cmpf .olt main_v140 main_v141
  let main_v143 : FVec F S8x20x1 .f32 := (extractStridedSlice S8x20x1 ![0, 0, 1] · slices_S8x20x4_S8x20x1_0_0_1) main_arg2
  let main_v144 : FVec F S8x20 .f32 := shapeCast S8x20 main_v143 shapeCasts_S8x20x1_S8x20
  let main_v145 : FVec F S8x20x1 .f32 := (extractStridedSlice S8x20x1 ![0, 0, 3] · slices_S8x20x4_S8x20x1_0_0_3) main_arg2
  let main_v146 : FVec F S8x20 .f32 := shapeCast S8x20 main_v145 shapeCasts_S8x20x1_S8x20
  let main_v147 : IVec S8x20 1 := cmpf .ole main_v144 main_v146
  let main_v148 : FVec F S8x20x10 .f32 := (extractStridedSlice S8x20x10 ![0, 0, 1] · slices_S8x20x11_S8x20x10_0_0_1) main_values
  let main_v149 : FVec F S8x20x10 .f32 := (extractStridedSlice S8x20x10 ![0, 0, 0] · slices_S8x20x11_S8x20x10_0_0_0) main_values
  fn_part7 (F := F) main_values main_v136 main_v139 main_v142 main_v147 main_v148 main_v149

def fn_part5 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v46 : FVec F S8x20x1 .f32) (main_v47 : FVec F S8x20x1 .f32) (main_v75 : FVec F S8x20x33600 .f32) (main_v94 : FVec F S8x20x33600 .f32) (main_v109 : FVec F S8x20x33600 .f32) (main_v110 : FVec F S8x20x33600 .f32) : IVec S8x64x33600 1 × IVec S8x1x33600 1 × IVec S8x20x4 1 × IVec S8x20 1 × IVec S8x20x10 1 :=
  let main_v111 : FVec F S8x20x33600 .f32 := Host.divf main_v109 main_v110
  let main_cst_8 : FVec F S_ .f32 := constant S_ .f32 0x33D6BF95#32
  let main_v112 : FVec F S8x20x1 .f32 := broadcastInDim S8x20x1 ![] bcast_S_S8x20x1 main_cst_8
  let main_v113 : FVec F S8x20x1 .f32 := addf main_v47 main_v112
  let main_v114 : FVec F S8x20x1 .f32 := Host.divf main_v46 main_v113
  let main_v115 : FVec F S8x20x1 .f32 := Host.atan main_v114
  let main_cst_9 : FVec F S_ .f32 := constant S_ .f32 0x33D6BF95#32
  let main_v116 : FVec F S8x1x33600 .f32 := broadcastInDim S8x1x33600 ![] bcast_S_S8x1x33600 main_cst_9
  let main_v117 : FVec F S8x1x33600 .f32 := addf main_v45 main_v116
  let main_v118 : FVec F S8x1x33600 .f32 := Host.divf main_v44 main_v117
  let main_v119 : FVec F S8x1x33600 .f32 := Host.atan main_v118
  let main_v120 : FVec F S8x20x33600 .f32 := broadcastInDim S8x20x33600 ![0, 1, 2] bcast_S8x20x1_S8x20x33600_0_1_2 main_v115
  let main_v121 : FVec F S8x20x33600 .f32 := broadcastInDim S8x20x33600 ![0, 1, 2] bcast_S8x1x33600_S8x20x33600_0_1_2 main_v119
  let main_v122 : FVec F S8x20x33600 .f32 := subf main_v120 main_v121
  let main_v123 : FVec F S8x20x33600 .f32 := mulf main_v122 main_v122
  let main_cst_10 : FVec F S_ .f32 := constant S_ .f32 0x3ECF817B#32
  let main_v124 : FVec F S8x20x33600 .f32 := broadcastInDim S8x20x33600 ![] bcast_S_S8x20x33600 main_cst_10
  let main_v125 : FVec F S8x20x33600 .f32 := mulf main_v124 main_v123
  let main_v126 : FVec F S8x20x33600 .f32 := subf main_v125 main_v75
  let main_cst_11 : FVec F S_ .f32 := constant S_ .f32 0x3F800001#32
  let main_v127 : FVec F S8x20x33600 .f32 := broadcastInDim S8x20x33600 ![] bcast_S_S8x20x33600 main_cst_11
  let main_v128 : FVec F S8x20x33600 .f32 := addf main_v126 main_v127
  let main_v129 : FVec F S8x20x33600 .f32 := Host.divf main_v125 main_v128
  let main_v130 : FVec F S8x20x33600 .f32 := Host.divf main_v111 main_v94
  fn_part6 (F := F) main_arg0 main_arg1 main_arg2 main_v75 main_v125 main_v129 main_v130

def fn_part4 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) (main_v44 : FVec F S8x1x33600 .f32) (main_v45 : FVec F S8x1x33600 .f32) (main_v46 : FVec F S8x20x1 .f32) (main_v47 : FVec F S8x20x1 .f32) (main_v75 : FVec F S8x20x33600 .f32) (main_v82 : FVec F S8x20x33600 .f32) (main_v85 : FVec F S8x20x33600 .f32) (main_v88 : FVec F S8x20x33600 .f32) : IVec S8x64x33600 1 × IVec S8x1x33600 1 × IVec S8x20x4 1 × IVec S8x20 1 × IVec S8x20x10 1 :=
  let main_v89 : FVec F S8x20x33600 .f32 := subf main_v85 main_v88
  let main_v90 : FVec F S8x20x33600 .f32 := mulf main_v82 main_v82
  let main_v91 : FVec F S8x20x33600 .f32 := mulf main_v89 main_v89
  let main_v92 : FVec F S8x20x33600 .f32 := addf main_v90 main_v91
  let main_cst_6 : FVec F S_ .f32 := constant S_ .f32 0x33D6BF95#32
  let main_v93 : FVec F S8x20x33600 .f32 := broadcastInDim S8x20x33600 ![] bcast_S_S8x20x33600 main_cst_6
  let main_v94 : FVec F S8x20x33600 .f32 := addf main_v92 main_v93
  let main_v95 : FVec F S8x20x1 .f32 := addf main_v34 main_v40
  let main_v96 : FVec F S8x20x33600 .f32 := broadcastInDim S8x20x33600 ![0, 1, 2] bcast_S8x20x1_S8x20x33600_0_1_2 main_v95
  let main_v97 : FVec F S8x20x33600 .f32 := broadcastInDim S8x20x33600 ![0, 1, 2] bcast_S8x1x33600_S8x20x33600_0_1_2 main_v28
  let main_v98 : FVec F S8x20x33600 .f32 := subf main_v96 main_v97
  let main_v99 : FVec F S8x20x33600 .f32 := broadcastInDim S8x20x33600 ![0, 1, 2] bcast_S8x1x33600_S8x20x33600_0_1_2 main_v30
  let main_v100 : FVec F S8x20x33600 .f32 := subf main_v98 main_v99
  let main_v101 : FVec F S8x20x33600 .f32 := mulf main_v100 main_v100
  let main_v102 : FVec F S8x20x1 .f32 := addf main_v37 main_v43
  let main_v103 : FVec F S8x20x33600 .f32 := broadcastInDim S8x20x33600 ![0, 1, 2] bcast_S8x20x1_S8x20x33600_0_1_2 main_v102
  let main_v104 : FVec F S8x20x33600 .f32 := broadcastInDim S8x20x33600 ![0, 1, 2] bcast_S8x1x33600_S8x20x33600_0_1_2 main_v29
  let main_v105 : FVec F S8x20x33600 .f32 := subf main_v103 main_v104
  let main_v106 : FVec F S8x20x33600 .f32 := broadcastInDim S8x20x33600 ![0, 1, 2] bcast_S8x1x33600_S8x20x33600_0_1_2 main_v31
  let main_v107 : FVec F S8x20x33600 .f32 := subf main_v105 main_v106
  let main_v108 : FVec F S8x20x33600 .f32 := mulf main_v107 main_v107
  let main_v109 : FVec F S8x20x33600 .f32 := addf main_v101 main_v108
  let main_cst_7 : FVec F S_ .f32 := constant S_ .f32 0x40800000#32
  let main_v110 : FVec F S8x20x33600 .f32 := broadcastInDim S8x20x33600 ![] bcast_S_S8x20x33600 main_cst_7
  fn_part5 (F := F) main_arg0 main_arg1 main_arg2 main_v44 main_v45 main_v46 main_v47 main_v75 main_v94 main_v109 main_v110

def fn_part3 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) (main_v44 : FVec F S8x1x33600 .f32) (main_v45 : FVec F S8x1x33600 .f32) (main_v46 : FVec F S8x20x1 .f32) (main_v47 : FVec F S8x20x1 .f32) (main_v56 : FVec F S8x20x33600 .f32) (main_v65 : FVec F S8x20x33600 .f32) : IVec S8x64x33600 1 × IVec S8x1x33600 1 × IVec S8x20x4 1 × IVec S8x20 1 × IVec S8x20x10 1 :=
  let main_v66 : FVec F S8x20x33600 .f32 := mulf main_v56 main_v65
  let main_v67 : FVec F S8x1x33600 .f32 := mulf main_v44 main_v45
  let main_v68 : FVec F S8x20x1 .f32 := mulf main_v46 main_v47
  let main_v69 : FVec F S8x20x33600 .f32 := broadcastInDim S8x20x33600 ![0, 1, 2] bcast_S8x1x33600_S8x20x33600_0_1_2 main_v67
  let main_v70 : FVec F S8x20x33600 .f32 := broadcastInDim S8x20x33600 ![0, 1, 2] bcast_S8x20x1_S8x20x33600_0_1_2 main_v68
  let main_v71 : FVec F S8x20x33600 .f32 := addf main_v69 main_v70
  let main_v72 : FVec F S8x20x33600 .f32 := subf main_v71 main_v66
  let main_cst_5 : FVec F S_ .f32 := constant S_ .f32 0x33D6BF95#32
  let main_v73 : FVec F S8x20x33600 .f32 := broadcastInDim S8x20x33600 ![] bcast_S_S8x20x33600 main_cst_5
  let main_v74 : FVec F S8x20x33600 .f32 := addf main_v72 main_v73
  let main_v75 : FVec F S8x20x33600 .f32 := Host.divf main_v66 main_v74
  let main_v76 : FVec F S8x20x33600 .f32 := broadcastInDim S8x20x33600 ![0, 1, 2] bcast_S8x1x33600_S8x20x33600_0_1_2 main_v30
  let main_v77 : FVec F S8x20x33600 .f32 := broadcastInDim S8x20x33600 ![0, 1, 2] bcast_S8x20x1_S8x20x33600_0_1_2 main_v40
  let main_v78 : FVec F S8x20x33600 .f32 := maximumf main_v76 main_v77
  let main_v79 : FVec F S8x20x33600 .f32 := broadcastInDim S8x20x33600 ![0, 1, 2] bcast_S8x1x33600_S8x20x33600_0_1_2 main_v28
  let main_v80 : FVec F S8x20x33600 .f32 := broadcastInDim S8x20x33600 ![0, 1, 2] bcast_S8x20x1_S8x20x33600_0_1_2 main_v34
  let main_v81 : FVec F S8x20x33600 .f32 := minimumf main_v79 main_v80
  let main_v82 : FVec F S8x20x33600 .f32 := subf main_v78 main_v81
  let main_v83 : FVec F S8x20x33600 .f32 := broadcastInDim S8x20x33600 ![0, 1, 2] bcast_S8x1x33600_S8x20x33600_0_1_2 main_v31
  let main_v84 : FVec F S8x20x33600 .f32 := broadcastInDim S8x20x33600 ![0, 1, 2] bcast_S8x20x1_S8x20x33600_0_1_2 main_v43
  let main_v85 : FVec F S8x20x33600 .f32 := maximumf main_v83 main_v84
  let main_v86 : FVec F S8x20x33600 .f32 := broadcastInDim S8x20x33600 ![0, 1, 2] bcast_S8x1x33600_S8x20x33600_0_1_2 main_v29
  let main_v87 : FVec F S8x20x33600 .f32 := broadcastInDim S8x20x33600 ![0, 1, 2] bcast_S8x20x1_S8x20x33600_0_1_2 main_v37
  let main_v88 : FVec F S8x20x33600 .f32 := minimumf main_v86 main_v87
  fn_part4 (F := F) main_arg0 main_arg1 main_arg2 main_v28 main_v29 main_v30 main_v31 main_v34 main_v37 main_v40 main_v43 main_v44 main_v45 main_v46 main_v47 main_v75 main_v82 main_v85 main_v88

def fn_part2 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) : IVec S8x64x33600 1 × IVec S8x1x33600 1 × IVec S8x20x4 1 × IVec S8x20 1 × IVec S8x20x10 1 :=
  let main_v44 : FVec F S8x1x33600 .f32 := subf main_v30 main_v28
  let main_v45 : FVec F S8x1x33600 .f32 := subf main_v31 main_v29
  let main_v46 : FVec F S8x20x1 .f32 := subf main_v40 main_v34
  let main_v47 : FVec F S8x20x1 .f32 := subf main_v43 main_v37
  let main_v48 : FVec F S8x20x33600 .f32 := broadcastInDim S8x20x33600 ![0, 1, 2] bcast_S8x1x33600_S8x20x33600_0_1_2 main_v30
  let main_v49 : FVec F S8x20x33600 .f32 := broadcastInDim S8x20x33600 ![0, 1, 2] bcast_S8x20x1_S8x20x33600_0_1_2 main_v40
  let main_v50 : FVec F S8x20x33600 .f32 := minimumf main_v48 main_v49
  let main_v51 : FVec F S8x20x33600 .f32 := broadcastInDim S8x20x33600 ![0, 1, 2] bcast_S8x1x33600_S8x20x33600_0_1_2 main_v28
  let main_v52 : FVec F S8x20x33600 .f32 := broadcastInDim S8x20x33600 ![0, 1, 2] bcast_S8x20x1_S8x20x33600_0_1_2 main_v34
  let main_v53 : FVec F S8x20x33600 .f32 := maximumf main_v51 main_v52
  let main_v54 : FVec F S8x20x33600 .f32 := subf main_v50 main_v53
  let main_cst_3 : FVec F S_ .f32 := constant S_ .f32 0x00000000#32
  let main_v55 : FVec F S8x20x33600 .f32 := broadcastInDim S8x20x33600 ![] bcast_S_S8x20x33600 main_cst_3
  let main_v56 : FVec F S8x20x33600 .f32 := maximumf main_v54 main_v55
  let main_v57 : FVec F S8x20x33600 .f32 := broadcastInDim S8x20x33600 ![0, 1, 2] bcast_S8x1x33600_S8x20x33600_0_1_2 main_v31
  let main_v58 : FVec F S8x20x33600 .f32 := broadcastInDim S8x20x33600 ![0, 1, 2] bcast_S8x20x1_S8x20x33600_0_1_2 main_v43
  let main_v59 : FVec F S8x20x33600 .f32 := minimumf main_v57 main_v58
  let main_v60 : FVec F S8x20x33600 .f32 := broadcastInDim S8x20x33600 ![0, 1, 2] bcast_S8x1x33600_S8x20x33600_0_1_2 main_v29
  let main_v61 : FVec F S8x20x33600 .f32 := broadcastInDim S8x20x33600 ![0, 1, 2] bcast_S8x20x1_S8x20x33600_0_1_2 main_v37
  let main_v62 : FVec F S8x20x33600 .f32 := maximumf main_v60 main_v61
  let main_v63 : FVec F S8x20x33600 .f32 := subf main_v59 main_v62
  let main_cst_4 : FVec F S_ .f32 := constant S_ .f32 0x00000000#32
  let main_v64 : FVec F S8x20x33600 .f32 := broadcastInDim S8x20x33600 ![] bcast_S_S8x20x33600 main_cst_4
  let main_v65 : FVec F S8x20x33600 .f32 := maximumf main_v63 main_v64
  fn_part3 (F := F) main_arg0 main_arg1 main_arg2 main_v28 main_v29 main_v30 main_v31 main_v34 main_v37 main_v40 main_v43 main_v44 main_v45 main_v46 main_v47 main_v56 main_v65

def fn_part1 {F : FTy → Type} [FloatOps F] (main_arg0 : FVec F S8x64x33600 .f32) (main_arg1 : FVec F S8x1x33600 .f32) (main_arg2 : FVec F S8x20x4 .f32) (main_v17 : FVec F S8x4x33600 .f32) (main_v19 : FVec F S8x33600 .f32) : IVec S8x64x33600 1 × IVec S8x1x33600 1 × IVec S8x20x4 1 × IVec S8x20 1 × IVec S8x20x10 1 :=
  let main_v20 : FVec F S8x33600 .f32 := Host.negf main_v19
  let main_v21 : FVec F S8x1x33600 .f32 := (extractStridedSlice S8x1x33600 ![0, 1, 0] · slices_S8x4x33600_S8x1x33600_0_1_0) main_v17
  let main_v22 : FVec F S8x33600 .f32 := shapeCast S8x33600 main_v21 shapeCasts_S8x1x33600_S8x33600
  let main_v23 : FVec F S8x33600 .f32 := Host.negf main_v22
  let main_v24 : FVec F S8x1x33600 .f32 := (extractStridedSlice S8x1x33600 ![0, 2, 0] · slices_S8x4x33600_S8x1x33600_0_2_0) main_v17
  let main_v25 : FVec F S8x33600 .f32 := shapeCast S8x33600 main_v24 shapeCasts_S8x1x33600_S8x33600
  let main_v26 : FVec F S8x1x33600 .f32 := (extractStridedSlice S8x1x33600 ![0, 3, 0] · slices_S8x4x33600_S8x1x33600_0_3_0) main_v17
  let main_v27 : FVec F S8x33600 .f32 := shapeCast S8x33600 main_v26 shapeCasts_S8x1x33600_S8x33600
  let main_v28 : FVec F S8x1x33600 .f32 := broadcastInDim S8x1x33600 ![0, 2] bcast_S8x33600_S8x1x33600_0_2 main_v20
  let main_v29 : FVec F S8x1x33600 .f32 := broadcastInDim S8x1x33600 ![0, 2] bcast_S8x33600_S8x1x33600_0_2 main_v23
  let main_v30 : FVec F S8x1x33600 .f32 := broadcastInDim S8x1x33600 ![0, 2] bcast_S8x33600_S8x1x33600_0_2 main_v25
  let main_v31 : FVec F S8x1x33600 .f32 := broadcastInDim S8x1x33600 ![0, 2] bcast_S8x33600_S8x1x33600_0_2 main_v27
  let main_v32 : FVec F S8x20x1 .f32 := (extractStridedSlice S8x20x1 ![0, 0, 0] · slices_S8x20x4_S8x20x1_0_0_0) main_arg2
  let main_v33 : FVec F S8x20 .f32 := shapeCast S8x20 main_v32 shapeCasts_S8x20x1_S8x20
  let main_v34 : FVec F S8x20x1 .f32 := broadcastInDim S8x20x1 ![0, 1] bcast_S8x20_S8x20x1_0_1 main_v33
  let main_v35 : FVec F S8x20x1 .f32 := (extractStridedSlice S8x20x1 ![0, 0, 1] · slices_S8x20x4_S8x20x1_0_0_1) main_arg2
  let main_v36 : FVec F S8x20 .f32 := shapeCast S8x20 main_v35 shapeCasts_S8x20x1_S8x20
  let main_v37 : FVec F S8x20x1 .f32 := broadcastInDim S8x20x1 ![0, 1] bcast_S8x20_S8x20x1_0_1 main_v36
  let main_v38 : FVec F S8x20x1 .f32 := (extractStridedSlice S8x20x1 ![0, 0, 2] · slices_S8x20x4_S8x20x1_0_0_2) main_arg2
  let main_v39 : FVec F S8x20 .f32 := shapeCast S8x20 main_v38 shapeCasts_S8x20x1_S8x20
  let main_v40 : FVec F S8x20x1 .f32 := broadcastInDim S8x20x1 ![0, 1] bcast_S8x20_S8x20x1_0_1 main_v39
  let main_v41 : FVec F S8x20x1 .f32 := (extractStridedSlice S8x20x1 ![0, 0, 3] · slices_S8x20x4_S8x20x1_0_0_3) main_arg2
  let main_v42 : FVec F S8x20 .f32 := shapeCast S8x20 main_v41 shapeCasts_S8x20x1_S8x20
  let main_v43 : FVec F S8x20x1 .f32 := broadcastInDim S8x20x1 ![0, 1] bcast_S8x20_S8x20x1_0_1 main_v42
  fn_part2 (F := F) main_arg0 main_arg1 main_arg2 main_v28 main_v29 main_v30 main_v31 main_v34 main_v37 main_v40 main_v43

def fn {F : FTy → Type} [FloatOps F] (main_arg0 : FVec F S8x64x33600 .f32) (main_arg1 : FVec F S8x1x33600 .f32) (main_arg2 : FVec F S8x20x4 .f32) : IVec S8x64x33600 1 × IVec S8x1x33600 1 × IVec S8x20x4 1 × IVec S8x20 1 × IVec S8x20x10 1 :=
  let main_v0 : FVec F S8x4x16x33600 .f32 := shapeCast S8x4x16x33600 main_arg0 shapeCasts_S8x64x33600_S8x4x16x33600
  let main_cst : FVec F S_ .f32 := constant S_ .f32 0xFF800000#32
  let main_v1 : FVec F S8x4x33600 .f32 := (fun x v => Host.reduce FloatOps.maximumf x v reducesTo_S8x4x16x33600_S8x4x33600_d2 h_S_) main_v0 main_cst
  let main_cst_0 : FVec F S_ .f32 := constant S_ .f32 0xFF800000#32
  let main_v2 : FVec F S8x4x33600 .f32 := broadcastInDim S8x4x33600 ![] bcast_S_S8x4x33600 main_cst_0
  let main_v3 : FVec F S8x4x33600 .f32 := maximumf main_v2 main_v1
  let main_v4 : FVec F S8x4x1x33600 .f32 := broadcastInDim S8x4x1x33600 ![0, 1, 3] bcast_S8x4x33600_S8x4x1x33600_0_1_3 main_v3
  let main_v5 : FVec F S8x4x16x33600 .f32 := broadcastInDim S8x4x16x33600 ![0, 1, 2, 3] bcast_S8x4x1x33600_S8x4x16x33600_0_1_2_3 main_v4
  let main_v6 : FVec F S8x4x16x33600 .f32 := subf main_v0 main_v5
  let main_v7 : FVec F S8x4x16x33600 .f32 := Host.exp main_v6
  let main_cst_1 : FVec F S_ .f32 := constant S_ .f32 0x00000000#32
  let main_v8 : FVec F S8x4x33600 .f32 := (fun x v => Host.reduceAdd x v reducesTo_S8x4x16x33600_S8x4x33600_d2 h_S_) main_v7 main_cst_1
  let main_v9 : FVec F S8x4x1x33600 .f32 := broadcastInDim S8x4x1x33600 ![0, 1, 3] bcast_S8x4x33600_S8x4x1x33600_0_1_3 main_v8
  let main_v10 : FVec F S8x4x16x33600 .f32 := broadcastInDim S8x4x16x33600 ![0, 1, 2, 3] bcast_S8x4x1x33600_S8x4x16x33600_0_1_2_3 main_v9
  let main_v11 : FVec F S8x4x16x33600 .f32 := Host.divf main_v7 main_v10
  let main_v12 : IVec S16 32 := iotaInDim S16 32 0
  let main_v13 : FVec F S16 .f32 := sitofp .f32 main_v12
  let main_v14 : FVec F S1x1x16x1 .f32 := broadcastInDim S1x1x16x1 ![2] bcast_S16_S1x1x16x1_2 main_v13
  let main_v15 : FVec F S8x4x16x33600 .f32 := broadcastInDim S8x4x16x33600 ![0, 1, 2, 3] bcast_S1x1x16x1_S8x4x16x33600_0_1_2_3 main_v14
  let main_v16 : FVec F S8x4x16x33600 .f32 := mulf main_v11 main_v15
  let main_cst_2 : FVec F S_ .f32 := constant S_ .f32 0x00000000#32
  let main_v17 : FVec F S8x4x33600 .f32 := (fun x v => Host.reduceAdd x v reducesTo_S8x4x16x33600_S8x4x33600_d2 h_S_) main_v16 main_cst_2
  let main_v18 : FVec F S8x1x33600 .f32 := (extractStridedSlice S8x1x33600 ![0, 0, 0] · slices_S8x4x33600_S8x1x33600_0_0_0) main_v17
  let main_v19 : FVec F S8x33600 .f32 := shapeCast S8x33600 main_v18 shapeCasts_S8x1x33600_S8x33600
  fn_part1 (F := F) main_arg0 main_arg1 main_arg2 main_v17 main_v19
-- ==== Pre_untied_poly.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x4x16x33600 : Shape := ⟨4, ![8, 4, 16, 33600]⟩
abbrev S_ : Shape := ⟨0, ![]⟩
abbrev S8x4x33600 : Shape := ⟨3, ![8, 4, 33600]⟩
abbrev S8x4x1x33600 : Shape := ⟨4, ![8, 4, 1, 33600]⟩
abbrev S16 : Shape := ⟨1, ![16]⟩
abbrev S1x1x16x1 : Shape := ⟨4, ![1, 1, 16, 1]⟩
abbrev S8x33600 : Shape := ⟨2, ![8, 33600]⟩
abbrev S8x20x1 : Shape := ⟨3, ![8, 20, 1]⟩
abbrev S8x20 : Shape := ⟨2, ![8, 20]⟩
abbrev S8x20x33600 : Shape := ⟨3, ![8, 20, 33600]⟩
abbrev S8x20x11 : Shape := ⟨3, ![8, 20, 11]⟩
abbrev S8x20x10 : Shape := ⟨3, ![8, 20, 10]⟩

class Facts : Prop where
  shapeCasts_S8x64x33600_S8x4x16x33600 : S8x64x33600.ShapeCasts S8x4x16x33600
  reducesTo_S8x4x16x33600_S8x4x33600_d2 : S8x4x16x33600.ReducesTo [2] S8x4x33600
  h_S_ : 0 < S_.numel
  bcast_S_S8x4x33600 : S_.BroadcastsInDim S8x4x33600 (![] : Fin 0 → Fin S8x4x33600.rank)
  bcast_S8x4x33600_S8x4x1x33600_0_1_3 : S8x4x33600.BroadcastsInDim S8x4x1x33600 (![0, 1, 3] : Fin 3 → Fin S8x4x1x33600.rank)
  bcast_S8x4x1x33600_S8x4x16x33600_0_1_2_3 : S8x4x1x33600.BroadcastsInDim S8x4x16x33600 (![0, 1, 2, 3] : Fin 4 → Fin S8x4x16x33600.rank)
  bcast_S16_S1x1x16x1_2 : S16.BroadcastsInDim S1x1x16x1 (![2] : Fin 1 → Fin S1x1x16x1.rank)
  bcast_S1x1x16x1_S8x4x16x33600_0_1_2_3 : S1x1x16x1.BroadcastsInDim S8x4x16x33600 (![0, 1, 2, 3] : Fin 4 → Fin S8x4x16x33600.rank)
  slices_S8x4x33600_S8x1x33600_0_0_0 : S8x4x33600.Slices ![0, 0, 0] S8x1x33600
  shapeCasts_S8x1x33600_S8x33600 : S8x1x33600.ShapeCasts S8x33600
  slices_S8x4x33600_S8x1x33600_0_1_0 : S8x4x33600.Slices ![0, 1, 0] S8x1x33600
  slices_S8x4x33600_S8x1x33600_0_2_0 : S8x4x33600.Slices ![0, 2, 0] S8x1x33600
  slices_S8x4x33600_S8x1x33600_0_3_0 : S8x4x33600.Slices ![0, 3, 0] S8x1x33600
  bcast_S8x33600_S8x1x33600_0_2 : S8x33600.BroadcastsInDim S8x1x33600 (![0, 2] : Fin 2 → Fin S8x1x33600.rank)
  slices_S8x20x4_S8x20x1_0_0_0 : S8x20x4.Slices ![0, 0, 0] S8x20x1
  shapeCasts_S8x20x1_S8x20 : S8x20x1.ShapeCasts S8x20
  bcast_S8x20_S8x20x1_0_1 : S8x20.BroadcastsInDim S8x20x1 (![0, 1] : Fin 2 → Fin S8x20x1.rank)
  slices_S8x20x4_S8x20x1_0_0_1 : S8x20x4.Slices ![0, 0, 1] S8x20x1
  slices_S8x20x4_S8x20x1_0_0_2 : S8x20x4.Slices ![0, 0, 2] S8x20x1
  slices_S8x20x4_S8x20x1_0_0_3 : S8x20x4.Slices ![0, 0, 3] S8x20x1
  bcast_S8x1x33600_S8x20x33600_0_1_2 : S8x1x33600.BroadcastsInDim S8x20x33600 (![0, 1, 2] : Fin 3 → Fin S8x20x33600.rank)
  bcast_S8x20x1_S8x20x33600_0_1_2 : S8x20x1.BroadcastsInDim S8x20x33600 (![0, 1, 2] : Fin 3 → Fin S8x20x33600.rank)
  bcast_S_S8x20x33600 : S_.BroadcastsInDim S8x20x33600 (![] : Fin 0 → Fin S8x20x33600.rank)
  bcast_S_S8x20x1 : S_.BroadcastsInDim S8x20x1 (![] : Fin 0 → Fin S8x20x1.rank)
  bcast_S_S8x1x33600 : S_.BroadcastsInDim S8x1x33600 (![] : Fin 0 → Fin S8x1x33600.rank)
  sliceFits_S8x20x33600_S8x20x11 : S8x20x33600.Slices (fun _ => 0) S8x20x11
  bcast_S_S8x64x33600 : S_.BroadcastsInDim S8x64x33600 (![] : Fin 0 → Fin S8x64x33600.rank)
  bcast_S_S8x20x4 : S_.BroadcastsInDim S8x20x4 (![] : Fin 0 → Fin S8x20x4.rank)
  slices_S8x20x11_S8x20x10_0_0_1 : S8x20x11.Slices ![0, 0, 1] S8x20x10
  slices_S8x20x11_S8x20x10_0_0_0 : S8x20x11.Slices ![0, 0, 0] S8x20x10
  bcast_S_S8x20x10 : S_.BroadcastsInDim S8x20x10 (![] : Fin 0 → Fin S8x20x10.rank)

variable [Facts]

def fn_where {F : FTy → Type} [FloatOps F] (arg0 : IVec S8x20x1 1) (arg1 : FVec F S8x20x1 .f32) (arg2 : FVec F S8x20x1 .f32) : FVec F S8x20x1 .f32 :=
  let v0 : FVec F S8x20x1 .f32 := select arg0 arg1 arg2
  v0

def fn_where_0 {F : FTy → Type} [FloatOps F] (arg0 : IVec S8x1x33600 1) (arg1 : FVec F S8x1x33600 .f32) (arg2 : FVec F S8x1x33600 .f32) : FVec F S8x1x33600 .f32 :=
  let v0 : FVec F S8x1x33600 .f32 := select arg0 arg1 arg2
  v0

def fn_part14 {F : FTy → Type} [FloatOps F] (main_arg2 : FVec F S8x20x4 .f32) (main_values : FVec F S8x20x11 .f32) (main_v282 : IVec S8x64x33600 1) (main_v283 : FVec F S8x1x33600 .f32) : IVec S8x64x33600 1 × IVec S8x1x33600 1 × IVec S8x20x4 1 × IVec S8x20 1 × IVec S8x20x10 1 :=
  let main_cst_49 : FVec F S_ .f32 := constant S_ .f32 0x7F800000#32
  let main_v284 : FVec F S8x1x33600 .f32 := broadcastInDim S8x1x33600 ![] bcast_S_S8x1x33600 main_cst_49
  let main_v285 : IVec S8x1x33600 1 := cmpf .olt main_v283 main_v284
  let main_v286 : FVec F S8x20x4 .f32 := Host.absf main_arg2
  let main_cst_50 : FVec F S_ .f32 := constant S_ .f32 0x7F800000#32
  let main_v287 : FVec F S8x20x4 .f32 := broadcastInDim S8x20x4 ![] bcast_S_S8x20x4 main_cst_50
  let main_v288 : IVec S8x20x4 1 := cmpf .olt main_v286 main_v287
  let main_v289 : FVec F S8x20x1 .f32 := (extractStridedSlice S8x20x1 ![0, 0, 1] · slices_S8x20x4_S8x20x1_0_0_1) main_arg2
  let main_v290 : FVec F S8x20 .f32 := shapeCast S8x20 main_v289 shapeCasts_S8x20x1_S8x20
  let main_v291 : FVec F S8x20x1 .f32 := (extractStridedSlice S8x20x1 ![0, 0, 3] · slices_S8x20x4_S8x20x1_0_0_3) main_arg2
  let main_v292 : FVec F S8x20 .f32 := shapeCast S8x20 main_v291 shapeCasts_S8x20x1_S8x20
  let main_v293 : IVec S8x20 1 := cmpf .ole main_v290 main_v292
  let main_v294 : FVec F S8x20x10 .f32 := (extractStridedSlice S8x20x10 ![0, 0, 1] · slices_S8x20x11_S8x20x10_0_0_1) main_values
  let main_v295 : FVec F S8x20x10 .f32 := (extractStridedSlice S8x20x10 ![0, 0, 0] · slices_S8x20x11_S8x20x10_0_0_0) main_values
  let main_v296 : IVec S8x20x10 1 := cmpf .olt main_v294 main_v295
  let main_v297 : FVec F S8x20x10 .f32 := (extractStridedSlice S8x20x10 ![0, 0, 0] · slices_S8x20x11_S8x20x10_0_0_0) main_values
  let main_cst_51 : FVec F S_ .f32 := constant S_ .f32 0x00000000#32
  let main_v298 : FVec F S8x20x10 .f32 := broadcastInDim S8x20x10 ![] bcast_S_S8x20x10 main_cst_51
  let main_v299 : IVec S8x20x10 1 := cmpf .ole main_v297 main_v298
  let main_v300 : IVec S8x20x10 1 := ori main_v296 main_v299
  (main_v282, main_v285, main_v288, main_v293, main_v300)

def fn_part13 {F : FTy → Type} [FloatOps F] (main_arg0 : FVec F S8x64x33600 .f32) (main_arg1 : FVec F S8x1x33600 .f32) (main_arg2 : FVec F S8x20x4 .f32) (main_v75 : FVec F S8x20x33600 .f32) (main_v94 : FVec F S8x20x33600 .f32) (main_v111 : FVec F S8x20x33600 .f32) (main_v188 : FVec F S8x20x1 .f32) (main_v260 : FVec F S8x1x33600 .f32) (main_v262 : IVec S8x1x33600 1) (main_v264 : FVec F S8x1x33600 .f32) : IVec S8x64x33600 1 × IVec S8x1x33600 1 × IVec S8x20x4 1 × IVec S8x20 1 × IVec S8x20x10 1 :=
  let main_v265 : FVec F S8x1x33600 .f32 := fn_where_0 (F := F) main_v262 main_v264 main_v260
  let main_v266 : FVec F S8x20x33600 .f32 := broadcastInDim S8x20x33600 ![0, 1, 2] bcast_S8x20x1_S8x20x33600_0_1_2 main_v188
  let main_v267 : FVec F S8x20x33600 .f32 := broadcastInDim S8x20x33600 ![0, 1, 2] bcast_S8x1x33600_S8x20x33600_0_1_2 main_v265
  let main_v268 : FVec F S8x20x33600 .f32 := subf main_v266 main_v267
  let main_v269 : FVec F S8x20x33600 .f32 := mulf main_v268 main_v268
  let main_cst_46 : FVec F S_ .f32 := constant S_ .f32 0x3ECF817B#32
  let main_v270 : FVec F S8x20x33600 .f32 := broadcastInDim S8x20x33600 ![] bcast_S_S8x20x33600 main_cst_46
  let main_v271 : FVec F S8x20x33600 .f32 := mulf main_v270 main_v269
  let main_v272 : FVec F S8x20x33600 .f32 := subf main_v271 main_v75
  let main_cst_47 : FVec F S_ .f32 := constant S_ .f32 0x3F800001#32
  let main_v273 : FVec F S8x20x33600 .f32 := broadcastInDim S8x20x33600 ![] bcast_S_S8x20x33600 main_cst_47
  let main_v274 : FVec F S8x20x33600 .f32 := addf main_v272 main_v273
  let main_v275 : FVec F S8x20x33600 .f32 := Host.divf main_v271 main_v274
  let main_v276 : FVec F S8x20x33600 .f32 := Host.divf main_v111 main_v94
  let main_v277 : FVec F S8x20x33600 .f32 := mulf main_v271 main_v275
  let main_v278 : FVec F S8x20x33600 .f32 := addf main_v276 main_v277
  let main_v279 : FVec F S8x20x33600 .f32 := subf main_v75 main_v278
  let main_values : FVec F S8x20x11 .f32 := (fun x => (Host.topK S8x20x11 2 (FloatOps.cmpfTotal .gt) x sliceFits_S8x20x33600_S8x20x11).1) main_v279
  let main_indices : IVec S8x20x11 32 := (fun x => (Host.topK S8x20x11 2 (FloatOps.cmpfTotal .gt) x sliceFits_S8x20x33600_S8x20x11).2) main_v279
  let main_v280 : FVec F S8x64x33600 .f32 := Host.absf main_arg0
  let main_cst_48 : FVec F S_ .f32 := constant S_ .f32 0x7F800000#32
  let main_v281 : FVec F S8x64x33600 .f32 := broadcastInDim S8x64x33600 ![] bcast_S_S8x64x33600 main_cst_48
  let main_v282 : IVec S8x64x33600 1 := cmpf .olt main_v280 main_v281
  let main_v283 : FVec F S8x1x33600 .f32 := Host.absf main_arg1
  fn_part14 (F := F) main_arg2 main_values main_v282 main_v283

def fn_part12 {F : FTy → Type} [FloatOps F] (main_arg0 : FVec F S8x64x33600 .f32) (main_arg1 : FVec F S8x1x33600 .f32) (main_arg2 : FVec F S8x20x4 .f32) (main_v75 : FVec F S8x20x33600 .f32) (main_v94 : FVec F S8x20x33600 .f32) (main_v111 : FVec F S8x20x33600 .f32) (main_v188 : FVec F S8x20x1 .f32) (main_v191 : FVec F S8x1x33600 .f32) (main_v198 : FVec F S8x1x33600 .f32) (main_v242 : FVec F S8x1x33600 .f32) (main_v245 : FVec F S8x1x33600 .f32) : IVec S8x64x33600 1 × IVec S8x1x33600 1 × IVec S8x20x4 1 × IVec S8x20 1 × IVec S8x20x10 1 :=
  let main_v246 : FVec F S8x1x33600 .f32 := mulf main_v198 main_v198
  let main_v247 : FVec F S8x1x33600 .f32 := mulf main_v242 main_v246
  let main_cst_41 : FVec F S_ .f32 := constant S_ .f32 0x3C3E17AC#32
  let main_v248 : FVec F S8x1x33600 .f32 := broadcastInDim S8x1x33600 ![] bcast_S_S8x1x33600 main_cst_41
  let main_v249 : FVec F S8x1x33600 .f32 := mulf main_v248 main_v247
  let main_v250 : FVec F S8x1x33600 .f32 := addf main_v245 main_v249
  let main_v251 : FVec F S8x1x33600 .f32 := mulf main_v198 main_v198
  let main_v252 : FVec F S8x1x33600 .f32 := mulf main_v247 main_v251
  let main_cst_42 : FVec F S_ .f32 := constant S_ .f32 0xBB55BEA8#32
  let main_v253 : FVec F S8x1x33600 .f32 := broadcastInDim S8x1x33600 ![] bcast_S_S8x1x33600 main_cst_42
  let main_v254 : FVec F S8x1x33600 .f32 := mulf main_v253 main_v252
  let main_v255 : FVec F S8x1x33600 .f32 := addf main_v250 main_v254
  let main_v256 : FVec F S8x1x33600 .f32 := mulf main_v198 main_v198
  let main_v257 : FVec F S8x1x33600 .f32 := mulf main_v252 main_v256
  let main_cst_43 : FVec F S_ .f32 := constant S_ .f32 0x39E187BE#32
  let main_v258 : FVec F S8x1x33600 .f32 := broadcastInDim S8x1x33600 ![] bcast_S_S8x1x33600 main_cst_43
  let main_v259 : FVec F S8x1x33600 .f32 := mulf main_v258 main_v257
  let main_v260 : FVec F S8x1x33600 .f32 := addf main_v255 main_v259
  let main_cst_44 : FVec F S_ .f32 := constant S_ .f32 0x3F800000#32
  let main_v261 : FVec F S8x1x33600 .f32 := broadcastInDim S8x1x33600 ![] bcast_S_S8x1x33600 main_cst_44
  let main_v262 : IVec S8x1x33600 1 := cmpf .ogt main_v191 main_v261
  let main_cst_45 : FVec F S_ .f32 := constant S_ .f32 0x3FC90FDB#32
  let main_v263 : FVec F S8x1x33600 .f32 := broadcastInDim S8x1x33600 ![] bcast_S_S8x1x33600 main_cst_45
  let main_v264 : FVec F S8x1x33600 .f32 := subf main_v263 main_v260
  fn_part13 (F := F) main_arg0 main_arg1 main_arg2 main_v75 main_v94 main_v111 main_v188 main_v260 main_v262 main_v264

def fn_part11 {F : FTy → Type} [FloatOps F] (main_arg0 : FVec F S8x64x33600 .f32) (main_arg1 : FVec F S8x1x33600 .f32) (main_arg2 : FVec F S8x20x4 .f32) (main_v75 : FVec F S8x20x33600 .f32) (main_v94 : FVec F S8x20x33600 .f32) (main_v111 : FVec F S8x20x33600 .f32) (main_v188 : FVec F S8x20x1 .f32) (main_v191 : FVec F S8x1x33600 .f32) (main_v198 : FVec F S8x1x33600 .f32) (main_v222 : FVec F S8x1x33600 .f32) (main_v225 : FVec F S8x1x33600 .f32) : IVec S8x64x33600 1 × IVec S8x1x33600 1 × IVec S8x20x4 1 × IVec S8x20 1 × IVec S8x20x10 1 :=
  let main_v226 : FVec F S8x1x33600 .f32 := mulf main_v198 main_v198
  let main_v227 : FVec F S8x1x33600 .f32 := mulf main_v222 main_v226
  let main_cst_37 : FVec F S_ .f32 := constant S_ .f32 0x3D99A54C#32
  let main_v228 : FVec F S8x1x33600 .f32 := broadcastInDim S8x1x33600 ![] bcast_S_S8x1x33600 main_cst_37
  let main_v229 : FVec F S8x1x33600 .f32 := mulf main_v228 main_v227
  let main_v230 : FVec F S8x1x33600 .f32 := addf main_v225 main_v229
  let main_v231 : FVec F S8x1x33600 .f32 := mulf main_v198 main_v198
  let main_v232 : FVec F S8x1x33600 .f32 := mulf main_v227 main_v231
  let main_cst_38 : FVec F S_ .f32 := constant S_ .f32 0xBD7756C5#32
  let main_v233 : FVec F S8x1x33600 .f32 := broadcastInDim S8x1x33600 ![] bcast_S_S8x1x33600 main_cst_38
  let main_v234 : FVec F S8x1x33600 .f32 := mulf main_v233 main_v232
  let main_v235 : FVec F S8x1x33600 .f32 := addf main_v230 main_v234
  let main_v236 : FVec F S8x1x33600 .f32 := mulf main_v198 main_v198
  let main_v237 : FVec F S8x1x33600 .f32 := mulf main_v232 main_v236
  let main_cst_39 : FVec F S_ .f32 := constant S_ .f32 0x3D33D37F#32
  let main_v238 : FVec F S8x1x33600 .f32 := broadcastInDim S8x1x33600 ![] bcast_S_S8x1x33600 main_cst_39
  let main_v239 : FVec F S8x1x33600 .f32 := mulf main_v238 main_v237
  let main_v240 : FVec F S8x1x33600 .f32 := addf main_v235 main_v239
  let main_v241 : FVec F S8x1x33600 .f32 := mulf main_v198 main_v198
  let main_v242 : FVec F S8x1x33600 .f32 := mulf main_v237 main_v241
  let main_cst_40 : FVec F S_ .f32 := constant S_ .f32 0xBCD7377C#32
  let main_v243 : FVec F S8x1x33600 .f32 := broadcastInDim S8x1x33600 ![] bcast_S_S8x1x33600 main_cst_40
  let main_v244 : FVec F S8x1x33600 .f32 := mulf main_v243 main_v242
  let main_v245 : FVec F S8x1x33600 .f32 := addf main_v240 main_v244
  fn_part12 (F := F) main_arg0 main_arg1 main_arg2 main_v75 main_v94 main_v111 main_v188 main_v191 main_v198 main_v242 main_v245

def fn_part10 {F : FTy → Type} [FloatOps F] (main_arg0 : FVec F S8x64x33600 .f32) (main_arg1 : FVec F S8x1x33600 .f32) (main_arg2 : FVec F S8x20x4 .f32) (main_v75 : FVec F S8x20x33600 .f32) (main_v94 : FVec F S8x20x33600 .f32) (main_v111 : FVec F S8x20x33600 .f32) (main_v188 : FVec F S8x20x1 .f32) (main_v191 : FVec F S8x1x33600 .f32) (main_v198 : FVec F S8x1x33600 .f32) (main_v202 : FVec F S8x1x33600 .f32) (main_v205 : FVec F S8x1x33600 .f32) : IVec S8x64x33600 1 × IVec S8x1x33600 1 × IVec S8x20x4 1 × IVec S8x20 1 × IVec S8x20x10 1 :=
  let main_v206 : FVec F S8x1x33600 .f32 := mulf main_v198 main_v198
  let main_v207 : FVec F S8x1x33600 .f32 := mulf main_v202 main_v206
  let main_cst_33 : FVec F S_ .f32 := constant S_ .f32 0x3E4CCCC0#32
  let main_v208 : FVec F S8x1x33600 .f32 := broadcastInDim S8x1x33600 ![] bcast_S_S8x1x33600 main_cst_33
  let main_v209 : FVec F S8x1x33600 .f32 := mulf main_v208 main_v207
  let main_v210 : FVec F S8x1x33600 .f32 := addf main_v205 main_v209
  let main_v211 : FVec F S8x1x33600 .f32 := mulf main_v198 main_v198
  let main_v212 : FVec F S8x1x33600 .f32 := mulf main_v207 main_v211
  let main_cst_34 : FVec F S_ .f32 := constant S_ .f32 0xBE1247F5#32
  let main_v213 : FVec F S8x1x33600 .f32 := broadcastInDim S8x1x33600 ![] bcast_S_S8x1x33600 main_cst_34
  let main_v214 : FVec F S8x1x33600 .f32 := mulf main_v213 main_v212
  let main_v215 : FVec F S8x1x33600 .f32 := addf main_v210 main_v214
  let main_v216 : FVec F S8x1x33600 .f32 := mulf main_v198 main_v198
  let main_v217 : FVec F S8x1x33600 .f32 := mulf main_v212 main_v216
  let main_cst_35 : FVec F S_ .f32 := constant S_ .f32 0x3DE3719F#32
  let main_v218 : FVec F S8x1x33600 .f32 := broadcastInDim S8x1x33600 ![] bcast_S_S8x1x33600 main_cst_35
  let main_v219 : FVec F S8x1x33600 .f32 := mulf main_v218 main_v217
  let main_v220 : FVec F S8x1x33600 .f32 := addf main_v215 main_v219
  let main_v221 : FVec F S8x1x33600 .f32 := mulf main_v198 main_v198
  let main_v222 : FVec F S8x1x33600 .f32 := mulf main_v217 main_v221
  let main_cst_36 : FVec F S_ .f32 := constant S_ .f32 0xBDB95E07#32
  let main_v223 : FVec F S8x1x33600 .f32 := broadcastInDim S8x1x33600 ![] bcast_S_S8x1x33600 main_cst_36
  let main_v224 : FVec F S8x1x33600 .f32 := mulf main_v223 main_v222
  let main_v225 : FVec F S8x1x33600 .f32 := addf main_v220 main_v224
  fn_part11 (F := F) main_arg0 main_arg1 main_arg2 main_v75 main_v94 main_v111 main_v188 main_v191 main_v198 main_v222 main_v225

def fn_part9 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v75 : FVec F S8x20x33600 .f32) (main_v94 : FVec F S8x20x33600 .f32) (main_v111 : FVec F S8x20x33600 .f32) (main_v183 : FVec F S8x20x1 .f32) (main_v185 : IVec S8x20x1 1) (main_v187 : FVec F S8x20x1 .f32) : IVec S8x64x33600 1 × IVec S8x1x33600 1 × IVec S8x20x4 1 × IVec S8x20 1 × IVec S8x20x10 1 :=
  let main_v188 : FVec F S8x20x1 .f32 := fn_where (F := F) main_v185 main_v187 main_v183
  let main_cst_27 : FVec F S_ .f32 := constant S_ .f32 0x33D6BF95#32
  let main_v189 : FVec F S8x1x33600 .f32 := broadcastInDim S8x1x33600 ![] bcast_S_S8x1x33600 main_cst_27
  let main_v190 : FVec F S8x1x33600 .f32 := addf main_v45 main_v189
  let main_v191 : FVec F S8x1x33600 .f32 := Host.divf main_v44 main_v190
  let main_cst_28 : FVec F S_ .f32 := constant S_ .f32 0x3F800000#32
  let main_v192 : FVec F S8x1x33600 .f32 := broadcastInDim S8x1x33600 ![] bcast_S_S8x1x33600 main_cst_28
  let main_v193 : IVec S8x1x33600 1 := cmpf .ogt main_v191 main_v192
  let main_cst_29 : FVec F S_ .f32 := constant S_ .f32 0x0DA24260#32
  let main_v194 : FVec F S8x1x33600 .f32 := broadcastInDim S8x1x33600 ![] bcast_S_S8x1x33600 main_cst_29
  let main_v195 : FVec F S8x1x33600 .f32 := maximumf main_v191 main_v194
  let main_cst_30 : FVec F S_ .f32 := constant S_ .f32 0x3F800000#32
  let main_v196 : FVec F S8x1x33600 .f32 := broadcastInDim S8x1x33600 ![] bcast_S_S8x1x33600 main_cst_30
  let main_v197 : FVec F S8x1x33600 .f32 := Host.divf main_v196 main_v195
  let main_v198 : FVec F S8x1x33600 .f32 := fn_where_0 (F := F) main_v193 main_v197 main_v191
  let main_cst_31 : FVec F S_ .f32 := constant S_ .f32 0x3F800000#32
  let main_v199 : FVec F S8x1x33600 .f32 := broadcastInDim S8x1x33600 ![] bcast_S_S8x1x33600 main_cst_31
  let main_v200 : FVec F S8x1x33600 .f32 := mulf main_v199 main_v198
  let main_v201 : FVec F S8x1x33600 .f32 := mulf main_v198 main_v198
  let main_v202 : FVec F S8x1x33600 .f32 := mulf main_v198 main_v201
  let main_cst_32 : FVec F S_ .f32 := constant S_ .f32 0xBEAAAAAB#32
  let main_v203 : FVec F S8x1x33600 .f32 := broadcastInDim S8x1x33600 ![] bcast_S_S8x1x33600 main_cst_32
  let main_v204 : FVec F S8x1x33600 .f32 := mulf main_v203 main_v202
  let main_v205 : FVec F S8x1x33600 .f32 := addf main_v200 main_v204
  fn_part10 (F := F) main_arg0 main_arg1 main_arg2 main_v75 main_v94 main_v111 main_v188 main_v191 main_v198 main_v202 main_v205

def fn_part8 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v75 : FVec F S8x20x33600 .f32) (main_v94 : FVec F S8x20x33600 .f32) (main_v111 : FVec F S8x20x33600 .f32) (main_v114 : FVec F S8x20x1 .f32) (main_v121 : FVec F S8x20x1 .f32) (main_v165 : FVec F S8x20x1 .f32) (main_v168 : FVec F S8x20x1 .f32) : IVec S8x64x33600 1 × IVec S8x1x33600 1 × IVec S8x20x4 1 × IVec S8x20 1 × IVec S8x20x10 1 :=
  let main_v169 : FVec F S8x20x1 .f32 := mulf main_v121 main_v121
  let main_v170 : FVec F S8x20x1 .f32 := mulf main_v165 main_v169
  let main_cst_22 : FVec F S_ .f32 := constant S_ .f32 0x3C3E17AC#32
  let main_v171 : FVec F S8x20x1 .f32 := broadcastInDim S8x20x1 ![] bcast_S_S8x20x1 main_cst_22
  let main_v172 : FVec F S8x20x1 .f32 := mulf main_v171 main_v170
  let main_v173 : FVec F S8x20x1 .f32 := addf main_v168 main_v172
  let main_v174 : FVec F S8x20x1 .f32 := mulf main_v121 main_v121
  let main_v175 : FVec F S8x20x1 .f32 := mulf main_v170 main_v174
  let main_cst_23 : FVec F S_ .f32 := constant S_ .f32 0xBB55BEA8#32
  let main_v176 : FVec F S8x20x1 .f32 := broadcastInDim S8x20x1 ![] bcast_S_S8x20x1 main_cst_23
  let main_v177 : FVec F S8x20x1 .f32 := mulf main_v176 main_v175
  let main_v178 : FVec F S8x20x1 .f32 := addf main_v173 main_v177
  let main_v179 : FVec F S8x20x1 .f32 := mulf main_v121 main_v121
  let main_v180 : FVec F S8x20x1 .f32 := mulf main_v175 main_v179
  let main_cst_24 : FVec F S_ .f32 := constant S_ .f32 0x39E187BE#32
  let main_v181 : FVec F S8x20x1 .f32 := broadcastInDim S8x20x1 ![] bcast_S_S8x20x1 main_cst_24
  let main_v182 : FVec F S8x20x1 .f32 := mulf main_v181 main_v180
  let main_v183 : FVec F S8x20x1 .f32 := addf main_v178 main_v182
  let main_cst_25 : FVec F S_ .f32 := constant S_ .f32 0x3F800000#32
  let main_v184 : FVec F S8x20x1 .f32 := broadcastInDim S8x20x1 ![] bcast_S_S8x20x1 main_cst_25
  let main_v185 : IVec S8x20x1 1 := cmpf .ogt main_v114 main_v184
  let main_cst_26 : FVec F S_ .f32 := constant S_ .f32 0x3FC90FDB#32
  let main_v186 : FVec F S8x20x1 .f32 := broadcastInDim S8x20x1 ![] bcast_S_S8x20x1 main_cst_26
  let main_v187 : FVec F S8x20x1 .f32 := subf main_v186 main_v183
  fn_part9 (F := F) main_arg0 main_arg1 main_arg2 main_v44 main_v45 main_v75 main_v94 main_v111 main_v183 main_v185 main_v187

def fn_part7 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v75 : FVec F S8x20x33600 .f32) (main_v94 : FVec F S8x20x33600 .f32) (main_v111 : FVec F S8x20x33600 .f32) (main_v114 : FVec F S8x20x1 .f32) (main_v121 : FVec F S8x20x1 .f32) (main_v145 : FVec F S8x20x1 .f32) (main_v148 : FVec F S8x20x1 .f32) : IVec S8x64x33600 1 × IVec S8x1x33600 1 × IVec S8x20x4 1 × IVec S8x20 1 × IVec S8x20x10 1 :=
  let main_v149 : FVec F S8x20x1 .f32 := mulf main_v121 main_v121
  let main_v150 : FVec F S8x20x1 .f32 := mulf main_v145 main_v149
  let main_cst_18 : FVec F S_ .f32 := constant S_ .f32 0x3D99A54C#32
  let main_v151 : FVec F S8x20x1 .f32 := broadcastInDim S8x20x1 ![] bcast_S_S8x20x1 main_cst_18
  let main_v152 : FVec F S8x20x1 .f32 := mulf main_v151 main_v150
  let main_v153 : FVec F S8x20x1 .f32 := addf main_v148 main_v152
  let main_v154 : FVec F S8x20x1 .f32 := mulf main_v121 main_v121
  let main_v155 : FVec F S8x20x1 .f32 := mulf main_v150 main_v154
  let main_cst_19 : FVec F S_ .f32 := constant S_ .f32 0xBD7756C5#32
  let main_v156 : FVec F S8x20x1 .f32 := broadcastInDim S8x20x1 ![] bcast_S_S8x20x1 main_cst_19
  let main_v157 : FVec F S8x20x1 .f32 := mulf main_v156 main_v155
  let main_v158 : FVec F S8x20x1 .f32 := addf main_v153 main_v157
  let main_v159 : FVec F S8x20x1 .f32 := mulf main_v121 main_v121
  let main_v160 : FVec F S8x20x1 .f32 := mulf main_v155 main_v159
  let main_cst_20 : FVec F S_ .f32 := constant S_ .f32 0x3D33D37F#32
  let main_v161 : FVec F S8x20x1 .f32 := broadcastInDim S8x20x1 ![] bcast_S_S8x20x1 main_cst_20
  let main_v162 : FVec F S8x20x1 .f32 := mulf main_v161 main_v160
  let main_v163 : FVec F S8x20x1 .f32 := addf main_v158 main_v162
  let main_v164 : FVec F S8x20x1 .f32 := mulf main_v121 main_v121
  let main_v165 : FVec F S8x20x1 .f32 := mulf main_v160 main_v164
  let main_cst_21 : FVec F S_ .f32 := constant S_ .f32 0xBCD7377C#32
  let main_v166 : FVec F S8x20x1 .f32 := broadcastInDim S8x20x1 ![] bcast_S_S8x20x1 main_cst_21
  let main_v167 : FVec F S8x20x1 .f32 := mulf main_v166 main_v165
  let main_v168 : FVec F S8x20x1 .f32 := addf main_v163 main_v167
  fn_part8 (F := F) main_arg0 main_arg1 main_arg2 main_v44 main_v45 main_v75 main_v94 main_v111 main_v114 main_v121 main_v165 main_v168

def fn_part6 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v75 : FVec F S8x20x33600 .f32) (main_v94 : FVec F S8x20x33600 .f32) (main_v111 : FVec F S8x20x33600 .f32) (main_v114 : FVec F S8x20x1 .f32) (main_v121 : FVec F S8x20x1 .f32) (main_v125 : FVec F S8x20x1 .f32) (main_v128 : FVec F S8x20x1 .f32) : IVec S8x64x33600 1 × IVec S8x1x33600 1 × IVec S8x20x4 1 × IVec S8x20 1 × IVec S8x20x10 1 :=
  let main_v129 : FVec F S8x20x1 .f32 := mulf main_v121 main_v121
  let main_v130 : FVec F S8x20x1 .f32 := mulf main_v125 main_v129
  let main_cst_14 : FVec F S_ .f32 := constant S_ .f32 0x3E4CCCC0#32
  let main_v131 : FVec F S8x20x1 .f32 := broadcastInDim S8x20x1 ![] bcast_S_S8x20x1 main_cst_14
  let main_v132 : FVec F S8x20x1 .f32 := mulf main_v131 main_v130
  let main_v133 : FVec F S8x20x1 .f32 := addf main_v128 main_v132
  let main_v134 : FVec F S8x20x1 .f32 := mulf main_v121 main_v121
  let main_v135 : FVec F S8x20x1 .f32 := mulf main_v130 main_v134
  let main_cst_15 : FVec F S_ .f32 := constant S_ .f32 0xBE1247F5#32
  let main_v136 : FVec F S8x20x1 .f32 := broadcastInDim S8x20x1 ![] bcast_S_S8x20x1 main_cst_15
  let main_v137 : FVec F S8x20x1 .f32 := mulf main_v136 main_v135
  let main_v138 : FVec F S8x20x1 .f32 := addf main_v133 main_v137
  let main_v139 : FVec F S8x20x1 .f32 := mulf main_v121 main_v121
  let main_v140 : FVec F S8x20x1 .f32 := mulf main_v135 main_v139
  let main_cst_16 : FVec F S_ .f32 := constant S_ .f32 0x3DE3719F#32
  let main_v141 : FVec F S8x20x1 .f32 := broadcastInDim S8x20x1 ![] bcast_S_S8x20x1 main_cst_16
  let main_v142 : FVec F S8x20x1 .f32 := mulf main_v141 main_v140
  let main_v143 : FVec F S8x20x1 .f32 := addf main_v138 main_v142
  let main_v144 : FVec F S8x20x1 .f32 := mulf main_v121 main_v121
  let main_v145 : FVec F S8x20x1 .f32 := mulf main_v140 main_v144
  let main_cst_17 : FVec F S_ .f32 := constant S_ .f32 0xBDB95E07#32
  let main_v146 : FVec F S8x20x1 .f32 := broadcastInDim S8x20x1 ![] bcast_S_S8x20x1 main_cst_17
  let main_v147 : FVec F S8x20x1 .f32 := mulf main_v146 main_v145
  let main_v148 : FVec F S8x20x1 .f32 := addf main_v143 main_v147
  fn_part7 (F := F) main_arg0 main_arg1 main_arg2 main_v44 main_v45 main_v75 main_v94 main_v111 main_v114 main_v121 main_v145 main_v148

def fn_part5 {F : FTy → Type} [FloatOps F] (main_arg0 : FVec F S8x64x33600 .f32) (main_arg1 : FVec F S8x1x33600 .f32) (main_arg2 : FVec F S8x20x4 .f32) (main_v44 : FVec F S8x1x33600 .f32) (main_v45 : FVec F S8x1x33600 .f32) (main_v46 : FVec F S8x20x1 .f32) (main_v47 : FVec F S8x20x1 .f32) (main_v75 : FVec F S8x20x33600 .f32) (main_v94 : FVec F S8x20x33600 .f32) (main_v109 : FVec F S8x20x33600 .f32) (main_v110 : FVec F S8x20x33600 .f32) : IVec S8x64x33600 1 × IVec S8x1x33600 1 × IVec S8x20x4 1 × IVec S8x20 1 × IVec S8x20x10 1 :=
  let main_v111 : FVec F S8x20x33600 .f32 := Host.divf main_v109 main_v110
  let main_cst_8 : FVec F S_ .f32 := constant S_ .f32 0x33D6BF95#32
  let main_v112 : FVec F S8x20x1 .f32 := broadcastInDim S8x20x1 ![] bcast_S_S8x20x1 main_cst_8
  let main_v113 : FVec F S8x20x1 .f32 := addf main_v47 main_v112
  let main_v114 : FVec F S8x20x1 .f32 := Host.divf main_v46 main_v113
  let main_cst_9 : FVec F S_ .f32 := constant S_ .f32 0x3F800000#32
  let main_v115 : FVec F S8x20x1 .f32 := broadcastInDim S8x20x1 ![] bcast_S_S8x20x1 main_cst_9
  let main_v116 : IVec S8x20x1 1 := cmpf .ogt main_v114 main_v115
  let main_cst_10 : FVec F S_ .f32 := constant S_ .f32 0x0DA24260#32
  let main_v117 : FVec F S8x20x1 .f32 := broadcastInDim S8x20x1 ![] bcast_S_S8x20x1 main_cst_10
  let main_v118 : FVec F S8x20x1 .f32 := maximumf main_v114 main_v117
  let main_cst_11 : FVec F S_ .f32 := constant S_ .f32 0x3F800000#32
  let main_v119 : FVec F S8x20x1 .f32 := broadcastInDim S8x20x1 ![] bcast_S_S8x20x1 main_cst_11
  let main_v120 : FVec F S8x20x1 .f32 := Host.divf main_v119 main_v118
  let main_v121 : FVec F S8x20x1 .f32 := fn_where (F := F) main_v116 main_v120 main_v114
  let main_cst_12 : FVec F S_ .f32 := constant S_ .f32 0x3F800000#32
  let main_v122 : FVec F S8x20x1 .f32 := broadcastInDim S8x20x1 ![] bcast_S_S8x20x1 main_cst_12
  let main_v123 : FVec F S8x20x1 .f32 := mulf main_v122 main_v121
  let main_v124 : FVec F S8x20x1 .f32 := mulf main_v121 main_v121
  let main_v125 : FVec F S8x20x1 .f32 := mulf main_v121 main_v124
  let main_cst_13 : FVec F S_ .f32 := constant S_ .f32 0xBEAAAAAB#32
  let main_v126 : FVec F S8x20x1 .f32 := broadcastInDim S8x20x1 ![] bcast_S_S8x20x1 main_cst_13
  let main_v127 : FVec F S8x20x1 .f32 := mulf main_v126 main_v125
  let main_v128 : FVec F S8x20x1 .f32 := addf main_v123 main_v127
  fn_part6 (F := F) main_arg0 main_arg1 main_arg2 main_v44 main_v45 main_v75 main_v94 main_v111 main_v114 main_v121 main_v125 main_v128

def fn_part4 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) (main_v44 : FVec F S8x1x33600 .f32) (main_v45 : FVec F S8x1x33600 .f32) (main_v46 : FVec F S8x20x1 .f32) (main_v47 : FVec F S8x20x1 .f32) (main_v75 : FVec F S8x20x33600 .f32) (main_v82 : FVec F S8x20x33600 .f32) (main_v85 : FVec F S8x20x33600 .f32) (main_v88 : FVec F S8x20x33600 .f32) : IVec S8x64x33600 1 × IVec S8x1x33600 1 × IVec S8x20x4 1 × IVec S8x20 1 × IVec S8x20x10 1 :=
  let main_v89 : FVec F S8x20x33600 .f32 := subf main_v85 main_v88
  let main_v90 : FVec F S8x20x33600 .f32 := mulf main_v82 main_v82
  let main_v91 : FVec F S8x20x33600 .f32 := mulf main_v89 main_v89
  let main_v92 : FVec F S8x20x33600 .f32 := addf main_v90 main_v91
  let main_cst_6 : FVec F S_ .f32 := constant S_ .f32 0x33D6BF95#32
  let main_v93 : FVec F S8x20x33600 .f32 := broadcastInDim S8x20x33600 ![] bcast_S_S8x20x33600 main_cst_6
  let main_v94 : FVec F S8x20x33600 .f32 := addf main_v92 main_v93
  let main_v95 : FVec F S8x20x1 .f32 := addf main_v34 main_v40
  let main_v96 : FVec F S8x20x33600 .f32 := broadcastInDim S8x20x33600 ![0, 1, 2] bcast_S8x20x1_S8x20x33600_0_1_2 main_v95
  let main_v97 : FVec F S8x20x33600 .f32 := broadcastInDim S8x20x33600 ![0, 1, 2] bcast_S8x1x33600_S8x20x33600_0_1_2 main_v28
  let main_v98 : FVec F S8x20x33600 .f32 := subf main_v96 main_v97
  let main_v99 : FVec F S8x20x33600 .f32 := broadcastInDim S8x20x33600 ![0, 1, 2] bcast_S8x1x33600_S8x20x33600_0_1_2 main_v30
  let main_v100 : FVec F S8x20x33600 .f32 := subf main_v98 main_v99
  let main_v101 : FVec F S8x20x33600 .f32 := mulf main_v100 main_v100
  let main_v102 : FVec F S8x20x1 .f32 := addf main_v37 main_v43
  let main_v103 : FVec F S8x20x33600 .f32 := broadcastInDim S8x20x33600 ![0, 1, 2] bcast_S8x20x1_S8x20x33600_0_1_2 main_v102
  let main_v104 : FVec F S8x20x33600 .f32 := broadcastInDim S8x20x33600 ![0, 1, 2] bcast_S8x1x33600_S8x20x33600_0_1_2 main_v29
  let main_v105 : FVec F S8x20x33600 .f32 := subf main_v103 main_v104
  let main_v106 : FVec F S8x20x33600 .f32 := broadcastInDim S8x20x33600 ![0, 1, 2] bcast_S8x1x33600_S8x20x33600_0_1_2 main_v31
  let main_v107 : FVec F S8x20x33600 .f32 := subf main_v105 main_v106
  let main_v108 : FVec F S8x20x33600 .f32 := mulf main_v107 main_v107
  let main_v109 : FVec F S8x20x33600 .f32 := addf main_v101 main_v108
  let main_cst_7 : FVec F S_ .f32 := constant S_ .f32 0x40800000#32
  let main_v110 : FVec F S8x20x33600 .f32 := broadcastInDim S8x20x33600 ![] bcast_S_S8x20x33600 main_cst_7
  fn_part5 (F := F) main_arg0 main_arg1 main_arg2 main_v44 main_v45 main_v46 main_v47 main_v75 main_v94 main_v109 main_v110

def fn_part3 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) (main_v44 : FVec F S8x1x33600 .f32) (main_v45 : FVec F S8x1x33600 .f32) (main_v46 : FVec F S8x20x1 .f32) (main_v47 : FVec F S8x20x1 .f32) (main_v56 : FVec F S8x20x33600 .f32) (main_v65 : FVec F S8x20x33600 .f32) : IVec S8x64x33600 1 × IVec S8x1x33600 1 × IVec S8x20x4 1 × IVec S8x20 1 × IVec S8x20x10 1 :=
  let main_v66 : FVec F S8x20x33600 .f32 := mulf main_v56 main_v65
  let main_v67 : FVec F S8x1x33600 .f32 := mulf main_v44 main_v45
  let main_v68 : FVec F S8x20x1 .f32 := mulf main_v46 main_v47
  let main_v69 : FVec F S8x20x33600 .f32 := broadcastInDim S8x20x33600 ![0, 1, 2] bcast_S8x1x33600_S8x20x33600_0_1_2 main_v67
  let main_v70 : FVec F S8x20x33600 .f32 := broadcastInDim S8x20x33600 ![0, 1, 2] bcast_S8x20x1_S8x20x33600_0_1_2 main_v68
  let main_v71 : FVec F S8x20x33600 .f32 := addf main_v69 main_v70
  let main_v72 : FVec F S8x20x33600 .f32 := subf main_v71 main_v66
  let main_cst_5 : FVec F S_ .f32 := constant S_ .f32 0x33D6BF95#32
  let main_v73 : FVec F S8x20x33600 .f32 := broadcastInDim S8x20x33600 ![] bcast_S_S8x20x33600 main_cst_5
  let main_v74 : FVec F S8x20x33600 .f32 := addf main_v72 main_v73
  let main_v75 : FVec F S8x20x33600 .f32 := Host.divf main_v66 main_v74
  let main_v76 : FVec F S8x20x33600 .f32 := broadcastInDim S8x20x33600 ![0, 1, 2] bcast_S8x1x33600_S8x20x33600_0_1_2 main_v30
  let main_v77 : FVec F S8x20x33600 .f32 := broadcastInDim S8x20x33600 ![0, 1, 2] bcast_S8x20x1_S8x20x33600_0_1_2 main_v40
  let main_v78 : FVec F S8x20x33600 .f32 := maximumf main_v76 main_v77
  let main_v79 : FVec F S8x20x33600 .f32 := broadcastInDim S8x20x33600 ![0, 1, 2] bcast_S8x1x33600_S8x20x33600_0_1_2 main_v28
  let main_v80 : FVec F S8x20x33600 .f32 := broadcastInDim S8x20x33600 ![0, 1, 2] bcast_S8x20x1_S8x20x33600_0_1_2 main_v34
  let main_v81 : FVec F S8x20x33600 .f32 := minimumf main_v79 main_v80
  let main_v82 : FVec F S8x20x33600 .f32 := subf main_v78 main_v81
  let main_v83 : FVec F S8x20x33600 .f32 := broadcastInDim S8x20x33600 ![0, 1, 2] bcast_S8x1x33600_S8x20x33600_0_1_2 main_v31
  let main_v84 : FVec F S8x20x33600 .f32 := broadcastInDim S8x20x33600 ![0, 1, 2] bcast_S8x20x1_S8x20x33600_0_1_2 main_v43
  let main_v85 : FVec F S8x20x33600 .f32 := maximumf main_v83 main_v84
  let main_v86 : FVec F S8x20x33600 .f32 := broadcastInDim S8x20x33600 ![0, 1, 2] bcast_S8x1x33600_S8x20x33600_0_1_2 main_v29
  let main_v87 : FVec F S8x20x33600 .f32 := broadcastInDim S8x20x33600 ![0, 1, 2] bcast_S8x20x1_S8x20x33600_0_1_2 main_v37
  let main_v88 : FVec F S8x20x33600 .f32 := minimumf main_v86 main_v87
  fn_part4 (F := F) main_arg0 main_arg1 main_arg2 main_v28 main_v29 main_v30 main_v31 main_v34 main_v37 main_v40 main_v43 main_v44 main_v45 main_v46 main_v47 main_v75 main_v82 main_v85 main_v88

def fn_part2 {F : FTy → Type} [FloatOps F] (main_arg0 : FVec F S8x64x33600 .f32) (main_arg1 : FVec F S8x1x33600 .f32) (main_arg2 : FVec F S8x20x4 .f32) (main_v28 : FVec F S8x1x33600 .f32) (main_v29 : FVec F S8x1x33600 .f32) (main_v30 : FVec F S8x1x33600 .f32) (main_v31 : FVec F S8x1x33600 .f32) (main_v34 : FVec F S8x20x1 .f32) (main_v37 : FVec F S8x20x1 .f32) (main_v40 : FVec F S8x20x1 .f32) (main_v43 : FVec F S8x20x1 .f32) : IVec S8x64x33600 1 × IVec S8x1x33600 1 × IVec S8x20x4 1 × IVec S8x20 1 × IVec S8x20x10 1 :=
  let main_v44 : FVec F S8x1x33600 .f32 := subf main_v30 main_v28
  let main_v45 : FVec F S8x1x33600 .f32 := subf main_v31 main_v29
  let main_v46 : FVec F S8x20x1 .f32 := subf main_v40 main_v34
  let main_v47 : FVec F S8x20x1 .f32 := subf main_v43 main_v37
  let main_v48 : FVec F S8x20x33600 .f32 := broadcastInDim S8x20x33600 ![0, 1, 2] bcast_S8x1x33600_S8x20x33600_0_1_2 main_v30
  let main_v49 : FVec F S8x20x33600 .f32 := broadcastInDim S8x20x33600 ![0, 1, 2] bcast_S8x20x1_S8x20x33600_0_1_2 main_v40
  let main_v50 : FVec F S8x20x33600 .f32 := minimumf main_v48 main_v49
  let main_v51 : FVec F S8x20x33600 .f32 := broadcastInDim S8x20x33600 ![0, 1, 2] bcast_S8x1x33600_S8x20x33600_0_1_2 main_v28
  let main_v52 : FVec F S8x20x33600 .f32 := broadcastInDim S8x20x33600 ![0, 1, 2] bcast_S8x20x1_S8x20x33600_0_1_2 main_v34
  let main_v53 : FVec F S8x20x33600 .f32 := maximumf main_v51 main_v52
  let main_v54 : FVec F S8x20x33600 .f32 := subf main_v50 main_v53
  let main_cst_3 : FVec F S_ .f32 := constant S_ .f32 0x00000000#32
  let main_v55 : FVec F S8x20x33600 .f32 := broadcastInDim S8x20x33600 ![] bcast_S_S8x20x33600 main_cst_3
  let main_v56 : FVec F S8x20x33600 .f32 := maximumf main_v54 main_v55
  let main_v57 : FVec F S8x20x33600 .f32 := broadcastInDim S8x20x33600 ![0, 1, 2] bcast_S8x1x33600_S8x20x33600_0_1_2 main_v31
  let main_v58 : FVec F S8x20x33600 .f32 := broadcastInDim S8x20x33600 ![0, 1, 2] bcast_S8x20x1_S8x20x33600_0_1_2 main_v43
  let main_v59 : FVec F S8x20x33600 .f32 := minimumf main_v57 main_v58
  let main_v60 : FVec F S8x20x33600 .f32 := broadcastInDim S8x20x33600 ![0, 1, 2] bcast_S8x1x33600_S8x20x33600_0_1_2 main_v29
  let main_v61 : FVec F S8x20x33600 .f32 := broadcastInDim S8x20x33600 ![0, 1, 2] bcast_S8x20x1_S8x20x33600_0_1_2 main_v37
  let main_v62 : FVec F S8x20x33600 .f32 := maximumf main_v60 main_v61
  let main_v63 : FVec F S8x20x33600 .f32 := subf main_v59 main_v62
  let main_cst_4 : FVec F S_ .f32 := constant S_ .f32 0x00000000#32
  let main_v64 : FVec F S8x20x33600 .f32 := broadcastInDim S8x20x33600 ![] bcast_S_S8x20x33600 main_cst_4
  let main_v65 : FVec F S8x20x33600 .f32 := maximumf main_v63 main_v64
  fn_part3 (F := F) main_arg0 main_arg1 main_arg2 main_v28 main_v29 main_v30 main_v31 main_v34 main_v37 main_v40 main_v43 main_v44 main_v45 main_v46 main_v47 main_v56 main_v65

def fn_part1 {F : FTy → Type} [FloatOps F] (main_arg0 : FVec F S8x64x33600 .f32) (main_arg1 : FVec F S8x1x33600 .f32) (main_arg2 : FVec F S8x20x4 .f32) (main_v17 : FVec F S8x4x33600 .f32) (main_v19 : FVec F S8x33600 .f32) : IVec S8x64x33600 1 × IVec S8x1x33600 1 × IVec S8x20x4 1 × IVec S8x20 1 × IVec S8x20x10 1 :=
  let main_v20 : FVec F S8x33600 .f32 := Host.negf main_v19
  let main_v21 : FVec F S8x1x33600 .f32 := (extractStridedSlice S8x1x33600 ![0, 1, 0] · slices_S8x4x33600_S8x1x33600_0_1_0) main_v17
  let main_v22 : FVec F S8x33600 .f32 := shapeCast S8x33600 main_v21 shapeCasts_S8x1x33600_S8x33600
  let main_v23 : FVec F S8x33600 .f32 := Host.negf main_v22
  let main_v24 : FVec F S8x1x33600 .f32 := (extractStridedSlice S8x1x33600 ![0, 2, 0] · slices_S8x4x33600_S8x1x33600_0_2_0) main_v17
  let main_v25 : FVec F S8x33600 .f32 := shapeCast S8x33600 main_v24 shapeCasts_S8x1x33600_S8x33600
  let main_v26 : FVec F S8x1x33600 .f32 := (extractStridedSlice S8x1x33600 ![0, 3, 0] · slices_S8x4x33600_S8x1x33600_0_3_0) main_v17
  let main_v27 : FVec F S8x33600 .f32 := shapeCast S8x33600 main_v26 shapeCasts_S8x1x33600_S8x33600
  let main_v28 : FVec F S8x1x33600 .f32 := broadcastInDim S8x1x33600 ![0, 2] bcast_S8x33600_S8x1x33600_0_2 main_v20
  let main_v29 : FVec F S8x1x33600 .f32 := broadcastInDim S8x1x33600 ![0, 2] bcast_S8x33600_S8x1x33600_0_2 main_v23
  let main_v30 : FVec F S8x1x33600 .f32 := broadcastInDim S8x1x33600 ![0, 2] bcast_S8x33600_S8x1x33600_0_2 main_v25
  let main_v31 : FVec F S8x1x33600 .f32 := broadcastInDim S8x1x33600 ![0, 2] bcast_S8x33600_S8x1x33600_0_2 main_v27
  let main_v32 : FVec F S8x20x1 .f32 := (extractStridedSlice S8x20x1 ![0, 0, 0] · slices_S8x20x4_S8x20x1_0_0_0) main_arg2
  let main_v33 : FVec F S8x20 .f32 := shapeCast S8x20 main_v32 shapeCasts_S8x20x1_S8x20
  let main_v34 : FVec F S8x20x1 .f32 := broadcastInDim S8x20x1 ![0, 1] bcast_S8x20_S8x20x1_0_1 main_v33
  let main_v35 : FVec F S8x20x1 .f32 := (extractStridedSlice S8x20x1 ![0, 0, 1] · slices_S8x20x4_S8x20x1_0_0_1) main_arg2
  let main_v36 : FVec F S8x20 .f32 := shapeCast S8x20 main_v35 shapeCasts_S8x20x1_S8x20
  let main_v37 : FVec F S8x20x1 .f32 := broadcastInDim S8x20x1 ![0, 1] bcast_S8x20_S8x20x1_0_1 main_v36
  let main_v38 : FVec F S8x20x1 .f32 := (extractStridedSlice S8x20x1 ![0, 0, 2] · slices_S8x20x4_S8x20x1_0_0_2) main_arg2
  let main_v39 : FVec F S8x20 .f32 := shapeCast S8x20 main_v38 shapeCasts_S8x20x1_S8x20
  let main_v40 : FVec F S8x20x1 .f32 := broadcastInDim S8x20x1 ![0, 1] bcast_S8x20_S8x20x1_0_1 main_v39
  let main_v41 : FVec F S8x20x1 .f32 := (extractStridedSlice S8x20x1 ![0, 0, 3] · slices_S8x20x4_S8x20x1_0_0_3) main_arg2
  let main_v42 : FVec F S8x20 .f32 := shapeCast S8x20 main_v41 shapeCasts_S8x20x1_S8x20
  let main_v43 : FVec F S8x20x1 .f32 := broadcastInDim S8x20x1 ![0, 1] bcast_S8x20_S8x20x1_0_1 main_v42
  fn_part2 (F := F) main_arg0 main_arg1 main_arg2 main_v28 main_v29 main_v30 main_v31 main_v34 main_v37 main_v40 main_v43

def fn {F : FTy → Type} [FloatOps F] (main_arg0 : FVec F S8x64x33600 .f32) (main_arg1 : FVec F S8x1x33600 .f32) (main_arg2 : FVec F S8x20x4 .f32) : IVec S8x64x33600 1 × IVec S8x1x33600 1 × IVec S8x20x4 1 × IVec S8x20 1 × IVec S8x20x10 1 :=
  let main_v0 : FVec F S8x4x16x33600 .f32 := shapeCast S8x4x16x33600 main_arg0 shapeCasts_S8x64x33600_S8x4x16x33600
  let main_cst : FVec F S_ .f32 := constant S_ .f32 0xFF800000#32
  let main_v1 : FVec F S8x4x33600 .f32 := (fun x v => Host.reduce FloatOps.maximumf x v reducesTo_S8x4x16x33600_S8x4x33600_d2 h_S_) main_v0 main_cst
  let main_cst_0 : FVec F S_ .f32 := constant S_ .f32 0xFF800000#32
  let main_v2 : FVec F S8x4x33600 .f32 := broadcastInDim S8x4x33600 ![] bcast_S_S8x4x33600 main_cst_0
  let main_v3 : FVec F S8x4x33600 .f32 := maximumf main_v2 main_v1
  let main_v4 : FVec F S8x4x1x33600 .f32 := broadcastInDim S8x4x1x33600 ![0, 1, 3] bcast_S8x4x33600_S8x4x1x33600_0_1_3 main_v3
  let main_v5 : FVec F S8x4x16x33600 .f32 := broadcastInDim S8x4x16x33600 ![0, 1, 2, 3] bcast_S8x4x1x33600_S8x4x16x33600_0_1_2_3 main_v4
  let main_v6 : FVec F S8x4x16x33600 .f32 := subf main_v0 main_v5
  let main_v7 : FVec F S8x4x16x33600 .f32 := Host.exp main_v6
  let main_cst_1 : FVec F S_ .f32 := constant S_ .f32 0x00000000#32
  let main_v8 : FVec F S8x4x33600 .f32 := (fun x v => Host.reduceAdd x v reducesTo_S8x4x16x33600_S8x4x33600_d2 h_S_) main_v7 main_cst_1
  let main_v9 : FVec F S8x4x1x33600 .f32 := broadcastInDim S8x4x1x33600 ![0, 1, 3] bcast_S8x4x33600_S8x4x1x33600_0_1_3 main_v8
  let main_v10 : FVec F S8x4x16x33600 .f32 := broadcastInDim S8x4x16x33600 ![0, 1, 2, 3] bcast_S8x4x1x33600_S8x4x16x33600_0_1_2_3 main_v9
  let main_v11 : FVec F S8x4x16x33600 .f32 := Host.divf main_v7 main_v10
  let main_v12 : IVec S16 32 := iotaInDim S16 32 0
  let main_v13 : FVec F S16 .f32 := sitofp .f32 main_v12
  let main_v14 : FVec F S1x1x16x1 .f32 := broadcastInDim S1x1x16x1 ![2] bcast_S16_S1x1x16x1_2 main_v13
  let main_v15 : FVec F S8x4x16x33600 .f32 := broadcastInDim S8x4x16x33600 ![0, 1, 2, 3] bcast_S1x1x16x1_S8x4x16x33600_0_1_2_3 main_v14
  let main_v16 : FVec F S8x4x16x33600 .f32 := mulf main_v11 main_v15
  let main_cst_2 : FVec F S_ .f32 := constant S_ .f32 0x00000000#32
  let main_v17 : FVec F S8x4x33600 .f32 := (fun x v => Host.reduceAdd x v reducesTo_S8x4x16x33600_S8x4x33600_d2 h_S_) main_v16 main_cst_2
  let main_v18 : FVec F S8x1x33600 .f32 := (extractStridedSlice S8x1x33600 ![0, 0, 0] · slices_S8x4x33600_S8x1x33600_0_0_0) main_v17
  let main_v19 : FVec F S8x33600 .f32 := shapeCast S8x33600 main_v18 shapeCasts_S8x1x33600_S8x33600
  fn_part1 (F := F) main_arg0 main_arg1 main_arg2 main_v17 main_v19
-- ==== Kernel.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x8x4200 : Shape := ⟨3, ![8, 8, 4200]⟩
abbrev S1x1x1 : Shape := ⟨3, ![1, 1, 1]⟩
abbrev S1x64x33600 : Shape := ⟨3, ![1, 64, 33600]⟩
abbrev S1x8x4200 : Shape := ⟨3, ![1, 8, 4200]⟩
abbrev S1x20x4 : Shape := ⟨3, ![1, 20, 4]⟩
abbrev S64x33600 : Shape := ⟨2, ![64, 33600]⟩
abbrev S8x64 : Shape := ⟨2, ![8, 64]⟩
abbrev S8x33600 : Shape := ⟨2, ![8, 33600]⟩
abbrev S4x33600 : Shape := ⟨2, ![4, 33600]⟩
abbrev S4x8x4200 : Shape := ⟨3, ![4, 8, 4200]⟩
abbrev S8x4200 : Shape := ⟨2, ![8, 4200]⟩
abbrev S20x4 : Shape := ⟨2, ![20, 4]⟩
abbrev S20x1 : Shape := ⟨2, ![20, 1]⟩
abbrev S20 : Shape := ⟨1, ![20]⟩
abbrev S20x1x1 : Shape := ⟨3, ![20, 1, 1]⟩
abbrev S20x8x4200 : Shape := ⟨3, ![20, 8, 4200]⟩
abbrev S20x8 : Shape := ⟨2, ![20, 8]⟩
abbrev S20x8x1 : Shape := ⟨3, ![20, 8, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x64x33600, .f32⟩
  | .hbm, ⟨1, _⟩ => ⟨S8x1x33600, .f32⟩
  | .hbm, ⟨2, _⟩ => ⟨S8x20x4, .f32⟩
  | .hbm, ⟨3, _⟩ => ⟨S8x8x4200, .f32⟩
  | .hbm, ⟨4, _⟩ => ⟨S1x1x1, .f32⟩
  | .hbm, ⟨5, _⟩ => ⟨S1x1x1, .f32⟩
  | .hbm, ⟨6, _⟩ => ⟨S1x1x1, .f32⟩
  | .local _ .vmem, ⟨0, _⟩ => ⟨S1x64x33600, .f32⟩
  | .local _ .vmem, ⟨1, _⟩ => ⟨S1x64x33600, .f32⟩
  | .local _ .vmem, ⟨2, _⟩ => ⟨S1x8x4200, .f32⟩
  | .local _ .vmem, ⟨3, _⟩ => ⟨S1x8x4200, .f32⟩
  | .local _ .vmem, ⟨4, _⟩ => ⟨S1x20x4, .f32⟩
  | .local _ .vmem, ⟨5, _⟩ => ⟨S1x20x4, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S8x64x33600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v428 : BitVec 1 := Scalar.cmpi .eq arg0 c7_i32
  let v429 : BitVec 32 := Scalar.extui v428
  let c0_i32_125 : BitVec 32 := 0#32
  let v430 : BitVec 1 := Scalar.cmpi .ne v429 c0_i32_125
  v430

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x64x33600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferencePolyIdeal.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x33600 : Shape := ⟨2, ![8, 33600]⟩
abbrev S8x4x16x33600 : Shape := ⟨4, ![8, 4, 16, 33600]⟩
abbrev S_ : Shape := ⟨0, ![]⟩
abbrev S8x4x33600 : Shape := ⟨3, ![8, 4, 33600]⟩
abbrev S8x4x1x33600 : Shape := ⟨4, ![8, 4, 1, 33600]⟩
abbrev S16 : Shape := ⟨1, ![16]⟩
abbrev S1x1x16x1 : Shape := ⟨4, ![1, 1, 16, 1]⟩
abbrev S8x20x1 : Shape := ⟨3, ![8, 20, 1]⟩
abbrev S8x20 : Shape := ⟨2, ![8, 20]⟩
abbrev S8x20x33600 : Shape := ⟨3, ![8, 20, 33600]⟩
abbrev S8x20x10 : Shape := ⟨3, ![8, 20, 10]⟩
abbrev S1x1x1x33600 : Shape := ⟨4, ![1, 1, 1, 33600]⟩
abbrev S8x20x10x1 : Shape := ⟨4, ![8, 20, 10, 1]⟩
abbrev S8x20x10x33600 : Shape := ⟨4, ![8, 20, 10, 33600]⟩
abbrev S8 : Shape := ⟨1, ![8]⟩
abbrev S1x1x1 : Shape := ⟨3, ![1, 1, 1]⟩

abbrev nBuf : Space → Nat
  | .hbm => 411
  | .vmem => 0
  | .smem => 0
  | _ => 0

abbrev hbmTy0_0 (i : Nat) : BufTy := match i % 128 with
  | 0 => ⟨S8x64x33600, .f32⟩
  | 1 => ⟨S8x1x33600, .f32⟩
  | 2 => ⟨S8x20x4, .f32⟩
  | 3 => ⟨S8x33600, .f32⟩
  | 4 => ⟨S8x4x16x33600, .f32⟩
  | 5 => ⟨S_, .f32⟩
  | 6 => ⟨S8x4x33600, .f32⟩
  | 7 => ⟨S_, .f32⟩
  | 8 => ⟨S8x4x33600, .f32⟩
  | 9 => ⟨S8x4x33600, .f32⟩
  | 10 => ⟨S8x4x1x33600, .f32⟩
  | 11 => ⟨S8x4x16x33600, .f32⟩
  | 12 => ⟨S8x4x16x33600, .f32⟩
  | 13 => ⟨S8x4x16x33600, .f32⟩
  | 14 => ⟨S_, .f32⟩
  | 15 => ⟨S8x4x33600, .f32⟩
  | 16 => ⟨S8x4x1x33600, .f32⟩
  | 17 => ⟨S8x4x16x33600, .f32⟩
  | 18 => ⟨S8x4x16x33600, .f32⟩
  | 19 => ⟨S16, .i32⟩
  | 20 => ⟨S16, .f32⟩
  | 21 => ⟨S1x1x16x1, .f32⟩
  | 22 => ⟨S8x4x16x33600, .f32⟩
  | 23 => ⟨S8x4x16x33600, .f32⟩
  | 24 => ⟨S_, .f32⟩
  | 25 => ⟨S8x4x33600, .f32⟩
  | 26 => ⟨S8x1x33600, .f32⟩
  | 27 => ⟨S8x33600, .f32⟩
  | 28 => ⟨S8x33600, .f32⟩
  | 29 => ⟨S8x1x33600, .f32⟩
  | 30 => ⟨S8x33600, .f32⟩
  | 31 => ⟨S8x33600, .f32⟩
  | 32 => ⟨S8x1x33600, .f32⟩
  | 33 => ⟨S8x33600, .f32⟩
  | 34 => ⟨S8x1x33600, .f32⟩
  | 35 => ⟨S8x33600, .f32⟩
  | 36 => ⟨S8x1x33600, .f32⟩
  | 37 => ⟨S8x1x33600, .f32⟩
  | 38 => ⟨S8x1x33600, .f32⟩
  | 39 => ⟨S8x1x33600, .f32⟩
  | 40 => ⟨S8x20x1, .f32⟩
  | 41 => ⟨S8x20, .f32⟩
  | 42 => ⟨S8x20x1, .f32⟩
  | 43 => ⟨S8x20x1, .f32⟩
  | 44 => ⟨S8x20, .f32⟩
  | 45 => ⟨S8x20x1, .f32⟩
  | 46 => ⟨S8x20x1, .f32⟩
  | 47 => ⟨S8x20, .f32⟩
  | 48 => ⟨S8x20x1, .f32⟩
  | 49 => ⟨S8x20x1, .f32⟩
  | 50 => ⟨S8x20, .f32⟩
  | 51 => ⟨S8x20x1, .f32⟩
  | 52 => ⟨S8x1x33600, .f32⟩
  | 53 => ⟨S8x1x33600, .f32⟩
  | 54 => ⟨S8x20x1, .f32⟩
  | 55 => ⟨S8x20x1, .f32⟩
  | 56 => ⟨S8x20x33600, .f32⟩
  | 57 => ⟨S8x20x33600, .f32⟩
  | 58 => ⟨S8x20x33600, .f32⟩
  | 59 => ⟨S8x20x33600, .f32⟩
  | 60 => ⟨S8x20x33600, .f32⟩
  | 61 => ⟨S8x20x33600, .f32⟩
  | 62 => ⟨S8x20x33600, .f32⟩
  | 63 => ⟨S_, .f32⟩
  | 64 => ⟨S8x20x33600, .f32⟩
  | 65 => ⟨S8x20x33600, .f32⟩
  | 66 => ⟨S8x20x33600, .f32⟩
  | 67 => ⟨S8x20x33600, .f32⟩
  | 68 => ⟨S8x20x33600, .f32⟩
  | 69 => ⟨S8x20x33600, .f32⟩
  | 70 => ⟨S8x20x33600, .f32⟩
  | 71 => ⟨S8x20x33600, .f32⟩
  | 72 => ⟨S8x20x33600, .f32⟩
  | 73 => ⟨S_, .f32⟩
  | 74 => ⟨S8x20x33600, .f32⟩
  | 75 => ⟨S8x20x33600, .f32⟩
  | 76 => ⟨S8x20x33600, .f32⟩
  | 77 => ⟨S8x1x33600, .f32⟩
  | 78 => ⟨S8x20x1, .f32⟩
  | 79 => ⟨S8x20x33600, .f32⟩
  | 80 => ⟨S8x20x33600, .f32⟩
  | 81 => ⟨S8x20x33600, .f32⟩
  | 82 => ⟨S8x20x33600, .f32⟩
  | 83 => ⟨S_, .f32⟩
  | 84 => ⟨S8x20x33600, .f32⟩
  | 85 => ⟨S8x20x33600, .f32⟩
  | 86 => ⟨S8x20x33600, .f32⟩
  | 87 => ⟨S8x20x33600, .f32⟩
  | 88 => ⟨S8x20x33600, .f32⟩
  | 89 => ⟨S8x20x33600, .f32⟩
  | 90 => ⟨S8x20x33600, .f32⟩
  | 91 => ⟨S8x20x33600, .f32⟩
  | 92 => ⟨S8x20x33600, .f32⟩
  | 93 => ⟨S8x20x33600, .f32⟩
  | 94 => ⟨S8x20x33600, .f32⟩
  | 95 => ⟨S8x20x33600, .f32⟩
  | 96 => ⟨S8x20x33600, .f32⟩
  | 97 => ⟨S8x20x33600, .f32⟩
  | 98 => ⟨S8x20x33600, .f32⟩
  | 99 => ⟨S8x20x33600, .f32⟩
  | 100 => ⟨S8x20x33600, .f32⟩
  | 101 => ⟨S8x20x33600, .f32⟩
  | 102 => ⟨S8x20x33600, .f32⟩
  | 103 => ⟨S8x20x33600, .f32⟩
  | 104 => ⟨S_, .f32⟩
  | 105 => ⟨S8x20x33600, .f32⟩
  | 106 => ⟨S8x20x33600, .f32⟩
  | 107 => ⟨S8x20x1, .f32⟩
  | 108 => ⟨S8x20x33600, .f32⟩
  | 109 => ⟨S8x20x33600, .f32⟩
  | 110 => ⟨S8x20x33600, .f32⟩
  | 111 => ⟨S8x20x33600, .f32⟩
  | 112 => ⟨S8x20x33600, .f32⟩
  | 113 => ⟨S8x20x33600, .f32⟩
  | 114 => ⟨S8x20x1, .f32⟩
  | 115 => ⟨S8x20x33600, .f32⟩
  | 116 => ⟨S8x20x33600, .f32⟩
  | 117 => ⟨S8x20x33600, .f32⟩
  | 118 => ⟨S8x20x33600, .f32⟩
  | 119 => ⟨S8x20x33600, .f32⟩
  | 120 => ⟨S8x20x33600, .f32⟩
  | 121 => ⟨S8x20x33600, .f32⟩
  | 122 => ⟨S_, .f32⟩
  | 123 => ⟨S8x20x33600, .f32⟩
  | 124 => ⟨S8x20x33600, .f32⟩
  | 125 => ⟨S_, .f32⟩
  | 126 => ⟨S8x20x1, .f32⟩
  | 127 => ⟨S8x20x1, .f32⟩
  | _ => ⟨S8x64x33600, .f32⟩

abbrev hbmTy0_1 (i : Nat) : BufTy := match i % 128 with
  | 0 => ⟨S8x20x1, .f32⟩
  | 1 => ⟨S_, .f32⟩
  | 2 => ⟨S8x20x1, .f32⟩
  | 3 => ⟨S8x20x1, .i1⟩
  | 4 => ⟨S_, .f32⟩
  | 5 => ⟨S8x20x1, .f32⟩
  | 6 => ⟨S8x20x1, .f32⟩
  | 7 => ⟨S_, .f32⟩
  | 8 => ⟨S8x20x1, .f32⟩
  | 9 => ⟨S8x20x1, .f32⟩
  | 10 => ⟨S8x20x1, .f32⟩
  | 11 => ⟨S_, .f32⟩
  | 12 => ⟨S8x20x1, .f32⟩
  | 13 => ⟨S8x20x1, .f32⟩
  | 14 => ⟨S8x20x1, .f32⟩
  | 15 => ⟨S8x20x1, .f32⟩
  | 16 => ⟨S_, .f32⟩
  | 17 => ⟨S8x20x1, .f32⟩
  | 18 => ⟨S8x20x1, .f32⟩
  | 19 => ⟨S8x20x1, .f32⟩
  | 20 => ⟨S8x20x1, .f32⟩
  | 21 => ⟨S8x20x1, .f32⟩
  | 22 => ⟨S_, .f32⟩
  | 23 => ⟨S8x20x1, .f32⟩
  | 24 => ⟨S8x20x1, .f32⟩
  | 25 => ⟨S8x20x1, .f32⟩
  | 26 => ⟨S8x20x1, .f32⟩
  | 27 => ⟨S8x20x1, .f32⟩
  | 28 => ⟨S_, .f32⟩
  | 29 => ⟨S8x20x1, .f32⟩
  | 30 => ⟨S8x20x1, .f32⟩
  | 31 => ⟨S8x20x1, .f32⟩
  | 32 => ⟨S8x20x1, .f32⟩
  | 33 => ⟨S8x20x1, .f32⟩
  | 34 => ⟨S_, .f32⟩
  | 35 => ⟨S8x20x1, .f32⟩
  | 36 => ⟨S8x20x1, .f32⟩
  | 37 => ⟨S8x20x1, .f32⟩
  | 38 => ⟨S8x20x1, .f32⟩
  | 39 => ⟨S8x20x1, .f32⟩
  | 40 => ⟨S_, .f32⟩
  | 41 => ⟨S8x20x1, .f32⟩
  | 42 => ⟨S8x20x1, .f32⟩
  | 43 => ⟨S8x20x1, .f32⟩
  | 44 => ⟨S8x20x1, .f32⟩
  | 45 => ⟨S8x20x1, .f32⟩
  | 46 => ⟨S_, .f32⟩
  | 47 => ⟨S8x20x1, .f32⟩
  | 48 => ⟨S8x20x1, .f32⟩
  | 49 => ⟨S8x20x1, .f32⟩
  | 50 => ⟨S8x20x1, .f32⟩
  | 51 => ⟨S8x20x1, .f32⟩
  | 52 => ⟨S_, .f32⟩
  | 53 => ⟨S8x20x1, .f32⟩
  | 54 => ⟨S8x20x1, .f32⟩
  | 55 => ⟨S8x20x1, .f32⟩
  | 56 => ⟨S8x20x1, .f32⟩
  | 57 => ⟨S8x20x1, .f32⟩
  | 58 => ⟨S_, .f32⟩
  | 59 => ⟨S8x20x1, .f32⟩
  | 60 => ⟨S8x20x1, .f32⟩
  | 61 => ⟨S8x20x1, .f32⟩
  | 62 => ⟨S8x20x1, .f32⟩
  | 63 => ⟨S8x20x1, .f32⟩
  | 64 => ⟨S_, .f32⟩
  | 65 => ⟨S8x20x1, .f32⟩
  | 66 => ⟨S8x20x1, .f32⟩
  | 67 => ⟨S8x20x1, .f32⟩
  | 68 => ⟨S8x20x1, .f32⟩
  | 69 => ⟨S8x20x1, .f32⟩
  | 70 => ⟨S_, .f32⟩
  | 71 => ⟨S8x20x1, .f32⟩
  | 72 => ⟨S8x20x1, .f32⟩
  | 73 => ⟨S8x20x1, .f32⟩
  | 74 => ⟨S8x20x1, .f32⟩
  | 75 => ⟨S8x20x1, .f32⟩
  | 76 => ⟨S_, .f32⟩
  | 77 => ⟨S8x20x1, .f32⟩
  | 78 => ⟨S8x20x1, .f32⟩
  | 79 => ⟨S8x20x1, .f32⟩
  | 80 => ⟨S8x20x1, .f32⟩
  | 81 => ⟨S8x20x1, .f32⟩
  | 82 => ⟨S_, .f32⟩
  | 83 => ⟨S8x20x1, .f32⟩
  | 84 => ⟨S8x20x1, .f32⟩
  | 85 => ⟨S8x20x1, .f32⟩
  | 86 => ⟨S_, .f32⟩
  | 87 => ⟨S8x20x1, .f32⟩
  | 88 => ⟨S8x20x1, .i1⟩
  | 89 => ⟨S_, .f32⟩
  | 90 => ⟨S8x20x1, .f32⟩
  | 91 => ⟨S8x20x1, .f32⟩
  | 92 => ⟨S8x20x1, .f32⟩
  | 93 => ⟨S_, .f32⟩
  | 94 => ⟨S8x1x33600, .f32⟩
  | 95 => ⟨S8x1x33600, .f32⟩
  | 96 => ⟨S8x1x33600, .f32⟩
  | 97 => ⟨S_, .f32⟩
  | 98 => ⟨S8x1x33600, .f32⟩
  | 99 => ⟨S8x1x33600, .i1⟩
  | 100 => ⟨S_, .f32⟩
  | 101 => ⟨S8x1x33600, .f32⟩
  | 102 => ⟨S8x1x33600, .f32⟩
  | 103 => ⟨S_, .f32⟩
  | 104 => ⟨S8x1x33600, .f32⟩
  | 105 => ⟨S8x1x33600, .f32⟩
  | 106 => ⟨S8x1x33600, .f32⟩
  | 107 => ⟨S_, .f32⟩
  | 108 => ⟨S8x1x33600, .f32⟩
  | 109 => ⟨S8x1x33600, .f32⟩
  | 110 => ⟨S8x1x33600, .f32⟩
  | 111 => ⟨S8x1x33600, .f32⟩
  | 112 => ⟨S_, .f32⟩
  | 113 => ⟨S8x1x33600, .f32⟩
  | 114 => ⟨S8x1x33600, .f32⟩
  | 115 => ⟨S8x1x33600, .f32⟩
  | 116 => ⟨S8x1x33600, .f32⟩
  | 117 => ⟨S8x1x33600, .f32⟩
  | 118 => ⟨S_, .f32⟩
  | 119 => ⟨S8x1x33600, .f32⟩
  | 120 => ⟨S8x1x33600, .f32⟩
  | 121 => ⟨S8x1x33600, .f32⟩
  | 122 => ⟨S8x1x33600, .f32⟩
  | 123 => ⟨S8x1x33600, .f32⟩
  | 124 => ⟨S_, .f32⟩
  | 125 => ⟨S8x1x33600, .f32⟩
  | 126 => ⟨S8x1x33600, .f32⟩
  | 127 => ⟨S8x1x33600, .f32⟩
  | _ => ⟨S8x64x33600, .f32⟩

abbrev hbmTy0_2 (i : Nat) : BufTy := match i % 128 with
  | 0 => ⟨S8x1x33600, .f32⟩
  | 1 => ⟨S8x1x33600, .f32⟩
  | 2 => ⟨S_, .f32⟩
  | 3 => ⟨S8x1x33600, .f32⟩
  | 4 => ⟨S8x1x33600, .f32⟩
  | 5 => ⟨S8x1x33600, .f32⟩
  | 6 => ⟨S8x1x33600, .f32⟩
  | 7 => ⟨S8x1x33600, .f32⟩
  | 8 => ⟨S_, .f32⟩
  | 9 => ⟨S8x1x33600, .f32⟩
  | 10 => ⟨S8x1x33600, .f32⟩
  | 11 => ⟨S8x1x33600, .f32⟩
  | 12 => ⟨S8x1x33600, .f32⟩
  | 13 => ⟨S8x1x33600, .f32⟩
  | 14 => ⟨S_, .f32⟩
  | 15 => ⟨S8x1x33600, .f32⟩
  | 16 => ⟨S8x1x33600, .f32⟩
  | 17 => ⟨S8x1x33600, .f32⟩
  | 18 => ⟨S8x1x33600, .f32⟩
  | 19 => ⟨S8x1x33600, .f32⟩
  | 20 => ⟨S_, .f32⟩
  | 21 => ⟨S8x1x33600, .f32⟩
  | 22 => ⟨S8x1x33600, .f32⟩
  | 23 => ⟨S8x1x33600, .f32⟩
  | 24 => ⟨S8x1x33600, .f32⟩
  | 25 => ⟨S8x1x33600, .f32⟩
  | 26 => ⟨S_, .f32⟩
  | 27 => ⟨S8x1x33600, .f32⟩
  | 28 => ⟨S8x1x33600, .f32⟩
  | 29 => ⟨S8x1x33600, .f32⟩
  | 30 => ⟨S8x1x33600, .f32⟩
  | 31 => ⟨S8x1x33600, .f32⟩
  | 32 => ⟨S_, .f32⟩
  | 33 => ⟨S8x1x33600, .f32⟩
  | 34 => ⟨S8x1x33600, .f32⟩
  | 35 => ⟨S8x1x33600, .f32⟩
  | 36 => ⟨S8x1x33600, .f32⟩
  | 37 => ⟨S8x1x33600, .f32⟩
  | 38 => ⟨S_, .f32⟩
  | 39 => ⟨S8x1x33600, .f32⟩
  | 40 => ⟨S8x1x33600, .f32⟩
  | 41 => ⟨S8x1x33600, .f32⟩
  | 42 => ⟨S8x1x33600, .f32⟩
  | 43 => ⟨S8x1x33600, .f32⟩
  | 44 => ⟨S_, .f32⟩
  | 45 => ⟨S8x1x33600, .f32⟩
  | 46 => ⟨S8x1x33600, .f32⟩
  | 47 => ⟨S8x1x33600, .f32⟩
  | 48 => ⟨S8x1x33600, .f32⟩
  | 49 => ⟨S8x1x33600, .f32⟩
  | 50 => ⟨S_, .f32⟩
  | 51 => ⟨S8x1x33600, .f32⟩
  | 52 => ⟨S8x1x33600, .f32⟩
  | 53 => ⟨S8x1x33600, .f32⟩
  | 54 => ⟨S_, .f32⟩
  | 55 => ⟨S8x1x33600, .f32⟩
  | 56 => ⟨S8x1x33600, .i1⟩
  | 57 => ⟨S_, .f32⟩
  | 58 => ⟨S8x1x33600, .f32⟩
  | 59 => ⟨S8x1x33600, .f32⟩
  | 60 => ⟨S8x1x33600, .f32⟩
  | 61 => ⟨S8x20x33600, .f32⟩
  | 62 => ⟨S8x20x33600, .f32⟩
  | 63 => ⟨S8x20x33600, .f32⟩
  | 64 => ⟨S8x20x33600, .f32⟩
  | 65 => ⟨S_, .f32⟩
  | 66 => ⟨S8x20x33600, .f32⟩
  | 67 => ⟨S8x20x33600, .f32⟩
  | 68 => ⟨S8x20x33600, .f32⟩
  | 69 => ⟨S_, .f32⟩
  | 70 => ⟨S8x20x33600, .f32⟩
  | 71 => ⟨S8x20x33600, .f32⟩
  | 72 => ⟨S8x20x33600, .f32⟩
  | 73 => ⟨S8x20x33600, .f32⟩
  | 74 => ⟨S8x20x33600, .f32⟩
  | 75 => ⟨S8x20x33600, .f32⟩
  | 76 => ⟨S8x20x33600, .f32⟩
  | 77 => ⟨S8x20x10, .f32⟩
  | 78 => ⟨S8x20x10, .i32⟩
  | 79 => ⟨S_, .f32⟩
  | 80 => ⟨S8x20x10, .f32⟩
  | 81 => ⟨S8x20x10, .i1⟩
  | 82 => ⟨S1x1x1x33600, .i32⟩
  | 83 => ⟨S8x20x10x1, .i32⟩
  | 84 => ⟨S8x20x10x33600, .i32⟩
  | 85 => ⟨S8x20x10x33600, .i32⟩
  | 86 => ⟨S8x20x10x33600, .i1⟩
  | 87 => ⟨S8x20x10x1, .i1⟩
  | 88 => ⟨S8x20x10x33600, .i1⟩
  | 89 => ⟨S8x20x10x33600, .i1⟩
  | 90 => ⟨S_, .i1⟩
  | 91 => ⟨S8x20x33600, .i1⟩
  | 92 => ⟨S_, .i1⟩
  | 93 => ⟨S8x33600, .i1⟩
  | 94 => ⟨S_, .f32⟩
  | 95 => ⟨S_, .f32⟩
  | 96 => ⟨S8x20x33600, .f32⟩
  | 97 => ⟨S8x20x33600, .f32⟩
  | 98 => ⟨S_, .f32⟩
  | 99 => ⟨S8x33600, .f32⟩
  | 100 => ⟨S8x33600, .f32⟩
  | 101 => ⟨S_, .f32⟩
  | 102 => ⟨S8, .f32⟩
  | 103 => ⟨S_, .f32⟩
  | 104 => ⟨S8, .f32⟩
  | 105 => ⟨S8, .i1⟩
  | 106 => ⟨S_, .f32⟩
  | 107 => ⟨S8x33600, .f32⟩
  | 108 => ⟨S8x33600, .f32⟩
  | 109 => ⟨S8x33600, .f32⟩
  | 110 => ⟨S_, .f32⟩
  | 111 => ⟨S8, .f32⟩
  | 112 => ⟨S_, .f32⟩
  | 113 => ⟨S8, .f32⟩
  | 114 => ⟨S8, .f32⟩
  | 115 => ⟨S8, .f32⟩
  | 116 => ⟨S_, .f32⟩
  | 117 => ⟨S_, .f32⟩
  | 118 => ⟨S8, .f32⟩
  | 119 => ⟨S8, .f32⟩
  | 120 => ⟨S_, .f32⟩
  | 121 => ⟨S8x33600, .f32⟩
  | 122 => ⟨S8x33600, .f32⟩
  | 123 => ⟨S8x33600, .f32⟩
  | 124 => ⟨S8x33600, .f32⟩
  | 125 => ⟨S8x33600, .i1⟩
  | 126 => ⟨S8x33600, .f32⟩
  | 127 => ⟨S8x33600, .f32⟩
  | _ => ⟨S8x64x33600, .f32⟩

abbrev hbmTy0_3 (i : Nat) : BufTy := match i % 128 with
  | 0 => ⟨S8x33600, .f32⟩
  | 1 => ⟨S8x33600, .f32⟩
  | 2 => ⟨S8x33600, .f32⟩
  | 3 => ⟨S8x33600, .f32⟩
  | 4 => ⟨S8x33600, .f32⟩
  | 5 => ⟨S8x33600, .f32⟩
  | 6 => ⟨S8x33600, .f32⟩
  | 7 => ⟨S8x33600, .f32⟩
  | 8 => ⟨S_, .f32⟩
  | 9 => ⟨S8, .f32⟩
  | 10 => ⟨S_, .f32⟩
  | 11 => ⟨S8, .f32⟩
  | 12 => ⟨S8, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1x1x1, .f32⟩
  | 25 => ⟨S1x1x1, .f32⟩
  | 26 => ⟨S1x1x1, .f32⟩
  | _ => ⟨S8x64x33600, .f32⟩

abbrev hbmTy (i : Nat) : BufTy := match i / 128 with
  | 0 => hbmTy0_0 i
  | 1 => hbmTy0_1 i
  | 2 => hbmTy0_2 i
  | 3 => hbmTy0_3 i
  | _ => ⟨S8x64x33600, .f32⟩

abbrev bufTy : (tb : Table) → Fin (tcTables nBuf tb) → BufTy
  | .hbm, ⟨i, _⟩ => hbmTy i
  | _, _ => ⟨S8x64x33600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_7 : Ref sig .tc := ⟨.hbm, 122, rfl⟩
abbrev main_v111 : Ref sig .tc := ⟨.hbm, 123, rfl⟩
abbrev main_v112 : Ref sig .tc := ⟨.hbm, 124, rfl⟩
abbrev main_cst_8 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_cst_9 : Ref sig .tc := ⟨.hbm, 129, rfl⟩
abbrev main_v116 : Ref sig .tc := ⟨.hbm, 130, rfl⟩
abbrev main_v117 : Ref sig .tc := ⟨.hbm, 131, rfl⟩
abbrev main_cst_10 : Ref sig .tc := ⟨.hbm, 132, rfl⟩
abbrev main_v118 : Ref sig .tc := ⟨.hbm, 133, rfl⟩
abbrev main_v119 : Ref sig .tc := ⟨.hbm, 134, rfl⟩
abbrev main_cst_11 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_cst_12 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_cst_13 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_cst_14 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_15 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_16 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_cst_17 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_cst_18 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_cst_19 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_cst_20 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_cst_21 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_cst_22 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_23 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_cst_24 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_cst_25 : Ref sig .tc := ⟨.hbm, 214, rfl⟩
abbrev main_v185 : Ref sig .tc := ⟨.hbm, 215, rfl⟩
abbrev main_v186 : Ref sig .tc := ⟨.hbm, 216, rfl⟩
abbrev main_cst_26 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_cst_27 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_cst_28 : Ref sig .tc := ⟨.hbm, 225, rfl⟩
abbrev main_v193 : Ref sig .tc := ⟨.hbm, 226, rfl⟩
abbrev main_v194 : Ref sig .tc := ⟨.hbm, 227, rfl⟩
abbrev main_cst_29 : Ref sig .tc := ⟨.hbm, 228, rfl⟩
abbrev main_v195 : Ref sig .tc := ⟨.hbm, 229, rfl⟩
abbrev main_v196 : Ref sig .tc := ⟨.hbm, 230, rfl⟩
abbrev main_cst_30 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_cst_31 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_cst_32 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_cst_33 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_cst_34 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_cst_35 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_cst_36 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_cst_37 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_cst_38 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_cst_39 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_40 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_cst_41 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_cst_42 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_cst_43 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_cst_44 : Ref sig .tc := ⟨.hbm, 310, rfl⟩
abbrev main_v262 : Ref sig .tc := ⟨.hbm, 311, rfl⟩
abbrev main_v263 : Ref sig .tc := ⟨.hbm, 312, rfl⟩
abbrev main_cst_45 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_cst_46 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_cst_47 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_values : Ref sig .tc := ⟨.hbm, 333, rfl⟩
abbrev main_indices : Ref sig .tc := ⟨.hbm, 334, rfl⟩
abbrev main_cst_48 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_c : Ref sig .tc := ⟨.hbm, 346, rfl⟩
abbrev main_v291 : Ref sig .tc := ⟨.hbm, 347, rfl⟩
abbrev main_c_49 : Ref sig .tc := ⟨.hbm, 348, rfl⟩
abbrev main_v292 : Ref sig .tc := ⟨.hbm, 349, rfl⟩
abbrev main_cst_50 : Ref sig .tc := ⟨.hbm, 350, rfl⟩
abbrev main_call4_v0 : Ref sig .tc := ⟨.hbm, 351, rfl⟩
abbrev main_call4_v1 : Ref sig .tc := ⟨.hbm, 352, rfl⟩
abbrev main_v293 : Ref sig .tc := ⟨.hbm, 353, rfl⟩
abbrev main_cst_51 : Ref sig .tc := ⟨.hbm, 354, rfl⟩
abbrev main_v294 : Ref sig .tc := ⟨.hbm, 355, rfl⟩
abbrev main_v295 : Ref sig .tc := ⟨.hbm, 356, rfl⟩
abbrev main_cst_52 : Ref sig .tc := ⟨.hbm, 357, rfl⟩
abbrev main_v296 : Ref sig .tc := ⟨.hbm, 358, rfl⟩
abbrev main_cst_53 : Ref sig .tc := ⟨.hbm, 359, rfl⟩
abbrev main_v297 : Ref sig .tc := ⟨.hbm, 360, rfl⟩
abbrev main_v298 : Ref sig .tc := ⟨.hbm, 361, rfl⟩
abbrev main_cst_54 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_cst_55 : Ref sig .tc := ⟨.hbm, 366, rfl⟩
abbrev main_v302 : Ref sig .tc := ⟨.hbm, 367, rfl⟩
abbrev main_cst_56 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_cst_57 : Ref sig .tc := ⟨.hbm, 372, rfl⟩
abbrev main_call5_v0 : Ref sig .tc := ⟨.hbm, 373, rfl⟩
abbrev main_call5_v1 : Ref sig .tc := ⟨.hbm, 374, rfl⟩
abbrev main_v306 : Ref sig .tc := ⟨.hbm, 375, rfl⟩
abbrev main_call6_cst : Ref sig .tc := ⟨.hbm, 376, rfl⟩
abbrev main_call6_v0 : Ref sig .tc := ⟨.hbm, 377, rfl⟩
abbrev main_call6_v1 : Ref sig .tc := ⟨.hbm, 378, rfl⟩
abbrev main_call6_v2 : Ref sig .tc := ⟨.hbm, 379, rfl⟩
abbrev main_call6_v3 : Ref sig .tc := ⟨.hbm, 380, rfl⟩
abbrev main_call6_v4 : Ref sig .tc := ⟨.hbm, 381, rfl⟩
abbrev main_call6_v5 : Ref sig .tc := ⟨.hbm, 382, rfl⟩
abbrev main_call6_v6 : Ref sig .tc := ⟨.hbm, 383, rfl⟩
abbrev main_call6_v7 : Ref sig .tc := ⟨.hbm, 384, rfl⟩
abbrev main_call6_v8 : Ref sig .tc := ⟨.hbm, 385, rfl⟩
abbrev main_call6_v9 : Ref sig .tc := ⟨.hbm, 386, rfl⟩
abbrev main_call6_v10 : Ref sig .tc := ⟨.hbm, 387, rfl⟩
abbrev main_call6_v11 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_cst_58 : Ref sig .tc := ⟨.hbm, 392, rfl⟩
abbrev main_v310 : Ref sig .tc := ⟨.hbm, 393, rfl⟩
abbrev main_cst_59 : Ref sig .tc := ⟨.hbm, 394, rfl⟩
abbrev main_v311 : Ref sig .tc := ⟨.hbm, 395, rfl⟩
abbrev main_v312 : Ref sig .tc := ⟨.hbm, 396, rfl⟩
abbrev main_cst_60 : Ref sig .tc := ⟨.hbm, 397, rfl⟩
abbrev main_v313 : Ref sig .tc := ⟨.hbm, 398, rfl⟩
abbrev main_cst_61 : Ref sig .tc := ⟨.hbm, 399, rfl⟩
abbrev main_v314 : Ref sig .tc := ⟨.hbm, 400, rfl⟩
abbrev main_cst_62 : Ref sig .tc := ⟨.hbm, 401, rfl⟩
abbrev main_v315 : Ref sig .tc := ⟨.hbm, 402, rfl⟩
abbrev main_cst_63 : Ref sig .tc := ⟨.hbm, 403, rfl⟩
abbrev main_v316 : Ref sig .tc := ⟨.hbm, 404, rfl⟩
abbrev main_v317 : Ref sig .tc := ⟨.hbm, 405, rfl⟩
abbrev main_cst_64 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩

abbrev nD : Nat := 1
abbrev τ : Topo := Topo.v7x

variable {F : FTy → Type} [FloatOps F]
-- ==== KernelAtan.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x8x4200 : Shape := ⟨3, ![8, 8, 4200]⟩
abbrev S1x1x1 : Shape := ⟨3, ![1, 1, 1]⟩
abbrev S1x64x33600 : Shape := ⟨3, ![1, 64, 33600]⟩
abbrev S1x8x4200 : Shape := ⟨3, ![1, 8, 4200]⟩
abbrev S1x20x4 : Shape := ⟨3, ![1, 20, 4]⟩
abbrev S64x33600 : Shape := ⟨2, ![64, 33600]⟩
abbrev S8x64 : Shape := ⟨2, ![8, 64]⟩
abbrev S8x33600 : Shape := ⟨2, ![8, 33600]⟩
abbrev S4x33600 : Shape := ⟨2, ![4, 33600]⟩
abbrev S4x8x4200 : Shape := ⟨3, ![4, 8, 4200]⟩
abbrev S8x4200 : Shape := ⟨2, ![8, 4200]⟩
abbrev S20x4 : Shape := ⟨2, ![20, 4]⟩
abbrev S20x1 : Shape := ⟨2, ![20, 1]⟩
abbrev S20 : Shape := ⟨1, ![20]⟩
abbrev S20x1x1 : Shape := ⟨3, ![20, 1, 1]⟩
abbrev S20x8x4200 : Shape := ⟨3, ![20, 8, 4200]⟩
abbrev S20x8 : Shape := ⟨2, ![20, 8]⟩
abbrev S20x8x1 : Shape := ⟨3, ![20, 8, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x64x33600, .f32⟩
  | .hbm, ⟨1, _⟩ => ⟨S8x1x33600, .f32⟩
  | .hbm, ⟨2, _⟩ => ⟨S8x20x4, .f32⟩
  | .hbm, ⟨3, _⟩ => ⟨S8x8x4200, .f32⟩
  | .hbm, ⟨4, _⟩ => ⟨S1x1x1, .f32⟩
  | .hbm, ⟨5, _⟩ => ⟨S1x1x1, .f32⟩
  | .hbm, ⟨6, _⟩ => ⟨S1x1x1, .f32⟩
  | .local _ .vmem, ⟨0, _⟩ => ⟨S1x64x33600, .f32⟩
  | .local _ .vmem, ⟨1, _⟩ => ⟨S1x64x33600, .f32⟩
  | .local _ .vmem, ⟨2, _⟩ => ⟨S1x8x4200, .f32⟩
  | .local _ .vmem, ⟨3, _⟩ => ⟨S1x8x4200, .f32⟩
  | .local _ .vmem, ⟨4, _⟩ => ⟨S1x20x4, .f32⟩
  | .local _ .vmem, ⟨5, _⟩ => ⟨S1x20x4, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S8x64x33600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v334 : BitVec 1 := Scalar.cmpi .eq arg0 c7_i32
  let v335 : BitVec 32 := Scalar.extui v334
  let c0_i32_93 : BitVec 32 := 0#32
  let v336 : BitVec 1 := Scalar.cmpi .ne v335 c0_i32_93
  v336

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x64x33600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x64x33600 : Shape := ⟨3, ![8, 64, 33600]⟩
abbrev S8x1x33600 : Shape := ⟨3, ![8, 1, 33600]⟩
abbrev S8x20x4 : Shape := ⟨3, ![8, 20, 4]⟩
abbrev S8x33600 : Shape := ⟨2, ![8, 33600]⟩
abbrev S8x4x16x33600 : Shape := ⟨4, ![8, 4, 16, 33600]⟩
abbrev S_ : Shape := ⟨0, ![]⟩
abbrev S8x4x33600 : Shape := ⟨3, ![8, 4, 33600]⟩
abbrev S8x4x1x33600 : Shape := ⟨4, ![8, 4, 1, 33600]⟩
abbrev S16 : Shape := ⟨1, ![16]⟩
abbrev S1x1x16x1 : Shape := ⟨4, ![1, 1, 16, 1]⟩
abbrev S8x20x1 : Shape := ⟨3, ![8, 20, 1]⟩
abbrev S8x20 : Shape := ⟨2, ![8, 20]⟩
abbrev S8x20x33600 : Shape := ⟨3, ![8, 20, 33600]⟩
abbrev S8x20x10 : Shape := ⟨3, ![8, 20, 10]⟩
abbrev S1x1x1x33600 : Shape := ⟨4, ![1, 1, 1, 33600]⟩
abbrev S8x20x10x1 : Shape := ⟨4, ![8, 20, 10, 1]⟩
abbrev S8x20x10x33600 : Shape := ⟨4, ![8, 20, 10, 33600]⟩
abbrev S8 : Shape := ⟨1, ![8]⟩
abbrev S1x1x1 : Shape := ⟨3, ![1, 1, 1]⟩

abbrev nBuf : Space → Nat
  | .hbm => 229
  | .vmem => 0
  | .smem => 0
  | _ => 0

abbrev hbmTy0_0 (i : Nat) : BufTy := match i % 128 with
  | 0 => ⟨S8x64x33600, .f32⟩
  | 1 => ⟨S8x1x33600, .f32⟩
  | 2 => ⟨S8x20x4, .f32⟩
  | 3 => ⟨S8x33600, .f32⟩
  | 4 => ⟨S8x4x16x33600, .f32⟩
  | 5 => ⟨S_, .f32⟩
  | 6 => ⟨S8x4x33600, .f32⟩
  | 7 => ⟨S_, .f32⟩
  | 8 => ⟨S8x4x33600, .f32⟩
  | 9 => ⟨S8x4x33600, .f32⟩
  | 10 => ⟨S8x4x1x33600, .f32⟩
  | 11 => ⟨S8x4x16x33600, .f32⟩
  | 12 => ⟨S8x4x16x33600, .f32⟩
  | 13 => ⟨S8x4x16x33600, .f32⟩
  | 14 => ⟨S_, .f32⟩
  | 15 => ⟨S8x4x33600, .f32⟩
  | 16 => ⟨S8x4x1x33600, .f32⟩
  | 17 => ⟨S8x4x16x33600, .f32⟩
  | 18 => ⟨S8x4x16x33600, .f32⟩
  | 19 => ⟨S16, .i32⟩
  | 20 => ⟨S16, .f32⟩
  | 21 => ⟨S1x1x16x1, .f32⟩
  | 22 => ⟨S8x4x16x33600, .f32⟩
  | 23 => ⟨S8x4x16x33600, .f32⟩
  | 24 => ⟨S_, .f32⟩
  | 25 => ⟨S8x4x33600, .f32⟩
  | 26 => ⟨S8x1x33600, .f32⟩
  | 27 => ⟨S8x33600, .f32⟩
  | 28 => ⟨S8x33600, .f32⟩
  | 29 => ⟨S8x1x33600, .f32⟩
  | 30 => ⟨S8x33600, .f32⟩
  | 31 => ⟨S8x33600, .f32⟩
  | 32 => ⟨S8x1x33600, .f32⟩
  | 33 => ⟨S8x33600, .f32⟩
  | 34 => ⟨S8x1x33600, .f32⟩
  | 35 => ⟨S8x33600, .f32⟩
  | 36 => ⟨S8x1x33600, .f32⟩
  | 37 => ⟨S8x1x33600, .f32⟩
  | 38 => ⟨S8x1x33600, .f32⟩
  | 39 => ⟨S8x1x33600, .f32⟩
  | 40 => ⟨S8x20x1, .f32⟩
  | 41 => ⟨S8x20, .f32⟩
  | 42 => ⟨S8x20x1, .f32⟩
  | 43 => ⟨S8x20x1, .f32⟩
  | 44 => ⟨S8x20, .f32⟩
  | 45 => ⟨S8x20x1, .f32⟩
  | 46 => ⟨S8x20x1, .f32⟩
  | 47 => ⟨S8x20, .f32⟩
  | 48 => ⟨S8x20x1, .f32⟩
  | 49 => ⟨S8x20x1, .f32⟩
  | 50 => ⟨S8x20, .f32⟩
  | 51 => ⟨S8x20x1, .f32⟩
  | 52 => ⟨S8x1x33600, .f32⟩
  | 53 => ⟨S8x1x33600, .f32⟩
  | 54 => ⟨S8x20x1, .f32⟩
  | 55 => ⟨S8x20x1, .f32⟩
  | 56 => ⟨S8x20x33600, .f32⟩
  | 57 => ⟨S8x20x33600, .f32⟩
  | 58 => ⟨S8x20x33600, .f32⟩
  | 59 => ⟨S8x20x33600, .f32⟩
  | 60 => ⟨S8x20x33600, .f32⟩
  | 61 => ⟨S8x20x33600, .f32⟩
  | 62 => ⟨S8x20x33600, .f32⟩
  | 63 => ⟨S_, .f32⟩
  | 64 => ⟨S8x20x33600, .f32⟩
  | 65 => ⟨S8x20x33600, .f32⟩
  | 66 => ⟨S8x20x33600, .f32⟩
  | 67 => ⟨S8x20x33600, .f32⟩
  | 68 => ⟨S8x20x33600, .f32⟩
  | 69 => ⟨S8x20x33600, .f32⟩
  | 70 => ⟨S8x20x33600, .f32⟩
  | 71 => ⟨S8x20x33600, .f32⟩
  | 72 => ⟨S8x20x33600, .f32⟩
  | 73 => ⟨S_, .f32⟩
  | 74 => ⟨S8x20x33600, .f32⟩
  | 75 => ⟨S8x20x33600, .f32⟩
  | 76 => ⟨S8x20x33600, .f32⟩
  | 77 => ⟨S8x1x33600, .f32⟩
  | 78 => ⟨S8x20x1, .f32⟩
  | 79 => ⟨S8x20x33600, .f32⟩
  | 80 => ⟨S8x20x33600, .f32⟩
  | 81 => ⟨S8x20x33600, .f32⟩
  | 82 => ⟨S8x20x33600, .f32⟩
  | 83 => ⟨S_, .f32⟩
  | 84 => ⟨S8x20x33600, .f32⟩
  | 85 => ⟨S8x20x33600, .f32⟩
  | 86 => ⟨S8x20x33600, .f32⟩
  | 87 => ⟨S8x20x33600, .f32⟩
  | 88 => ⟨S8x20x33600, .f32⟩
  | 89 => ⟨S8x20x33600, .f32⟩
  | 90 => ⟨S8x20x33600, .f32⟩
  | 91 => ⟨S8x20x33600, .f32⟩
  | 92 => ⟨S8x20x33600, .f32⟩
  | 93 => ⟨S8x20x33600, .f32⟩
  | 94 => ⟨S8x20x33600, .f32⟩
  | 95 => ⟨S8x20x33600, .f32⟩
  | 96 => ⟨S8x20x33600, .f32⟩
  | 97 => ⟨S8x20x33600, .f32⟩
  | 98 => ⟨S8x20x33600, .f32⟩
  | 99 => ⟨S8x20x33600, .f32⟩
  | 100 => ⟨S8x20x33600, .f32⟩
  | 101 => ⟨S8x20x33600, .f32⟩
  | 102 => ⟨S8x20x33600, .f32⟩
  | 103 => ⟨S8x20x33600, .f32⟩
  | 104 => ⟨S_, .f32⟩
  | 105 => ⟨S8x20x33600, .f32⟩
  | 106 => ⟨S8x20x33600, .f32⟩
  | 107 => ⟨S8x20x1, .f32⟩
  | 108 => ⟨S8x20x33600, .f32⟩
  | 109 => ⟨S8x20x33600, .f32⟩
  | 110 => ⟨S8x20x33600, .f32⟩
  | 111 => ⟨S8x20x33600, .f32⟩
  | 112 => ⟨S8x20x33600, .f32⟩
  | 113 => ⟨S8x20x33600, .f32⟩
  | 114 => ⟨S8x20x1, .f32⟩
  | 115 => ⟨S8x20x33600, .f32⟩
  | 116 => ⟨S8x20x33600, .f32⟩
  | 117 => ⟨S8x20x33600, .f32⟩
  | 118 => ⟨S8x20x33600, .f32⟩
  | 119 => ⟨S8x20x33600, .f32⟩
  | 120 => ⟨S8x20x33600, .f32⟩
  | 121 => ⟨S8x20x33600, .f32⟩
  | 122 => ⟨S_, .f32⟩
  | 123 => ⟨S8x20x33600, .f32⟩
  | 124 => ⟨S8x20x33600, .f32⟩
  | 125 => ⟨S_, .f32⟩
  | 126 => ⟨S8x20x1, .f32⟩
  | 127 => ⟨S8x20x1, .f32⟩
  | _ => ⟨S8x64x33600, .f32⟩

abbrev hbmTy0_1 (i : Nat) : BufTy := match i % 128 with
  | 0 => ⟨S8x20x1, .f32⟩
  | 1 => ⟨S8x20x1, .f32⟩
  | 2 => ⟨S_, .f32⟩
  | 3 => ⟨S8x1x33600, .f32⟩
  | 4 => ⟨S8x1x33600, .f32⟩
  | 5 => ⟨S8x1x33600, .f32⟩
  | 6 => ⟨S8x1x33600, .f32⟩
  | 7 => ⟨S8x20x33600, .f32⟩
  | 8 => ⟨S8x20x33600, .f32⟩
  | 9 => ⟨S8x20x33600, .f32⟩
  | 10 => ⟨S8x20x33600, .f32⟩
  | 11 => ⟨S_, .f32⟩
  | 12 => ⟨S8x20x33600, .f32⟩
  | 13 => ⟨S8x20x33600, .f32⟩
  | 14 => ⟨S8x20x33600, .f32⟩
  | 15 => ⟨S_, .f32⟩
  | 16 => ⟨S8x20x33600, .f32⟩
  | 17 => ⟨S8x20x33600, .f32⟩
  | 18 => ⟨S8x20x33600, .f32⟩
  | 19 => ⟨S8x20x33600, .f32⟩
  | 20 => ⟨S8x20x33600, .f32⟩
  | 21 => ⟨S8x20x33600, .f32⟩
  | 22 => ⟨S8x20x33600, .f32⟩
  | 23 => ⟨S8x20x10, .f32⟩
  | 24 => ⟨S8x20x10, .i32⟩
  | 25 => ⟨S_, .f32⟩
  | 26 => ⟨S8x20x10, .f32⟩
  | 27 => ⟨S8x20x10, .i1⟩
  | 28 => ⟨S1x1x1x33600, .i32⟩
  | 29 => ⟨S8x20x10x1, .i32⟩
  | 30 => ⟨S8x20x10x33600, .i32⟩
  | 31 => ⟨S8x20x10x33600, .i32⟩
  | 32 => ⟨S8x20x10x33600, .i1⟩
  | 33 => ⟨S8x20x10x1, .i1⟩
  | 34 => ⟨S8x20x10x33600, .i1⟩
  | 35 => ⟨S8x20x10x33600, .i1⟩
  | 36 => ⟨S_, .i1⟩
  | 37 => ⟨S8x20x33600, .i1⟩
  | 38 => ⟨S_, .i1⟩
  | 39 => ⟨S8x33600, .i1⟩
  | 40 => ⟨S_, .f32⟩
  | 41 => ⟨S_, .f32⟩
  | 42 => ⟨S8x20x33600, .f32⟩
  | 43 => ⟨S8x20x33600, .f32⟩
  | 44 => ⟨S_, .f32⟩
  | 45 => ⟨S8x33600, .f32⟩
  | 46 => ⟨S8x33600, .f32⟩
  | 47 => ⟨S_, .f32⟩
  | 48 => ⟨S8, .f32⟩
  | 49 => ⟨S_, .f32⟩
  | 50 => ⟨S8, .f32⟩
  | 51 => ⟨S8, .i1⟩
  | 52 => ⟨S_, .f32⟩
  | 53 => ⟨S8x33600, .f32⟩
  | 54 => ⟨S8x33600, .f32⟩
  | 55 => ⟨S8x33600, .f32⟩
  | 56 => ⟨S_, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S_, .f32⟩
  | 64 => ⟨S8, .f32⟩
  | 65 => ⟨S8, .f32⟩
  | 66 => ⟨S_, .f32⟩
  | 67 => ⟨S8x33600, .f32⟩
  | 68 => ⟨S8x33600, .f32⟩
  | 69 => ⟨S8x33600, .f32⟩
  | 70 => ⟨S8x33600, .f32⟩
  | 71 => ⟨S8x33600, .i1⟩
  | 72 => ⟨S8x33600, .f32⟩
  | 73 => ⟨S8x33600, .f32⟩
  | 74 => ⟨S8x33600, .f32⟩
  | 75 => ⟨S8x33600, .f32⟩
  | 76 => ⟨S8x33600, .f32⟩
  | 77 => ⟨S8x33600, .f32⟩
  | 78 => ⟨S8x33600, .f32⟩
  | 79 => ⟨S8x33600, .f32⟩
  | 80 => ⟨S8x33600, .f32⟩
  | 81 => ⟨S8x33600, .f32⟩
  | 82 => ⟨S_, .f32⟩
  | 83 => ⟨S8, .f32⟩
  | 84 => ⟨S_, .f32⟩
  | 85 => ⟨S8, .f32⟩
  | 86 => ⟨S8, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S1x1x1, .f32⟩
  | 99 => ⟨S1x1x1, .f32⟩
  | 100 => ⟨S1x1x1, .f32⟩
  | _ => ⟨S8x64x33600, .f32⟩

abbrev hbmTy (i : Nat) : BufTy := match i / 128 with
  | 0 => hbmTy0_0 i
  | 1 => hbmTy0_1 i
  | _ => ⟨S8x64x33600, .f32⟩

abbrev bufTy : (tb : Table) → Fin (tcTables nBuf tb) → BufTy
  | .hbm, ⟨i, _⟩ => hbmTy i
  | _, _ => ⟨S8x64x33600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_7 : Ref sig .tc := ⟨.hbm, 122, rfl⟩
abbrev main_v111 : Ref sig .tc := ⟨.hbm, 123, rfl⟩
abbrev main_v112 : Ref sig .tc := ⟨.hbm, 124, rfl⟩
abbrev main_cst_8 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_9 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_cst_10 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_11 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_values : Ref sig .tc := ⟨.hbm, 151, rfl⟩
abbrev main_indices : Ref sig .tc := ⟨.hbm, 152, rfl⟩
abbrev main_cst_12 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_c : Ref sig .tc := ⟨.hbm, 164, rfl⟩
abbrev main_v145 : Ref sig .tc := ⟨.hbm, 165, rfl⟩
abbrev main_c_13 : Ref sig .tc := ⟨.hbm, 166, rfl⟩
abbrev main_v146 : Ref sig .tc := ⟨.hbm, 167, rfl⟩
abbrev main_cst_14 : Ref sig .tc := ⟨.hbm, 168, rfl⟩
abbrev main_call0_v0 : Ref sig .tc := ⟨.hbm, 169, rfl⟩
abbrev main_call0_v1 : Ref sig .tc := ⟨.hbm, 170, rfl⟩
abbrev main_v147 : Ref sig .tc := ⟨.hbm, 171, rfl⟩
abbrev main_cst_15 : Ref sig .tc := ⟨.hbm, 172, rfl⟩
abbrev main_v148 : Ref sig .tc := ⟨.hbm, 173, rfl⟩
abbrev main_v149 : Ref sig .tc := ⟨.hbm, 174, rfl⟩
abbrev main_cst_16 : Ref sig .tc := ⟨.hbm, 175, rfl⟩
abbrev main_v150 : Ref sig .tc := ⟨.hbm, 176, rfl⟩
abbrev main_cst_17 : Ref sig .tc := ⟨.hbm, 177, rfl⟩
abbrev main_v151 : Ref sig .tc := ⟨.hbm, 178, rfl⟩
abbrev main_v152 : Ref sig .tc := ⟨.hbm, 179, rfl⟩
abbrev main_cst_18 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_cst_19 : Ref sig .tc := ⟨.hbm, 184, rfl⟩
abbrev main_v156 : Ref sig .tc := ⟨.hbm, 185, rfl⟩
abbrev main_cst_20 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_21 : Ref sig .tc := ⟨.hbm, 190, rfl⟩
abbrev main_call1_v0 : Ref sig .tc := ⟨.hbm, 191, rfl⟩
abbrev main_call1_v1 : Ref sig .tc := ⟨.hbm, 192, rfl⟩
abbrev main_v160 : Ref sig .tc := ⟨.hbm, 193, rfl⟩
abbrev main_call2_cst : Ref sig .tc := ⟨.hbm, 194, rfl⟩
abbrev main_call2_v0 : Ref sig .tc := ⟨.hbm, 195, rfl⟩
abbrev main_call2_v1 : Ref sig .tc := ⟨.hbm, 196, rfl⟩
abbrev main_call2_v2 : Ref sig .tc := ⟨.hbm, 197, rfl⟩
abbrev main_call2_v3 : Ref sig .tc := ⟨.hbm, 198, rfl⟩
abbrev main_call2_v4 : Ref sig .tc := ⟨.hbm, 199, rfl⟩
abbrev main_call2_v5 : Ref sig .tc := ⟨.hbm, 200, rfl⟩
abbrev main_call2_v6 : Ref sig .tc := ⟨.hbm, 201, rfl⟩
abbrev main_call2_v7 : Ref sig .tc := ⟨.hbm, 202, rfl⟩
abbrev main_call2_v8 : Ref sig .tc := ⟨.hbm, 203, rfl⟩
abbrev main_call2_v9 : Ref sig .tc := ⟨.hbm, 204, rfl⟩
abbrev main_call2_v10 : Ref sig .tc := ⟨.hbm, 205, rfl⟩
abbrev main_call2_v11 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_22 : Ref sig .tc := ⟨.hbm, 210, rfl⟩
abbrev main_v164 : Ref sig .tc := ⟨.hbm, 211, rfl⟩
abbrev main_cst_23 : Ref sig .tc := ⟨.hbm, 212, rfl⟩
abbrev main_v165 : Ref sig .tc := ⟨.hbm, 213, rfl⟩
abbrev main_v166 : Ref sig .tc := ⟨.hbm, 214, rfl⟩
abbrev main_cst_24 : Ref sig .tc := ⟨.hbm, 215, rfl⟩
abbrev main_v167 : Ref sig .tc := ⟨.hbm, 216, rfl⟩
abbrev main_cst_25 : Ref sig .tc := ⟨.hbm, 217, rfl⟩
abbrev main_v168 : Ref sig .tc := ⟨.hbm, 218, rfl⟩
abbrev main_cst_26 : Ref sig .tc := ⟨.hbm, 219, rfl⟩
abbrev main_v169 : Ref sig .tc := ⟨.hbm, 220, rfl⟩
abbrev main_cst_27 : Ref sig .tc := ⟨.hbm, 221, rfl⟩
abbrev main_v170 : Ref sig .tc := ⟨.hbm, 222, rfl⟩
abbrev main_v171 : Ref sig .tc := ⟨.hbm, 223, rfl⟩
abbrev main_cst_28 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩

abbrev nD : Nat := 1
abbrev τ : Topo := Topo.v7x

variable {F : FTy → Type} [FloatOps F]
-- ==== Proof.TopTen.lean ====
/-
  The ten best anchors of a target, read two ways: the first ten positions of the stable descending order
  (the reference's top-k), and the threshold that ten rounds of "take the maximum, strike it out" leave
  (the kernel's). Where the eleven best values drop strictly, or are no longer positive, the two readings
  choose the same anchors among those of positive value.
-/
module

public import Idealize.ShloMosaic.Lib.Pointwise
public import Idealize.ShloMosaic.Lib.SortFacts

@[expose] public section

noncomputable section

open Idealize.ShloMosaic

namespace Cert.Loss

/-- "Strictly greater" as the top-k's comparison of two positions. -/
def before {n : ℕ} (f : Fin n → EReal) (k k' : Fin n) : Bool :=
  FloatOps.cmpfTotal (F := Ideal) (φ := .f32) .gt (f k) (f k') == 1#1

/-- The positions of `f` in descending order of value, equal values in the order of their positions. -/
def order {n : ℕ} (f : Fin n → EReal) : Fin n → Fin n := sortedFrom (before f)

/-- The order of the sort: larger values first. -/
theorem before_eq_true {n : ℕ} (f : Fin n → EReal) (a b : Fin n) : before f a b = true ↔ f b < f a := by
  unfold before
  show ((Ideal.cmp .ogt (f a) (f b)) == 1#1) = true ↔ _
  unfold Ideal.cmp
  by_cases h : f b < f a <;> simp [h]

/-- When the sort does not put one place before another. -/
theorem before_eq_false {n : ℕ} (f : Fin n → EReal) (a b : Fin n) : before f a b = false ↔ f a ≤ f b := by
  rw [← Bool.not_eq_true, before_eq_true, not_lt]

/-- Every place occurs in the sorted order. -/
theorem order_surjective {n : ℕ} (f : Fin n → EReal) : Function.Surjective (order f) := sortedFrom_surjective _

/-- Later positions of the order hold values that are not greater. -/
theorem order_antitone {n : ℕ} (f : Fin n → EReal) {i j : Fin n} (h : i ≤ j) : f (order f j) ≤ f (order f i) := by
  rcases h.lt_or_eq with h | rfl
  · rw [← before_eq_false]
    refine sortedFrom_noInversion (before f) (before f) ?_ (fun _ _ h => h) ?_ i j h
    · intro a b hab
      rw [before_eq_true] at hab
      rw [before_eq_false]
      exact hab.le
    · intro a b c hab hbc
      rw [before_eq_false] at *
      exact hab.trans hbc
  · exact le_rfl

/-- Moving an index of a rank-3 array along its last axis. -/
theorem along_last {d₀ d₁ d₂ : ℕ} (b : Fin d₀) (j : Fin d₁) (n k : Fin d₂) (h : 2 < 3) :
    (ix3 b j n : (⟨3, ![d₀, d₁, d₂]⟩ : Shape).Idx).along ⟨2, h⟩ k = ix3 b j k := by
  funext a
  match a with
  | 0 => rfl
  | 1 => rfl
  | 2 => rfl

/-- The two results of a top-k along the last axis, at a position: the operand at that position of the descending
    order of its row, and the position itself as a word. -/
theorem topK_apply {k N : ℕ} (C : FVec Ideal ⟨3, ![8, 20, N]⟩ .f32)
    (h : (⟨3, ![8, 20, N]⟩ : Shape).Slices (fun _ => 0) ⟨3, ![8, 20, k]⟩) (hk : k ≤ N)
    (b : Fin 8) (j : Fin 20) (i : Fin k) :
    (Host.topK ⟨3, ![8, 20, k]⟩ 2 (FloatOps.cmpfTotal (F := Ideal) (φ := .f32) .gt) C h).1 (ix3 b j i)
        = C (ix3 b j (order (fun n : Fin N => C (ix3 b j n)) (Fin.castLE hk i)))
    ∧ (Host.topK ⟨3, ![8, 20, k]⟩ 2 (FloatOps.cmpfTotal (F := Ideal) (φ := .f32) .gt) C h).2 (ix3 b j i)
        = BitVec.ofNat 32 (order (fun n : Fin N => C (ix3 b j n)) (Fin.castLE hk i)).val := by
  have hsrc : ∀ {α : Type} (v : (⟨3, ![8, 20, N]⟩ : Shape).Idx → α),
      extractStridedSlice ⟨3, ![8, 20, k]⟩ (fun _ => 0) v h (ix3 b j i) = v (ix3 b j (Fin.castLE hk i)) := by
    intro α v
    unfold extractStridedSlice
    congr 1
    funext a
    match a with
    | 0 => exact Fin.ext (Nat.zero_add _)
    | 1 => exact Fin.ext (Nat.zero_add _)
    | 2 => exact Fin.ext (Nat.zero_add _)
  have hord : ∀ m : Fin N, sortedFrom (fun k₁ k₂ : Fin N =>
        FloatOps.cmpfTotal (F := Ideal) (φ := .f32) .gt (C ((ix3 b j m).along ⟨2, Nat.lt_succ_self 2⟩ k₁))
          (C ((ix3 b j m).along ⟨2, Nat.lt_succ_self 2⟩ k₂)) == 1#1) m = order (fun n : Fin N => C (ix3 b j n)) m := by
    intro m
    unfold order before
    congr 1
    funext k₁ k₂
    rw [along_last, along_last]
  unfold Host.topK
  simp only [hsrc]
  unfold Host.sort2
  simp only [show (2 : ℕ) < 3 from Nat.lt_succ_self 2, ↓reduceDIte]
  constructor
  · exact congrArg C ((along_last _ _ _ _ _).trans (congrArg (ix3 b j) (hord _)))
  · exact congrArg (fun m : Fin N => BitVec.ofNat 32 m.val) (hord _)

/-- Ten rounds of maximum-and-strike-out, `W i` the values left at round `i` and `t i` their maximum: where the
    values in descending order drop strictly through the eleventh, or are no longer positive, an anchor of
    positive value reaches the tenth maximum exactly when it is one of the first ten of the order. -/
theorem reaches_threshold_iff {n : ℕ} (hn : 11 ≤ n) (f : Fin n → EReal) (e : Fin n → Fin n)
    (he : Function.Surjective e) (hanti : ∀ i j : Fin n, i ≤ j → f (e j) ≤ f (e i))
    (hdrop : ∀ i : ℕ, (h : i < 10) →
      f (e ⟨i + 1, by omega⟩) < f (e ⟨i, by omega⟩) ∨ f (e ⟨i, by omega⟩) ≤ 0)
    (W : ℕ → Fin n → EReal) (t : ℕ → EReal) (h0 : W 0 = f)
    (hW : ∀ i a, W (i + 1) a = if W i a = t i then ⊥ else W i a)
    (ht : ∀ i, (∀ a, W i a ≤ t i) ∧ ∃ a, W i a = t i) (a : Fin n) (ha : 0 < f a) :
    t 9 ≤ f a ↔ ∃ i : Fin 10, e (Fin.castLE (by omega) i) = a := by
  classical
  have hinj : Function.Injective e := (Finite.injective_iff_surjective).2 he
  -- the state before round `i`: the first `i` of the order struck out, or nothing positive left
  have inv : ∀ i : ℕ, (hi : i ≤ 9) →
      (∀ k : Fin n, W i (e k) = if k.val < i then ⊥ else f (e k))
      ∨ ((∀ c, W i c ≤ 0) ∧ f (e ⟨i, by omega⟩) ≤ 0) := by
    intro i
    induction i with
    | zero => intro _; left; intro k; simp [h0]
    | succ i ih =>
      intro hi
      rcases ih (by omega) with hs | ⟨hneg, hf⟩
      · have hti : t i = f (e ⟨i, by omega⟩) := by
          obtain ⟨hle, c, hc⟩ := ht i
          apply le_antisymm
          · obtain ⟨k, rfl⟩ := he c
            rw [← hc, hs k]
            split
            · exact bot_le
            · exact hanti _ _ (by rw [Fin.le_def]; simp; omega)
          · have := hle (e ⟨i, by omega⟩)
            rw [hs] at this
            simpa using this
        rcases hdrop i (by omega) with hlt | hle
        · left
          intro k
          rw [hW, hti, hs k]
          rcases lt_trichotomy k.val i with hk | hk | hk
          · simp [hk, Nat.lt_succ_of_lt hk]
          · have : k = ⟨i, by omega⟩ := Fin.ext hk
            rw [this]
            simp
          · have h1 : f (e k) ≤ f (e ⟨i + 1, by omega⟩) := hanti _ _ (by rw [Fin.le_def]; simp; omega)
            have h2 : f (e k) ≠ f (e ⟨i, by omega⟩) := (h1.trans_lt hlt).ne
            have h3 : ¬ k.val < i := by omega
            have h4 : ¬ k.val < i + 1 := by omega
            simp [h3, h4, h2]
        · right
          refine ⟨fun c => ?_, (hanti _ _ (by rw [Fin.le_def]; simp)).trans hle⟩
          rw [hW]
          split
          · exact bot_le
          · exact ((ht i).1 c).trans (hti ▸ hle)
      · right
        refine ⟨fun c => ?_, (hanti _ _ (by rw [Fin.le_def]; simp)).trans hf⟩
        rw [hW]
        split
        · exact bot_le
        · exact hneg c
  obtain ⟨k, rfl⟩ := he a
  have hmem : (∃ i : Fin 10, e (Fin.castLE (by omega) i) = e k) ↔ k.val < 10 := by
    constructor
    · rintro ⟨i, hi⟩
      rw [← hinj hi]
      simp
    · intro hk
      exact ⟨⟨k.val, hk⟩, rfl⟩
  rw [hmem]
  rcases inv 9 le_rfl with hs | ⟨hneg, hf⟩
  · have ht9 : t 9 = f (e ⟨9, by omega⟩) := by
      obtain ⟨hle, c, hc⟩ := ht 9
      apply le_antisymm
      · obtain ⟨l, rfl⟩ := he c
        rw [← hc, hs l]
        split
        · exact bot_le
        · exact hanti _ _ (by rw [Fin.le_def]; simp; omega)
      · have := hle (e ⟨9, by omega⟩)
        rw [hs] at this
        simpa using this
    rw [ht9]
    constructor
    · intro h
      by_contra hk
      have h1 : f (e k) ≤ f (e ⟨9 + 1, by omega⟩) := hanti _ _ (by rw [Fin.le_def]; simp; omega)
      rcases hdrop 9 (by omega) with hlt | hle
      · exact absurd h (not_le.2 (h1.trans_lt hlt))
      · have h2 : f (e k) ≤ f (e ⟨9, by omega⟩) := hanti _ _ (by rw [Fin.le_def]; simp; omega)
        exact absurd ha (not_lt.2 (h2.trans hle))
    · intro hk
      exact hanti _ _ (by rw [Fin.le_def]; simp; omega)
  · have ht9 : t 9 ≤ 0 := by
      obtain ⟨_, c, hc⟩ := ht 9
      exact hc ▸ hneg c
    refine ⟨fun _ => ?_, fun _ => ht9.trans ha.le⟩
    by_contra hk
    have h2 : f (e k) ≤ f (e ⟨9, by omega⟩) := hanti _ _ (by rw [Fin.le_def]; simp; omega)
    exact absurd ha (not_lt.2 (h2.trans hf))

end Cert.Loss
-- ==== Proof.Overlap.lean ====
/-
  The complete IoU of one predicted box with one target, over the reals, and the two ways it is computed: the
  kernel divides once (`iou - (rho2 * alpha_den + v * v * c2) / (c2 * alpha_den)`), the reference twice
  (`iou - (rho2 / c2 + v * (v / alpha_den))`). Both are stated on extended reals, as the programs compute them,
  and evaluated where the box, the target and the two arctangents are real numbers.
-/
module

public import Idealize.ShloMosaic.Lib.Pointwise

@[expose] public section

noncomputable section

open Idealize.ShloMosaic

namespace Cert.Loss

/-! ### Constants -/

/-- The real number that an f32 word denotes. -/
def cst (w : BitVec 32) : ℝ := (Ideal.ofBits .f32 w).toReal

/-- A word whose exponent is not all ones denotes a real number. -/
theorem ofBits_cst (w : BitVec 32) (hw : (w.extractLsb' 23 8).toNat ≠ 255) : Ideal.ofBits .f32 w = ((cst w : ℝ) : EReal) := by
  unfold cst
  simp only [Ideal.ofBits, Ideal.ieee]
  rw [if_neg (by simpa using hw)]
  split <;> rw [EReal.toReal_coe]

/-- A word of clear sign whose exponent is neither all zeros nor all ones denotes a positive real. -/
theorem cst_pos (w : BitVec 32) (hw : (w.extractLsb' 23 8).toNat ≠ 255) (h0 : (w.extractLsb' 23 8).toNat ≠ 0)
    (hs : w.extractLsb' 31 1 = 0#1) : 0 < cst w := by
  unfold cst
  simp only [Ideal.ofBits, Ideal.ieee]
  rw [if_neg (by simpa using hw), if_neg (by simpa using h0), EReal.toReal_coe]
  have : ((w.extractLsb' (8 + 23) 1) == 1#1) = false := by rw [show (8 + 23 : ℕ) = 31 from rfl, hs]; rfl
  rw [this, if_neg Bool.false_ne_true]
  positivity

/-- The word of one quarter. -/
theorem ofBits_quarter : Ideal.ofBits .f32 0x3E800000#32 = ((1 / 4 : ℝ) : EReal) := by
  simp [Ideal.ofBits, Ideal.ieee, -EReal.coe_mul]; norm_num

/-- The word of four. -/
theorem ofBits_four : Ideal.ofBits .f32 0x40800000#32 = ((4 : ℝ) : EReal) := by
  simp [Ideal.ofBits, Ideal.ieee, -EReal.coe_mul]; norm_num

/-- The small number `1e-7`, as the f32 word denotes it. -/
abbrev eps : ℝ := cst 0x33D6BF95#32
/-- `1 + 1e-7`, as the f32 word denotes it. -/
abbrev onePlus : ℝ := cst 0x3F800001#32
/-- `4 / pi ^ 2`, as the f32 word denotes it. -/
abbrev vScale : ℝ := cst 0x3ECF817B#32

/-- The small constant is positive. -/
theorem eps_pos : 0 < eps := cst_pos _ (by decide) (by decide) (by decide)
/-- The scale of the aspect term is positive. -/
theorem vScale_pos : 0 < vScale := cst_pos _ (by decide) (by decide) (by decide)
/-- One plus the small constant, rounded, is at least one. -/
theorem onePlus_ge : 1 ≤ onePlus := by
  have h : Ideal.ofBits .f32 0x3F800001#32 = ((1 + 2⁻¹ ^ 23 : ℝ) : EReal) := by
    simp [Ideal.ofBits, Ideal.ieee, -EReal.coe_mul, -EReal.coe_add]; norm_num
  unfold onePlus cst
  rw [h, EReal.toReal_coe]
  norm_num

/-- The small constant's word. -/
theorem ofBits_eps : Ideal.ofBits .f32 0x33D6BF95#32 = (eps : EReal) := ofBits_cst _ (by decide)
/-- The word of one plus the small constant. -/
theorem ofBits_onePlus : Ideal.ofBits .f32 0x3F800001#32 = (onePlus : EReal) := ofBits_cst _ (by decide)
/-- The word of the aspect term's scale. -/
theorem ofBits_vScale : Ideal.ofBits .f32 0x3ECF817B#32 = (vScale : EReal) := ofBits_cst _ (by decide)

/-! ### Real arguments -/

/-- The larger of two reals among the extended reals. -/
theorem coe_max (a b : ℝ) : ((max a b : ℝ) : EReal) = max (a : EReal) (b : EReal) :=
  EReal.coe_strictMono.monotone.map_max
/-- The smaller of two reals among the extended reals. -/
theorem coe_min (a b : ℝ) : ((min a b : ℝ) : EReal) = min (a : EReal) (b : EReal) :=
  EReal.coe_strictMono.monotone.map_min

/-- The ideal quotient of reals, by a divisor that is not zero. -/
theorem div_real {a b : ℝ} (hb : b ≠ 0) : Ideal.div (a : EReal) (b : EReal) = ((a / b : ℝ) : EReal) := by
  rw [Ideal.div_coe hb, ← EReal.coe_mul]; congr 1; ring

/-! ### The complete IoU -/

section
variable (a₁ a₂ p₁ q₁ p₂ q₂ x₁ y₁ x₂ y₂ : ℝ)

/-- The area common to the box `(p₁, q₁) – (p₂, q₂)` and the target `(x₁, y₁) – (x₂, y₂)`. -/
def inter : ℝ := max (min p₂ x₂ - max p₁ x₁) 0 * max (min q₂ y₂ - max q₁ y₁) 0
/-- The area of their union, plus the small number. -/
def union : ℝ := (p₂ - p₁) * (q₂ - q₁) + (x₂ - x₁) * (y₂ - y₁) - inter p₁ q₁ p₂ q₂ x₁ y₁ x₂ y₂ + eps
/-- The squared diagonal of the smallest box around both, plus the small number. -/
def diag : ℝ := (max p₂ x₂ - min p₁ x₁) ^ 2 + (max q₂ y₂ - min q₁ y₁) ^ 2 + eps
/-- The squared distance of the centres. -/
def dist : ℝ := ((x₁ + x₂ - p₁ - p₂) ^ 2 + (y₁ + y₂ - q₁ - q₂) ^ 2) / 4
/-- The aspect ratio term from the two arctangents, the box's `a₁` and the target's `a₂`. -/
def aspect : ℝ := vScale * (a₂ - a₁) ^ 2

/-- The complete IoU; `⊥` where the union is zero, the value of `0 / 0`. -/
def ciou : EReal :=
  if union p₁ q₁ p₂ q₂ x₁ y₁ x₂ y₂ = 0 then ⊥
  else ((inter p₁ q₁ p₂ q₂ x₁ y₁ x₂ y₂ / union p₁ q₁ p₂ q₂ x₁ y₁ x₂ y₂
    - (dist p₁ q₁ p₂ q₂ x₁ y₁ x₂ y₂ / diag p₁ q₁ p₂ q₂ x₁ y₁ x₂ y₂
      + aspect a₁ a₂ * (aspect a₁ a₂
        / (aspect a₁ a₂ - inter p₁ q₁ p₂ q₂ x₁ y₁ x₂ y₂ / union p₁ q₁ p₂ q₂ x₁ y₁ x₂ y₂ + onePlus))) : ℝ) : EReal)

/-- A complete IoU is not positive infinity. -/
theorem ciou_ne_top : ciou a₁ a₂ p₁ q₁ p₂ q₂ x₁ y₁ x₂ y₂ ≠ ⊤ := by
  unfold ciou
  split
  · exact bot_ne_top
  · exact EReal.coe_ne_top _

/-- An intersection's area is not negative. -/
theorem inter_nonneg : 0 ≤ inter p₁ q₁ p₂ q₂ x₁ y₁ x₂ y₂ := by unfold inter; positivity
/-- The squared diagonal is positive. -/
theorem diag_pos : 0 < diag p₁ q₁ p₂ q₂ x₁ y₁ x₂ y₂ := by unfold diag; have := eps_pos; positivity
/-- The aspect term is not negative. -/
theorem aspect_nonneg : 0 ≤ aspect a₁ a₂ := by unfold aspect; have := vScale_pos; positivity

variable {p₁ q₁ p₂ q₂ x₁ y₁ x₂ y₂}

/-- The common area is twice counted in the areas, so the union exceeds it, unless the target is turned over in its
    first coordinate, where nothing is common. -/
theorem inter_cases (hp : p₁ ≤ p₂) (hq : q₁ ≤ q₂) (hy : y₁ ≤ y₂) :
    inter p₁ q₁ p₂ q₂ x₁ y₁ x₂ y₂ < union p₁ q₁ p₂ q₂ x₁ y₁ x₂ y₂ ∨ inter p₁ q₁ p₂ q₂ x₁ y₁ x₂ y₂ = 0 := by
  rcases le_total x₁ x₂ with hx | hx
  · left
    have hw1 : max (min p₂ x₂ - max p₁ x₁) 0 ≤ p₂ - p₁ :=
      max_le (by have := min_le_left p₂ x₂; have := le_max_left p₁ x₁; linarith) (by linarith)
    have hw2 : max (min p₂ x₂ - max p₁ x₁) 0 ≤ x₂ - x₁ :=
      max_le (by have := min_le_right p₂ x₂; have := le_max_right p₁ x₁; linarith) (by linarith)
    have hh1 : max (min q₂ y₂ - max q₁ y₁) 0 ≤ q₂ - q₁ :=
      max_le (by have := min_le_left q₂ y₂; have := le_max_left q₁ y₁; linarith) (by linarith)
    have hh2 : max (min q₂ y₂ - max q₁ y₁) 0 ≤ y₂ - y₁ :=
      max_le (by have := min_le_right q₂ y₂; have := le_max_right q₁ y₁; linarith) (by linarith)
    have h1 : inter p₁ q₁ p₂ q₂ x₁ y₁ x₂ y₂ ≤ (p₂ - p₁) * (q₂ - q₁) :=
      mul_le_mul hw1 hh1 (le_max_right _ _) (by linarith)
    have h2 : inter p₁ q₁ p₂ q₂ x₁ y₁ x₂ y₂ ≤ (x₂ - x₁) * (y₂ - y₁) :=
      mul_le_mul hw2 hh2 (le_max_right _ _) (by linarith)
    have := eps_pos
    unfold union
    linarith
  · right
    have : min p₂ x₂ - max p₁ x₁ ≤ 0 := by
      have := min_le_right p₂ x₂; have := le_max_right p₁ x₁; linarith
    unfold inter
    rw [max_eq_right this, zero_mul]

/-- The IoU is below one wherever it is a quotient. -/
theorem iou_lt_one (hp : p₁ ≤ p₂) (hq : q₁ ≤ q₂) (hy : y₁ ≤ y₂) :
    inter p₁ q₁ p₂ q₂ x₁ y₁ x₂ y₂ / union p₁ q₁ p₂ q₂ x₁ y₁ x₂ y₂ < 1 := by
  rcases inter_cases (x₁ := x₁) (x₂ := x₂) hp hq hy with h | h
  · rw [div_lt_one (lt_of_le_of_lt (inter_nonneg _ _ _ _ _ _ _ _) h)]
    exact h
  · rw [h, zero_div]
    exact one_pos

/-- The IoU as the programs divide it. -/
theorem iou_eq (hp : p₁ ≤ p₂) (hq : q₁ ≤ q₂) (hy : y₁ ≤ y₂) :
    Ideal.div (inter p₁ q₁ p₂ q₂ x₁ y₁ x₂ y₂ : EReal) (union p₁ q₁ p₂ q₂ x₁ y₁ x₂ y₂ : EReal)
      = if union p₁ q₁ p₂ q₂ x₁ y₁ x₂ y₂ = 0 then ⊥
        else ((inter p₁ q₁ p₂ q₂ x₁ y₁ x₂ y₂ / union p₁ q₁ p₂ q₂ x₁ y₁ x₂ y₂ : ℝ) : EReal) := by
  split
  · rename_i h
    have h0 : inter p₁ q₁ p₂ q₂ x₁ y₁ x₂ y₂ = 0 := by
      rcases inter_cases (x₁ := x₁) (x₂ := x₂) hp hq hy with h' | h'
      · have := inter_nonneg p₁ q₁ p₂ q₂ x₁ y₁ x₂ y₂
        linarith
      · exact h'
    rw [h, h0]
    simp [Ideal.div]
  · rename_i h
    exact div_real h

variable (p₁ q₁ p₂ q₂ x₁ y₁ x₂ y₂)

/-- The complete IoU in the kernel's operations: one division by the product of both denominators. -/
def ciouOneDivision (a₁ a₂ p₁ q₁ p₂ q₂ x₁ y₁ x₂ y₂ : EReal) : EReal :=
  let inter := max (min p₂ x₂ - max p₁ x₁) 0 * max (min q₂ y₂ - max q₁ y₁) 0
  let iou := Ideal.div inter
    ((p₂ - p₁) * (q₂ - q₁) + ((x₂ - x₁) * (y₂ - y₁) + Ideal.ofBits .f32 0x33D6BF95#32) - inter)
  let c2 := (max p₂ x₂ - min p₁ x₁) * (max p₂ x₂ - min p₁ x₁)
    + (max q₂ y₂ - min q₁ y₁) * (max q₂ y₂ - min q₁ y₁) + Ideal.ofBits .f32 0x33D6BF95#32
  let rho2 := ((x₁ + x₂ - (p₁ + p₂)) * (x₁ + x₂ - (p₁ + p₂)) + (y₁ + y₂ - (q₁ + q₂)) * (y₁ + y₂ - (q₁ + q₂)))
    * Ideal.ofBits .f32 0x3E800000#32
  let v := Ideal.ofBits .f32 0x3ECF817B#32 * ((a₂ - a₁) * (a₂ - a₁))
  let den := v - iou + Ideal.ofBits .f32 0x3F800001#32
  iou - Ideal.div (rho2 * den + v * v * c2) (c2 * den)

/-- The complete IoU in the reference's operations. -/
def ciouTwoDivisions (a₁ a₂ p₁ q₁ p₂ q₂ x₁ y₁ x₂ y₂ : EReal) : EReal :=
  let inter := max (min p₂ x₂ - max p₁ x₁) 0 * max (min q₂ y₂ - max q₁ y₁) 0
  let iou := Ideal.div inter
    ((p₂ - p₁) * (q₂ - q₁) + (x₂ - x₁) * (y₂ - y₁) - inter + Ideal.ofBits .f32 0x33D6BF95#32)
  let c2 := (max p₂ x₂ - min p₁ x₁) * (max p₂ x₂ - min p₁ x₁)
    + (max q₂ y₂ - min q₁ y₁) * (max q₂ y₂ - min q₁ y₁) + Ideal.ofBits .f32 0x33D6BF95#32
  let rho2 := Ideal.div ((x₁ + x₂ - p₁ - p₂) * (x₁ + x₂ - p₁ - p₂) + (y₁ + y₂ - q₁ - q₂) * (y₁ + y₂ - q₁ - q₂))
    (Ideal.ofBits .f32 0x40800000#32)
  let v := Ideal.ofBits .f32 0x3ECF817B#32 * ((a₂ - a₁) * (a₂ - a₁))
  iou - (Ideal.div rho2 c2 + v * Ideal.div v (v - iou + Ideal.ofBits .f32 0x3F800001#32))

variable {p₁ q₁ p₂ q₂ x₁ y₁ x₂ y₂}

/-- With one division, on real boxes, targets and arctangents. -/
theorem ciouOneDivision_eq (hp : p₁ ≤ p₂) (hq : q₁ ≤ q₂) (hy : y₁ ≤ y₂) :
    ciouOneDivision a₁ a₂ p₁ q₁ p₂ q₂ x₁ y₁ x₂ y₂ = ciou a₁ a₂ p₁ q₁ p₂ q₂ x₁ y₁ x₂ y₂ := by
  have hi := iou_eq (x₁ := x₁) (x₂ := x₂) hp hq hy
  have h1 := iou_lt_one (x₁ := x₁) (x₂ := x₂) hp hq hy
  have hu : (p₂ - p₁) * (q₂ - q₁) + ((x₂ - x₁) * (y₂ - y₁) + eps) - inter p₁ q₁ p₂ q₂ x₁ y₁ x₂ y₂
      = union p₁ q₁ p₂ q₂ x₁ y₁ x₂ y₂ := by unfold union; ring
  unfold inter at hu
  have hI : inter p₁ q₁ p₂ q₂ x₁ y₁ x₂ y₂ = max (min p₂ x₂ - max p₁ x₁) 0 * max (min q₂ y₂ - max q₁ y₁) 0 := rfl
  have hc := diag_pos p₁ q₁ p₂ q₂ x₁ y₁ x₂ y₂
  have hv := aspect_nonneg a₁ a₂
  have hk := onePlus_ge
  unfold ciouOneDivision
  simp only [ofBits_eps, ofBits_quarter, ofBits_vScale, ofBits_onePlus, ← EReal.coe_zero, ← EReal.coe_add,
    ← EReal.coe_sub, ← EReal.coe_mul, ← coe_max, ← coe_min, hu]
  rw [← hI, hi]
  unfold ciou
  split
  · exact EReal.bot_sub _
  · set i := inter p₁ q₁ p₂ q₂ x₁ y₁ x₂ y₂ / union p₁ q₁ p₂ q₂ x₁ y₁ x₂ y₂ with hidef
    have hd : 0 < aspect a₁ a₂ - i + onePlus := by linarith
    have hcd : (max p₂ x₂ - min p₁ x₁) * (max p₂ x₂ - min p₁ x₁) + (max q₂ y₂ - min q₁ y₁) * (max q₂ y₂ - min q₁ y₁) + eps
        = diag p₁ q₁ p₂ q₂ x₁ y₁ x₂ y₂ := by unfold diag; ring
    have hvd : vScale * ((a₂ - a₁) * (a₂ - a₁)) = aspect a₁ a₂ := by unfold aspect; ring
    have hrd : ((x₁ + x₂ - (p₁ + p₂)) * (x₁ + x₂ - (p₁ + p₂)) + (y₁ + y₂ - (q₁ + q₂)) * (y₁ + y₂ - (q₁ + q₂))) * (1 / 4)
        = dist p₁ q₁ p₂ q₂ x₁ y₁ x₂ y₂ := by unfold dist; ring
    simp only [← EReal.coe_add, ← EReal.coe_sub, ← EReal.coe_mul, hcd, hvd, hrd]
    rw [div_real (mul_pos hc hd).ne', ← EReal.coe_sub]
    congr 1
    generalize dist p₁ q₁ p₂ q₂ x₁ y₁ x₂ y₂ = ρ
    generalize aspect a₁ a₂ = v at *
    field_simp

/-- With two divisions, on real boxes, targets and arctangents. -/
theorem ciouTwoDivisions_eq (hp : p₁ ≤ p₂) (hq : q₁ ≤ q₂) (hy : y₁ ≤ y₂) :
    ciouTwoDivisions a₁ a₂ p₁ q₁ p₂ q₂ x₁ y₁ x₂ y₂ = ciou a₁ a₂ p₁ q₁ p₂ q₂ x₁ y₁ x₂ y₂ := by
  have hi := iou_eq (x₁ := x₁) (x₂ := x₂) hp hq hy
  have h1 := iou_lt_one (x₁ := x₁) (x₂ := x₂) hp hq hy
  have hu : (p₂ - p₁) * (q₂ - q₁) + (x₂ - x₁) * (y₂ - y₁) - inter p₁ q₁ p₂ q₂ x₁ y₁ x₂ y₂ + eps
      = union p₁ q₁ p₂ q₂ x₁ y₁ x₂ y₂ := rfl
  unfold inter at hu
  have hI : inter p₁ q₁ p₂ q₂ x₁ y₁ x₂ y₂ = max (min p₂ x₂ - max p₁ x₁) 0 * max (min q₂ y₂ - max q₁ y₁) 0 := rfl
  have hc := diag_pos p₁ q₁ p₂ q₂ x₁ y₁ x₂ y₂
  have hv := aspect_nonneg a₁ a₂
  have hk := onePlus_ge
  unfold ciouTwoDivisions
  simp only [ofBits_eps, ofBits_four, ofBits_vScale, ofBits_onePlus, ← EReal.coe_zero, ← EReal.coe_add,
    ← EReal.coe_sub, ← EReal.coe_mul, ← coe_max, ← coe_min, hu]
  rw [← hI, hi]
  unfold ciou
  split
  · exact EReal.bot_sub _
  · set i := inter p₁ q₁ p₂ q₂ x₁ y₁ x₂ y₂ / union p₁ q₁ p₂ q₂ x₁ y₁ x₂ y₂ with hidef
    have hd : 0 < aspect a₁ a₂ - i + onePlus := by linarith
    have hcd : (max p₂ x₂ - min p₁ x₁) * (max p₂ x₂ - min p₁ x₁) + (max q₂ y₂ - min q₁ y₁) * (max q₂ y₂ - min q₁ y₁) + eps
        = diag p₁ q₁ p₂ q₂ x₁ y₁ x₂ y₂ := by unfold diag; ring
    have hvd : vScale * ((a₂ - a₁) * (a₂ - a₁)) = aspect a₁ a₂ := by unfold aspect; ring
    have hrd : ((x₁ + x₂ - p₁ - p₂) * (x₁ + x₂ - p₁ - p₂) + (y₁ + y₂ - q₁ - q₂) * (y₁ + y₂ - q₁ - q₂)) / 4
        = dist p₁ q₁ p₂ q₂ x₁ y₁ x₂ y₂ := by unfold dist; ring
    simp only [← EReal.coe_add, ← EReal.coe_sub, ← EReal.coe_mul, hcd, hvd, div_real (show (4 : ℝ) ≠ 0 by norm_num), hrd,
      div_real hc.ne', div_real hd.ne']

end

end Cert.Loss
-- ==== Proof.Loss.lean ====
/-
  The loss of one image over the reals, from its table `C` of complete IoUs (one row for each target, one column for
  each anchor) and its scores: which anchors each target chooses, each anchor's gain, and the two losses. Then the
  sums and largest values that the programs compute are evaluated to them.
-/
module

public import proofs.«01_k».proof.Proof.TopTen
public import proofs.«01_k».proof.Proof.Overlap

@[expose] public section

noncomputable section

open Idealize.ShloMosaic
open scoped Classical

namespace Cert.Loss

/-! ### Definitions -/

variable {M N : ℕ}

/-- Target `j` chooses anchor `n`: its value is positive and among the ten best. -/
def Chosen (hN : 10 ≤ N) (C : Fin M → Fin N → EReal) (j : Fin M) (n : Fin N) : Prop :=
  0 < C j n ∧ ∃ i : Fin 10, order (C j) (Fin.castLE hN i) = n

/-- The largest value with which a target has chosen the anchor, zero if none has. -/
def gain (hN : 10 ≤ N) (C : Fin M → Fin N → EReal) (n : Fin N) : ℝ :=
  Finset.univ.fold max 0 fun j => if Chosen hN C j n then (C j n).toReal else 0

/-- One if some target has chosen the anchor, zero if none has. -/
def positive (hN : 10 ≤ N) (C : Fin M → Fin N → EReal) (n : Fin N) : ℝ := if ∃ j, Chosen hN C j n then 1 else 0

/-- The number of chosen anchors. -/
def count (hN : 10 ≤ N) (C : Fin M → Fin N → EReal) : ℝ := ∑ n, positive hN C n

/-- The box loss of the image: the mean of one less the gain, over the chosen anchors. -/
def boxOf (hN : 10 ≤ N) (C : Fin M → Fin N → EReal) : ℝ :=
  if 0 < count hN C then (count hN C - ∑ n, gain hN C n) / max (count hN C) 1 else 0

/-- `log (1 + exp s)`, in the form that does not overflow. -/
def softplus (s : ℝ) : ℝ := Real.log (1 + Real.exp (-max s (-s))) + max s 0

/-- The number of anchors, as an f32 word denotes it. -/
abbrev anchors : ℝ := cst 0x47034000#32

/-- The number of anchors, as a float's value. -/
theorem ofBits_anchors : Ideal.ofBits .f32 0x47034000#32 = (anchors : EReal) := ofBits_cst _ (by decide)
/-- There are anchors. -/
theorem anchors_pos : 0 < anchors := cst_pos _ (by decide) (by decide) (by decide)

/-- The objectness loss of the image, from its scores `S`. -/
def objOf (hN : 10 ≤ N) (C : Fin M → Fin N → EReal) (S : Fin N → ℝ) : ℝ :=
  (∑ n, softplus (S n) - ∑ n, S n * gain hN C n) / anchors

/-! ### Sums, largest values and elementary functions of reals -/

/-- A sum of reals among the extended reals. -/
theorem coe_sum {ι : Type} (s : Finset ι) (f : ι → ℝ) : ((∑ i ∈ s, f i : ℝ) : EReal) = ∑ i ∈ s, (f i : EReal) := by
  induction s using Finset.induction_on with
  | empty => simp
  | insert a s h ih => rw [Finset.sum_insert h, Finset.sum_insert h, EReal.coe_add, ih]

/-- The absolute value of a real. -/
theorem absf_real (s : ℝ) : (FloatOps.absf (F := Ideal) (φ := .f32) (s : EReal) : EReal) = ((max s (-s) : ℝ) : EReal) := by
  rw [coe_max, EReal.coe_neg]; rfl

/-- The logarithm of one plus a real that is not negative. -/
theorem log1p_real {r : ℝ} (h : 0 ≤ r) : Ideal.log1p (r : EReal) = ((Real.log (1 + r) : ℝ) : EReal) := by
  unfold Ideal.log1p
  rw [← EReal.coe_one, ← EReal.coe_add]
  show (if 1 + r ≤ 0 then ⊥ else ((Real.log (1 + r) : ℝ) : EReal)) = _
  rw [if_neg (by linarith)]

/-- The kernel's order of the two terms. -/
theorem softplus_kernel (s : ℝ) :
    Ideal.log1p (Ideal.exp (0 - (FloatOps.absf (F := Ideal) (φ := .f32) (s : EReal) : EReal))) + max (s : EReal) 0
      = ((softplus s : ℝ) : EReal) := by
  rw [absf_real, ← EReal.coe_zero, ← EReal.coe_sub, zero_sub, Ideal.exp_coe, log1p_real (Real.exp_pos _).le, ← coe_max,
    ← EReal.coe_add]
  rfl

/-- The reference's order of the two terms. -/
theorem softplus_reference (s : ℝ) :
    max (s : EReal) 0 + Ideal.log1p (Ideal.exp (-(FloatOps.absf (F := Ideal) (φ := .f32) (s : EReal) : EReal)))
      = ((softplus s : ℝ) : EReal) := by
  rw [← softplus_kernel, add_comm, zero_sub]

/-- The word of negative infinity. -/
theorem ofBits_bot : Ideal.ofBits .f32 0xFF800000#32 = (⊥ : EReal) := by
  simp [Ideal.ofBits, Ideal.ieee]

/-! ### Gains -/

section
variable (hN : 10 ≤ N) (C : Fin M → Fin N → EReal) (n : Fin N)

/-- A gain is not negative. -/
theorem gain_nonneg : 0 ≤ gain hN C n := (Finset.le_fold_max _).2 (.inl le_rfl)

/-- A gain is zero or attained. -/
theorem gain_attained : gain hN C n = 0 ∨ ∃ j, Chosen hN C j n ∧ gain hN C n = (C j n).toReal := by
  rcases (Finset.le_fold_max _).1 (le_refl (gain hN C n)) with h | ⟨j, -, h⟩
  · exact .inl (le_antisymm h (gain_nonneg hN C n))
  · by_cases hc : Chosen hN C j n
    · rw [if_pos hc] at h
      refine .inr ⟨j, hc, le_antisymm h ((Finset.le_fold_max _).2 (.inr ⟨j, Finset.mem_univ _, ?_⟩))⟩
      rw [if_pos hc]
    · rw [if_neg hc] at h
      exact .inl (le_antisymm h (gain_nonneg hN C n))

variable {C} in
/-- A chosen value is a real. -/
theorem chosen_real (hC : ∀ j n, C j n ≠ ⊤) {j : Fin M} (h : Chosen hN C j n) : ((C j n).toReal : EReal) = C j n :=
  EReal.coe_toReal (hC j n) (h.1.trans' (bot_lt_iff_ne_bot.2 EReal.zero_ne_bot)).ne'

variable {C} in
/-- A chosen value is at most the gain. -/
theorem chosen_le_gain (hC : ∀ j n, C j n ≠ ⊤) {j : Fin M} (h : Chosen hN C j n) : C j n ≤ (gain hN C n : EReal) := by
  rw [← chosen_real hN n hC h, EReal.coe_le_coe_iff]
  refine (Finset.le_fold_max _).2 (.inr ⟨j, Finset.mem_univ _, ?_⟩)
  rw [if_pos h]

variable {C} in
/-- Where values `w` agree with the chosen ones and are not positive elsewhere, the larger of zero and the largest
    of them is the gain. -/
theorem max_fold_eq_gain (hC : ∀ j n, C j n ≠ ⊤) (w : Fin M → EReal) (hw : ∀ j, Chosen hN C j n → w j = C j n)
    (hw' : ∀ j, ¬ Chosen hN C j n → w j ≤ 0) : max (Finset.univ.fold max ⊥ w) 0 = (gain hN C n : EReal) := by
  have h0 : (0 : EReal) ≤ (gain hN C n : EReal) := by exact_mod_cast gain_nonneg hN C n
  refine le_antisymm (max_le ((Finset.fold_max_le _).2 ⟨bot_le, fun j _ => ?_⟩) h0) ?_
  · by_cases h : Chosen hN C j n
    · rw [hw j h]
      exact chosen_le_gain hN n hC h
    · exact (hw' j h).trans h0
  · rcases gain_attained hN C n with h | ⟨j, hj, h⟩
    · rw [h]
      exact le_max_right _ _
    · rw [h, chosen_real hN n hC hj, ← hw j hj]
      exact le_max_of_le_left ((Finset.le_fold_max _).2 (.inr ⟨j, Finset.mem_univ _, le_rfl⟩))

variable {C} in
/-- The largest of such values is positive exactly where some target has chosen the anchor. -/
theorem fold_pos_iff (w : Fin M → EReal) (hw : ∀ j, Chosen hN C j n → w j = C j n)
    (hw' : ∀ j, ¬ Chosen hN C j n → w j ≤ 0) : 0 < Finset.univ.fold max ⊥ w ↔ ∃ j, Chosen hN C j n := by
  constructor
  · intro h
    by_contra hn
    rw [not_exists] at hn
    exact absurd ((Finset.fold_max_le _).2 ⟨bot_le, fun j _ => hw' j (hn j)⟩) (not_le.2 h)
  · rintro ⟨j, hj⟩
    exact (Finset.lt_fold_max _).2 (.inr ⟨j, Finset.mem_univ _, by rw [hw j hj]; exact hj.1⟩)

variable {C} in
/-- The reference's largest value: of the chosen ones, with zeros elsewhere. -/
theorem fold_select_eq_gain [NeZero M] (hC : ∀ j n, C j n ≠ ⊤) :
    Finset.univ.fold max ⊥ (fun j => if Chosen hN C j n then C j n else 0) = (gain hN C n : EReal) := by
  rw [← max_fold_eq_gain hN n hC (fun j => if Chosen hN C j n then C j n else 0) (fun j h => if_pos h)
    (fun j h => (if_neg h).le), max_eq_left]
  refine (Finset.le_fold_max _).2 (.inr ⟨0, Finset.mem_univ _, ?_⟩)
  split
  · rename_i h
    exact h.1.le
  · exact le_rfl

/-- Where nothing is chosen, nothing is gained; so the gains are summed over the chosen anchors. -/
theorem one_sub_gain_mul : (1 - gain hN C n) * positive hN C n = positive hN C n - gain hN C n := by
  unfold positive
  split
  · ring
  · rename_i h
    rcases gain_attained hN C n with h0 | ⟨j, hj, -⟩
    · rw [h0]; ring
    · exact absurd ⟨j, hj⟩ h

end

/-! ### The losses as computed -/

section
variable (hN : 10 ≤ N) (C : Fin M → Fin N → EReal)

/-- The box loss from the number of chosen anchors and the sum of the gains. -/
theorem box_kernel :
    (if 0 < ((count hN C : ℝ) : EReal) then
      Ideal.div (((count hN C : ℝ) : EReal) - ((∑ n, gain hN C n : ℝ) : EReal)) (max ((count hN C : ℝ) : EReal) 1) else 0)
      = ((boxOf hN C : ℝ) : EReal) := by
  unfold boxOf
  have h1 : max (count hN C) 1 ≠ 0 := (lt_of_lt_of_le one_pos (le_max_right _ _)).ne'
  rw [← EReal.coe_sub, ← EReal.coe_one, ← coe_max, div_real h1]
  by_cases h : 0 < count hN C
  · rw [if_pos h, if_pos (by exact_mod_cast h)]
  · rw [if_neg h, if_neg (by exact_mod_cast h), EReal.coe_zero]

/-- The box loss from the sum, over the chosen anchors, of one less the gain. -/
theorem box_reference :
    (if 0 < ∑ n, ((positive hN C n : ℝ) : EReal) then
      Ideal.div (∑ n, (1 - ((gain hN C n : ℝ) : EReal)) * ((positive hN C n : ℝ) : EReal))
        (max (∑ n, ((positive hN C n : ℝ) : EReal)) 1) else 0)
      = ((boxOf hN C : ℝ) : EReal) := by
  have h : ∀ n, (1 - ((gain hN C n : ℝ) : EReal)) * ((positive hN C n : ℝ) : EReal)
      = ((positive hN C n - gain hN C n : ℝ) : EReal) := fun n => by
    rw [← one_sub_gain_mul, EReal.coe_mul, EReal.coe_sub, EReal.coe_one]
  have hc : ∑ n, ((positive hN C n : ℝ) : EReal) = ((count hN C : ℝ) : EReal) := (coe_sum _ _).symm
  have hs : ∑ n, (positive hN C n - gain hN C n) = count hN C - ∑ n, gain hN C n := Finset.sum_sub_distrib _ _
  rw [← box_kernel, hc]
  simp only [h]
  rw [← coe_sum, hs, EReal.coe_sub]

variable (S : Fin N → ℝ)

/-- The objectness loss from the two sums. -/
theorem obj_kernel :
    Ideal.div ((∑ n, ((softplus (S n) : ℝ) : EReal)) - ∑ n, (S n : EReal) * ((gain hN C n : ℝ) : EReal))
      (Ideal.ofBits .f32 0x47034000#32) = ((objOf hN C S : ℝ) : EReal) := by
  unfold objOf
  simp only [← EReal.coe_mul, ← coe_sum, ← EReal.coe_sub, ofBits_anchors, div_real anchors_pos.ne']

/-- The objectness loss from the sum of the differences. -/
theorem obj_reference :
    Ideal.div (∑ n, (((softplus (S n) : ℝ) : EReal) - (S n : EReal) * ((gain hN C n : ℝ) : EReal)))
      (Ideal.ofBits .f32 0x47034000#32) = ((objOf hN C S : ℝ) : EReal) := by
  unfold objOf
  simp only [← EReal.coe_mul, ← EReal.coe_sub, ← coe_sum, Finset.sum_sub_distrib, ofBits_anchors,
    div_real anchors_pos.ne']

end

end Cert.Loss
-- ==== Proof.KernelChoice.lean ====
/-
  How the kernel chooses: per target it strikes out the largest value nine times, takes the tenth largest as a
  threshold, and keeps the values that reach it. Where no two of the eleven best are tied, this is the choice of the
  ten best. Then the two losses of one image.
-/
module

public import proofs.«01_k».proof.Proof.Gen.KernelIdeal.Skeleton
public import proofs.«01_k».proof.Proof.Loss
public import Idealize.ShloMosaic.Lib.Pointwise
public import Idealize.ShloMosaic.Lib.Tactic.CleanTypes

@[expose] public section

set_option maxRecDepth 16384

noncomputable section

open Idealize.ShloMosaic Idealize.ShloMosaic.TcCoe Cert.KernelIdeal Cert.KernelIdeal.Gen

namespace Cert.Loss

/-! ### The anchors, in eight lines of 4200 -/

/-- The anchor at place `l` of line `s`. -/
def anchor (s : Fin 8) (l : Fin 4200) : Fin 33600 := ⟨s.val * 4200 + l.val, by omega⟩
/-- The row of an anchor. -/
def line (n : Fin 33600) : Fin 8 := ⟨n.val / 4200, by omega⟩
/-- The place of an anchor in its row. -/
def lane (n : Fin 33600) : Fin 4200 := ⟨n.val % 4200, by omega⟩

/-- An anchor is the one at its row and place. -/
theorem anchor_line_lane (n : Fin 33600) : anchor (line n) (lane n) = n :=
  Fin.ext (by show n.val / 4200 * 4200 + n.val % 4200 = n.val; omega)
/-- The row of the anchor at a row and a place. -/
theorem line_anchor (s : Fin 8) (l : Fin 4200) : line (anchor s l) = s :=
  Fin.ext (by show (s.val * 4200 + l.val) / 4200 = s.val; omega)
/-- The place of the anchor at a row and a place. -/
theorem lane_anchor (s : Fin 8) (l : Fin 4200) : lane (anchor s l) = l :=
  Fin.ext (by show (s.val * 4200 + l.val) % 4200 = l.val; omega)

/-- A sum over the lines and the places is a sum over the anchors. -/
theorem sum_anchor (g : Fin 33600 → EReal) : ∑ s : Fin 8, ∑ l : Fin 4200, g (anchor s l) = ∑ n, g n := by
  rw [← Fintype.sum_prod_type' fun s l => g (anchor s l)]
  exact Fintype.sum_equiv
    { toFun := fun p : Fin 8 × Fin 4200 => anchor p.1 p.2
      invFun := fun n => (line n, lane n)
      left_inv := fun p => by simp only [line_anchor, lane_anchor]
      right_inv := fun n => anchor_line_lane n } _ _ fun _ => rfl

/-! ### Striking out -/

/-- The largest value of each target. -/
def largest (W : FVec Ideal S20x8x4200 .f32) : FVec Ideal S20x1x1 .f32 :=
  shapeCast S20x1x1
    (multiReduction .maximumf [1] S20x1
      (shapeCast S20x8x1 (multiReduction .maximumf [2] S20x8 W 0xFF800000#32 reduces_S20x8x4200_S20x8 (.inl rfl) rfl)
        shapeCasts_S20x8_S20x8x1)
      0xFF800000#32 reduces_S20x8x1_S20x1 (.inl rfl) rfl)
    shapeCasts_S20x1_S20x1x1

/-- The array with each target's largest value struck out. -/
def strike (W : FVec Ideal S20x8x4200 .f32) : FVec Ideal S20x8x4200 .f32 :=
  select (cmpf .oeq W (broadcastTo S20x8x4200 (largest W) broadcasts_S20x1x1_S20x8x4200))
    (broadcast S20x8x4200 (Scalar.ofBits .f32 0xFF800000#32)) W

/-- The values of `C` that reach the threshold `T`, and the largest of them at each anchor. -/
def reaching (C : FVec Ideal S20x8x4200 .f32) (T : FVec Ideal S20x1x1 .f32) : FVec Ideal S8x4200 .f32 :=
  multiReduction .maximumf [0] S8x4200
    (select (cmpf .oge C (broadcastTo S20x8x4200 T broadcasts_S20x1x1_S20x8x4200)) C
      (broadcast S20x8x4200 (Scalar.ofBits .f32 0xFF800000#32)))
    0xFF800000#32 reduces_S20x8x4200_S8x4200 (.inl rfl) rfl

/-- At each anchor the largest value that is at least its target's tenth largest. -/
def bestOf (C : FVec Ideal S20x8x4200 .f32) : FVec Ideal S8x4200 .f32 :=
  reaching C (largest (strike (strike (strike (strike (strike (strike (strike (strike (strike C))))))))))

/-- The kernel's rounds are these. -/
theorem bestOf_eq (i n d : FVec Ideal S20x8x4200 .f32) :
    k0_pay55 (F := Ideal) (k0_pay52 i n d) (k0_pay53 i n d) (k0_pay54 i n d) = bestOf (k0_pay52 i n d) := rfl

/-- The largest value of a target is the largest over all anchors. -/
theorem largest_apply (W : FVec Ideal S20x8x4200 .f32) (j : Fin 20) :
    largest W (ix3 j 0 0) = Finset.univ.fold max ⊥ fun s : Fin 8 => Finset.univ.fold max ⊥ fun l : Fin 4200 => W (ix3 j s l) := by
  rw [← ofBits_bot]
  unfold largest
  pointwise

/-- Striking replaces what equals the threshold by minus infinity. -/
theorem strike_apply' (W : FVec Ideal S20x8x4200 .f32) (T : FVec Ideal S20x1x1 .f32) (j : Fin 20) (s : Fin 8) (l : Fin 4200) :
    select (cmpf .oeq W (broadcastTo S20x8x4200 T broadcasts_S20x1x1_S20x8x4200))
      (broadcast S20x8x4200 (Scalar.ofBits .f32 0xFF800000#32)) W (ix3 j s l)
      = if W (ix3 j s l) = T (ix3 j 0 0) then ⊥ else W (ix3 j s l) := by
  rw [← ofBits_bot]
  pointwise

/-- The largest over the targets of what reaches the target's threshold. -/
theorem reaching_apply (C : FVec Ideal S20x8x4200 .f32) (T : FVec Ideal S20x1x1 .f32) (s : Fin 8) (l : Fin 4200) :
    reaching C T (ix2 s l)
      = Finset.univ.fold max ⊥ fun j : Fin 20 => if T (ix3 j 0 0) ≤ C (ix3 j s l) then C (ix3 j s l) else ⊥ := by
  rw [← ofBits_bot]
  unfold reaching
  pointwise

/-! ### The choice -/

/-- The values of a target over all anchors. -/
def row (W : FVec Ideal S20x8x4200 .f32) (j : Fin 20) (n : Fin 33600) : EReal := W (ix3 j (line n) (lane n))

/-- A target's row at an anchor is the table at its row and place. -/
theorem row_anchor (W : FVec Ideal S20x8x4200 .f32) (j : Fin 20) (s : Fin 8) (l : Fin 4200) :
    row W j (anchor s l) = W (ix3 j s l) := by
  unfold row
  rw [line_anchor, lane_anchor]

/-- Striking in the table is striking in each target's row. -/
theorem row_strike (W : FVec Ideal S20x8x4200 .f32) (j : Fin 20) (n : Fin 33600) :
    row (strike W) j n = if row W j n = largest W (ix3 j 0 0) then ⊥ else row W j n := strike_apply' W (largest W) j _ _

/-- The largest value bounds all and is attained. -/
theorem largest_isGreatest (W : FVec Ideal S20x8x4200 .f32) (j : Fin 20) :
    (∀ n, row W j n ≤ largest W (ix3 j 0 0)) ∧ ∃ n, row W j n = largest W (ix3 j 0 0) := by
  have hle : ∀ n, row W j n ≤ largest W (ix3 j 0 0) := fun n => by
    rw [largest_apply]
    exact (Finset.le_fold_max _).2 (.inr ⟨line n, Finset.mem_univ _,
      (Finset.le_fold_max _).2 (.inr ⟨lane n, Finset.mem_univ _, le_rfl⟩)⟩)
  refine ⟨hle, ?_⟩
  rcases (Finset.le_fold_max _).1 (largest_apply W j).le with h | ⟨s, -, h⟩
  · exact ⟨0, le_antisymm (hle 0) (h.trans bot_le)⟩
  · rcases (Finset.le_fold_max _).1 h with h | ⟨l, -, h⟩
    · exact ⟨0, le_antisymm (hle 0) (h.trans bot_le)⟩
    · exact ⟨anchor s l, le_antisymm (hle _) (by rw [row_anchor]; exact h)⟩

/-- Nine applications are the ninth iterate. -/
theorem iterate_nine {α : Type} (f : α → α) (x : α) : f (f (f (f (f (f (f (f (f x)))))))) = f^[9] x := rfl

/-- There are at least ten anchors. -/
theorem ten_le : 10 ≤ 33600 := by norm_num
/-- There are at least eleven anchors. -/
theorem eleven_le : 11 ≤ 33600 := by norm_num

/-- No two of the eleven best values of a target are tied, unless at a value that is not positive. -/
def Untied {M N : ℕ} (hN : 11 ≤ N) (C : Fin M → Fin N → EReal) : Prop :=
  ∀ j (i : ℕ) (h : i < 10), C j (order (C j) ⟨i + 1, by omega⟩) < C j (order (C j) ⟨i, by omega⟩)
    ∨ C j (order (C j) ⟨i, by omega⟩) ≤ 0

section
variable {C : FVec Ideal S20x8x4200 .f32} {K : Fin 20 → Fin 33600 → EReal}

/-- What the kernel keeps of a target's value at an anchor. -/
def kept (C : FVec Ideal S20x8x4200 .f32) (j : Fin 20) (n : Fin 33600) : EReal :=
  if largest (strike^[9] C) (ix3 j 0 0) ≤ row C j n then row C j n else ⊥

/-- A positive value reaches the threshold exactly where it is among the ten best. -/
theorem reaches_iff (hC : ∀ j n, row C j n = K j n) (hK : Untied eleven_le K) (j : Fin 20) (n : Fin 33600) (h : 0 < K j n) :
    largest (strike^[9] C) (ix3 j 0 0) ≤ K j n ↔ ∃ i : Fin 10, order (K j) (Fin.castLE ten_le i) = n := by
  refine reaches_threshold_iff eleven_le (K j) (order (K j)) (order_surjective _) (fun _ _ h => order_antitone _ h)
    (hK j) (fun i n => row (strike^[i] C) j n) (fun i => largest (strike^[i] C) (ix3 j 0 0)) ?_ ?_ ?_ n h
  · exact funext (hC j)
  · intro i n
    rw [Function.iterate_succ_apply']
    exact row_strike _ _ _
  · intro i
    exact largest_isGreatest _ _

/-- A chosen value is kept. -/
theorem kept_chosen (hC : ∀ j n, row C j n = K j n) (hK : Untied eleven_le K) (j : Fin 20) (n : Fin 33600)
    (h : Chosen ten_le K j n) : kept C j n = K j n := by
  unfold kept
  rw [hC, if_pos ((reaches_iff hC hK j n h.1).2 h.2)]

/-- What is kept of a value that is not chosen is not positive. -/
theorem kept_not_chosen (hC : ∀ j n, row C j n = K j n) (hK : Untied eleven_le K) (j : Fin 20) (n : Fin 33600)
    (h : ¬ Chosen ten_le K j n) : kept C j n ≤ 0 := by
  unfold kept
  rw [hC]
  split
  · rename_i h1
    by_contra h2
    exact h ⟨not_le.1 h2, (reaches_iff hC hK j n (not_le.1 h2)).1 h1⟩
  · exact bot_le

/-- The best kept value of an anchor. -/
theorem bestOf_apply (C : FVec Ideal S20x8x4200 .f32) (s : Fin 8) (l : Fin 4200) :
    bestOf C (ix2 s l) = Finset.univ.fold max ⊥ fun j : Fin 20 => kept C j (anchor s l) := by
  unfold bestOf kept
  rw [reaching_apply, iterate_nine strike C]
  simp only [row_anchor]

/-- The kernel's gain at an anchor. -/
theorem max_bestOf (hC : ∀ j n, row C j n = K j n) (hK : Untied eleven_le K) (ht : ∀ j n, K j n ≠ ⊤) (s : Fin 8)
    (l : Fin 4200) : max (bestOf C (ix2 s l)) 0 = ((gain ten_le K (anchor s l) : ℝ) : EReal) := by
  rw [bestOf_apply]
  exact max_fold_eq_gain ten_le _ ht _ (fun j => kept_chosen hC hK j _) fun j => kept_not_chosen hC hK j _

/-- The best kept value is positive just where some target chooses the anchor. -/
theorem bestOf_pos_iff (hC : ∀ j n, row C j n = K j n) (hK : Untied eleven_le K) (s : Fin 8) (l : Fin 4200) :
    0 < bestOf C (ix2 s l) ↔ ∃ j, Chosen ten_le K j (anchor s l) := by
  rw [bestOf_apply]
  exact fold_pos_iff ten_le _ _ (fun j => kept_chosen hC hK j _) fun j => kept_not_chosen hC hK j _

end

/-! ### The two losses of an image -/

/-- One where the best value is positive, zero elsewhere. -/
def positiveLanes (m : FVec Ideal S8x4200 .f32) : FVec Ideal S8x4200 .f32 :=
  sitofp .f32 (extui 32 (cmpf .ogt m (broadcast S8x4200 (Scalar.ofBits .f32 0x00000000#32))) natLt_1_32)

/-- The mask of the positive anchors, as the kernel computes it. -/
theorem positiveLanes_eq (i n d : FVec Ideal S20x8x4200 .f32) :
    k0_pay56 (F := Ideal) (k0_pay52 i n d) (k0_pay53 i n d) (k0_pay54 i n d) = positiveLanes (bestOf (k0_pay52 i n d)) := rfl

/-- The mask of the positive anchors, at a lane. -/
theorem positiveLanes_apply (m : FVec Ideal S8x4200 .f32) (s : Fin 8) (l : Fin 4200) :
    positiveLanes m (ix2 s l) = if 0 < m (ix2 s l) then 1 else 0 := by
  unfold positiveLanes
  pointwise
  by_cases h : 0 < m (ix2 s l)
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- The box loss from the two sums. -/
theorem box_apply (m p : FVec Ideal S8x4200 .f32) (z : EReal) :
    k0_pay58 (F := Ideal) m p z = if 0 < ∑ s : Fin 8, ∑ l : Fin 4200, p (ix2 s l) then
      Ideal.div ((∑ s : Fin 8, ∑ l : Fin 4200, p (ix2 s l)) - ∑ s : Fin 8, ∑ l : Fin 4200, max (m (ix2 s l)) z)
        (max (∑ s : Fin 8, ∑ l : Fin 4200, p (ix2 s l)) 1) else 0 := by
  pointwise [k0_pay58, k0_pay57]

/-- The objectness loss from the two sums. -/
theorem obj_apply (m : FVec Ideal S8x4200 .f32) (z : EReal) (y : FVec Ideal S1x8x4200 .f32) :
    k0_pay59 (F := Ideal) m z y = Ideal.div ((∑ s : Fin 8, ∑ l : Fin 4200,
        (Ideal.log1p (Ideal.exp (0 - (FloatOps.absf (F := Ideal) (φ := .f32) (y (ix3 0 s l)) : EReal))) + max (y (ix3 0 s l)) 0))
      - ∑ s : Fin 8, ∑ l : Fin 4200, y (ix3 0 s l) * max (m (ix2 s l)) z) (Ideal.ofBits .f32 0x47034000#32) := by
  pointwise [k0_pay59, k0_pay57]

section
variable {C : FVec Ideal S20x8x4200 .f32} {K : Fin 20 → Fin 33600 → EReal}

/-- The mask holds one just where some target chooses the anchor. -/
theorem positiveLanes_bestOf (hC : ∀ j n, row C j n = K j n) (hK : Untied eleven_le K) (s : Fin 8) (l : Fin 4200) :
    positiveLanes (bestOf C) (ix2 s l) = ((positive ten_le K (anchor s l) : ℝ) : EReal) := by
  rw [positiveLanes_apply]
  unfold positive
  by_cases h : ∃ j, Chosen ten_le K j (anchor s l)
  · rw [if_pos h, if_pos ((bestOf_pos_iff hC hK s l).2 h), EReal.coe_one]
  · rw [if_neg h, if_neg (fun h' => h ((bestOf_pos_iff hC hK s l).1 h')), EReal.coe_zero]

/-- A sum over rows and places is the sum over the anchors. -/
theorem sum_coe_anchor (g : Fin 33600 → ℝ) :
    ∑ s : Fin 8, ∑ l : Fin 4200, ((g (anchor s l) : ℝ) : EReal) = ((∑ n, g n : ℝ) : EReal) :=
  (sum_anchor fun n => ((g n : ℝ) : EReal)).trans (coe_sum _ _).symm

/-- The kernel's box loss of an image is the box loss of its table. -/
theorem box_block (hC : ∀ j n, row C j n = K j n) (hK : Untied eleven_le K) (ht : ∀ j n, K j n ≠ ⊤) :
    k0_pay58 (F := Ideal) (bestOf C) (positiveLanes (bestOf C)) (0 : EReal) = ((boxOf ten_le K : ℝ) : EReal) := by
  rw [box_apply, ← box_kernel]
  simp only [positiveLanes_bestOf hC hK, max_bestOf hC hK ht]
  rw [sum_coe_anchor (positive ten_le K), sum_coe_anchor (gain ten_le K)]
  rfl

/-- The kernel's objectness loss of an image is the objectness loss of its table. -/
theorem obj_block (hC : ∀ j n, row C j n = K j n) (hK : Untied eleven_le K) (ht : ∀ j n, K j n ≠ ⊤)
    (y : FVec Ideal S1x8x4200 .f32) (S : Fin 33600 → ℝ) (hy : ∀ s l, y (ix3 0 s l) = ((S (anchor s l) : ℝ) : EReal)) :
    k0_pay59 (F := Ideal) (bestOf C) (0 : EReal) y = ((objOf ten_le K S : ℝ) : EReal) := by
  rw [obj_apply, ← obj_kernel]
  simp only [hy, max_bestOf hC hK ht, softplus_kernel]
  rw [sum_anchor fun n => ((softplus (S n) : ℝ) : EReal),
    sum_anchor fun n => ((S n : ℝ) : EReal) * ((gain ten_le K n : ℝ) : EReal)]

end

end Cert.Loss
-- ==== Proof.Decode.lean ====
/-
  One side's distance: the mean of `0 … 15` weighted by the exponentials of the sixteen logits. The reference subtracts
  the largest logit before the exponentials; the kernel divides two sums over all sixty-four logits of an anchor.
-/
module

public import proofs.«01_k».proof.Proof.Loss

@[expose] public section

noncomputable section

open Idealize.ShloMosaic

namespace Cert.Loss

/-- The sum of the exponentials. -/
def mass (x : Fin 16 → ℝ) : ℝ := ∑ k, Real.exp (x k)

/-- The weighted mean of `0 … 15`. -/
def expect (x : Fin 16 → ℝ) : ℝ := (∑ k : Fin 16, (k.val : ℝ) * Real.exp (x k)) / mass x

/-- The sum of exponentials is positive. -/
theorem mass_pos (x : Fin 16 → ℝ) : 0 < mass x :=
  Finset.sum_pos (fun k _ => Real.exp_pos (x k)) ⟨0, Finset.mem_univ _⟩

/-- An expected distance is not negative. -/
theorem expect_nonneg (x : Fin 16 → ℝ) : 0 ≤ expect x :=
  div_nonneg (Finset.sum_nonneg fun k _ => mul_nonneg (Nat.cast_nonneg _) (Real.exp_pos _).le) (mass_pos x).le

/-- A small integer as a number. -/
theorem sitofp_small (k : Fin 16) :
    (FloatOps.sitofp (F := Ideal) .f32 (BitVec.ofNat 32 k.val) : EReal) = ((k.val : ℝ) : EReal) := by
  have h : (BitVec.ofNat 32 k.val).toInt = (k.val : ℤ) := by revert k; decide
  show (((BitVec.ofNat 32 k.val).toInt : ℝ) : EReal) = _
  rw [h]
  norm_num

/-- The largest of sixteen reals is a real. -/
theorem fold_max_real (x : Fin 16 → ℝ) : ∃ m : ℝ, Finset.univ.fold max ⊥ (fun k => (x k : EReal)) = (m : EReal) := by
  have h1 : Finset.univ.fold max ⊥ (fun k => (x k : EReal)) ≠ ⊤ :=
    ((Finset.fold_max_lt _).2 ⟨bot_lt_top, fun k _ => EReal.coe_lt_top (x k)⟩).ne
  have h2 : Finset.univ.fold max ⊥ (fun k => (x k : EReal)) ≠ ⊥ :=
    ((EReal.bot_lt_coe (x 0)).trans_le ((Finset.le_fold_max _).2 (.inr ⟨0, Finset.mem_univ _, le_rfl⟩))).ne'
  exact ⟨_, (EReal.coe_toReal h1 h2).symm⟩

/-- Subtracting any real from every logit leaves the weighted mean as it is. -/
theorem expect_shift (x : Fin 16 → ℝ) (m : ℝ) :
    ∑ k : Fin 16, Ideal.div (Ideal.exp ((x k : EReal) - (m : EReal))) (∑ l : Fin 16, Ideal.exp ((x l : EReal) - (m : EReal)))
      * (FloatOps.sitofp (F := Ideal) .f32 (BitVec.ofNat 32 k.val) : EReal) = ((expect x : ℝ) : EReal) := by
  have hz : ∑ l : Fin 16, Real.exp (x l - m) = mass x * Real.exp (-m) := by
    unfold mass
    rw [Finset.sum_mul]
    refine Finset.sum_congr rfl fun l _ => ?_
    rw [← Real.exp_add, sub_eq_add_neg]
  have hne : mass x * Real.exp (-m) ≠ 0 := (mul_pos (mass_pos x) (Real.exp_pos _)).ne'
  simp only [← EReal.coe_sub, Ideal.exp_coe, sitofp_small]
  rw [← coe_sum, hz]
  simp only [div_real hne, ← EReal.coe_mul]
  rw [← coe_sum]
  congr 1
  unfold expect
  rw [Finset.sum_div]
  refine Finset.sum_congr rfl fun k _ => ?_
  have h1 := (mass_pos x).ne'
  have h2 := (Real.exp_pos (-m)).ne'
  rw [sub_eq_add_neg, Real.exp_add]
  field_simp

/-- The reference's distance. -/
theorem expect_reference (x : Fin 16 → ℝ) (M : EReal)
    (hM : M = max (Ideal.ofBits .f32 0xFF800000#32)
      (Finset.univ.fold max (Ideal.ofBits .f32 0xFF800000#32) fun k => (x k : EReal))) :
    ∑ k : Fin 16, Ideal.div (Ideal.exp ((x k : EReal) - M)) (∑ l : Fin 16, Ideal.exp ((x l : EReal) - M))
      * (FloatOps.sitofp (F := Ideal) .f32 (BitVec.ofNat 32 k.val) : EReal) = ((expect x : ℝ) : EReal) := by
  obtain ⟨m, hm⟩ := fold_max_real x
  rw [hM, ofBits_bot, hm, max_eq_right bot_le]
  exact expect_shift x m

/-! ### Sums over the sixty-four logits of an anchor -/

/-- The place of a side's logit among the sixty-four. -/
abbrev place (s : Fin 4) (k : Fin 16) : Fin 64 := ⟨s.val * 16 + k.val, by omega⟩

/-- A sum over sixty-four terms that vanish off one side is a sum over that side. -/
theorem sum_side (s : Fin 4) (g : Fin 64 → EReal) :
    ∑ c : Fin 64, (if c.val / 16 = s.val then g c else 0) = ∑ k : Fin 16, g (place s k) := by
  rw [← Finset.sum_filter]
  refine Finset.sum_bij' (fun c _ => ⟨c.val % 16, by omega⟩) (fun k _ => place s k) ?_ ?_ ?_ ?_ ?_
  · intro c _; exact Finset.mem_univ _
  · intro k _
    rw [Finset.mem_filter]
    exact ⟨Finset.mem_univ _, by show (s.val * 16 + k.val) / 16 = s.val; omega⟩
  · intro c hc
    have := (Finset.mem_filter.1 hc).2
    exact Fin.ext (by show s.val * 16 + c.val % 16 = c.val; omega)
  · intro k _
    exact Fin.ext (by show (s.val * 16 + k.val) % 16 = k.val; omega)
  · intro c hc
    have := (Finset.mem_filter.1 hc).2
    congr 1
    exact Fin.ext (by show c.val = s.val * 16 + c.val % 16; omega)

/-- A weighted sum of exponentials on one side, in two parts: the exponentials and what a split of each of them
    leaves, which is nothing. -/
theorem dot_side (s : Fin 4) (x : Fin 64 → ℝ) (w : Fin 64 → ℝ) (mask : Fin 64 → BitVec 1) (word : Fin 64 → BitVec 32)
    (hm : ∀ c, mask c = BitVec.ofBool (decide (c.val / 16 = s.val)))
    (hw : ∀ c, (FloatOps.sitofp (F := Ideal) .f32 (word c) : EReal) = (w c : EReal)) :
    (∑ c : Fin 64, Scalar.select (mask c) ((FloatOps.sitofp (F := Ideal) .f32 (word c) : EReal) * Ideal.exp (x c : EReal)) 0)
      + ∑ c : Fin 64, Scalar.select (mask c)
        ((FloatOps.sitofp (F := Ideal) .f32 (word c) : EReal) * (Ideal.exp (x c : EReal) - Ideal.exp (x c : EReal))) 0
      = ((∑ k : Fin 16, w (place s k) * Real.exp (x (place s k)) : ℝ) : EReal) := by
  have hsel : ∀ (c : Fin 64) (a : EReal), Scalar.select (mask c) a 0 = if c.val / 16 = s.val then a else 0 := by
    intro c a
    rw [hm]
    by_cases h : c.val / 16 = s.val
    · rw [decide_eq_true h, if_pos h]; rfl
    · rw [decide_eq_false h, if_neg h]; rfl
  simp only [hsel, hw, Ideal.exp_coe, ← EReal.coe_sub, sub_self, ← EReal.coe_mul, mul_zero]
  rw [sum_side s, sum_side s, ← coe_sum, ← coe_sum, ← EReal.coe_add, Finset.sum_const_zero, add_zero]

end Cert.Loss
-- ==== Proof.Reference.lean ====
/-
  The reference, as functions of whole arrays: the decoded distances, the complete IoU of every target with every
  anchor, the choice of the ten best anchors of each target, and the two totals. Each is read at an index. The two
  references differ only in how they compute the arctangents, so those are arguments here.
-/
module

public import proofs.«01_k».proof.Proof.Gen.ReferenceIdeal
public import proofs.«01_k».proof.Proof.Overlap

@[expose] public section

set_option maxRecDepth 16384

noncomputable section

open Idealize.ShloMosaic Idealize.ShloMosaic.TcCoe Cert.ReferenceIdeal Cert.ReferenceIdeal.Gen

namespace Cert.Loss

/-! ### The distances -/

/-- The logits by side and bin. -/
def sides (A : FVec Ideal S8x64x33600 .f32) : FVec Ideal S8x4x16x33600 .f32 :=
  shapeCast S8x4x16x33600 A shapeCasts_S8x64x33600_S8x4x16x33600

/-- The largest logit of each side. -/
def sideMax (X : FVec Ideal S8x4x16x33600 .f32) : FVec Ideal S8x4x33600 .f32 :=
  Host.reduce FloatOps.maximumf X (constant (F := Ideal) S_ .f32 0xFF800000#32)
    reducesTo_S8x4x16x33600_S8x4x33600_d2 h_S_

/-- The exponentials of the logits, each less the largest of its side. -/
def softExp (X : FVec Ideal S8x4x16x33600 .f32) : FVec Ideal S8x4x16x33600 .f32 :=
  Host.exp (subf X
    (broadcastInDim S8x4x16x33600 ![0, 1, 2, 3] bcast_S8x4x1x33600_S8x4x16x33600_0_1_2_3
      (broadcastInDim S8x4x1x33600 ![0, 1, 3] bcast_S8x4x33600_S8x4x1x33600_0_1_3
        (maximumf (broadcastInDim S8x4x33600 ![] bcast_S_S8x4x33600 (constant S_ .f32 0xFF800000#32))
          (sideMax X)))))

/-- The distance of each side: the mean of the bin numbers under the softmax. -/
def decoded (X : FVec Ideal S8x4x16x33600 .f32) : FVec Ideal S8x4x33600 .f32 :=
  Host.reduceAdd
    (mulf
      (Host.divf (softExp X)
        (broadcastInDim S8x4x16x33600 ![0, 1, 2, 3] bcast_S8x4x1x33600_S8x4x16x33600_0_1_2_3
          (broadcastInDim S8x4x1x33600 ![0, 1, 3] bcast_S8x4x33600_S8x4x1x33600_0_1_3
            (Host.reduceAdd (softExp X) (constant S_ .f32 0x00000000#32) reducesTo_S8x4x16x33600_S8x4x33600_d2 h_S_))))
      (broadcastInDim S8x4x16x33600 ![0, 1, 2, 3] bcast_S1x1x16x1_S8x4x16x33600_0_1_2_3
        (broadcastInDim S1x1x16x1 ![2] bcast_S16_S1x1x16x1_2 (sitofp .f32 (iotaInDim S16 32 0)))))
    (constant S_ .f32 0x00000000#32) reducesTo_S8x4x16x33600_S8x4x33600_d2 h_S_

/-- The distances in four sides of sixteen, at an index. -/
theorem sides_apply (A : FVec Ideal S8x64x33600 .f32) (b : Fin 8) (s : Fin 4) (k : Fin 16) (n : Fin 33600) :
    sides A (ix4 b s k n) = A (ix3 b ⟨s.val * 16 + k.val, by omega⟩ n) := by
  pointwise [sides]

/-- The largest of a side's sixteen. -/
theorem sideMax_apply (X : FVec Ideal S8x4x16x33600 .f32) (b : Fin 8) (s : Fin 4) (n : Fin 33600) :
    sideMax X (ix3 b s n) = Finset.fold max (Ideal.ofBits .f32 0xFF800000#32) (fun k : Fin 16 => X (ix4 b s k n))
      Finset.univ := by
  unfold sideMax
  pointwise

/-- `softExp` over any array in place of the largest logits. -/
theorem exp_sub_apply (X : FVec Ideal S8x4x16x33600 .f32) (M : FVec Ideal S8x4x33600 .f32) (b : Fin 8) (s : Fin 4)
    (k : Fin 16) (n : Fin 33600) :
    Host.exp (subf X
      (broadcastInDim S8x4x16x33600 ![0, 1, 2, 3] bcast_S8x4x1x33600_S8x4x16x33600_0_1_2_3
        (broadcastInDim S8x4x1x33600 ![0, 1, 3] bcast_S8x4x33600_S8x4x1x33600_0_1_3
          (maximumf (broadcastInDim S8x4x33600 ![] bcast_S_S8x4x33600 (constant S_ .f32 0xFF800000#32))
            M)))) (ix4 b s k n)
      = Ideal.exp (X (ix4 b s k n) - max (Ideal.ofBits .f32 0xFF800000#32) (M (ix3 b s n))) := by
  pointwise

/-- The shifted exponential, at an index. -/
theorem softExp_apply (X : FVec Ideal S8x4x16x33600 .f32) (b : Fin 8) (s : Fin 4) (k : Fin 16) (n : Fin 33600) :
    softExp X (ix4 b s k n) = Ideal.exp (X (ix4 b s k n)
      - max (Ideal.ofBits .f32 0xFF800000#32) (sideMax X (ix3 b s n))) :=
  exp_sub_apply X (sideMax X) b s k n

/-- The decoded distance, at an index. -/
theorem decoded_apply (X : FVec Ideal S8x4x16x33600 .f32) (b : Fin 8) (s : Fin 4) (n : Fin 33600) :
    decoded X (ix3 b s n) = ∑ k : Fin 16, Ideal.div (softExp X (ix4 b s k n)) (∑ k : Fin 16, softExp X (ix4 b s k n))
      * (FloatOps.sitofp (F := Ideal) .f32 (BitVec.ofNat 32 k.val) : EReal) := by
  unfold decoded
  generalize softExp X = e
  pointwise

/-! ### The complete IoU of every target with every anchor -/

/-- The left edges of the boxes. -/
def leftEdge (D : FVec Ideal S8x4x33600 .f32) : FVec Ideal S8x1x33600 .f32 :=
  broadcastInDim S8x1x33600 ![0, 2] bcast_S8x33600_S8x1x33600_0_2 (Host.negf (shapeCast S8x33600
    (extractStridedSlice S8x1x33600 ![0, 0, 0] D slices_S8x4x33600_S8x1x33600_0_0_0) shapeCasts_S8x1x33600_S8x33600))
/-- The top edges of the boxes. -/
def topEdge (D : FVec Ideal S8x4x33600 .f32) : FVec Ideal S8x1x33600 .f32 :=
  broadcastInDim S8x1x33600 ![0, 2] bcast_S8x33600_S8x1x33600_0_2 (Host.negf (shapeCast S8x33600
    (extractStridedSlice S8x1x33600 ![0, 1, 0] D slices_S8x4x33600_S8x1x33600_0_1_0) shapeCasts_S8x1x33600_S8x33600))
/-- The right edges of the boxes. -/
def rightEdge (D : FVec Ideal S8x4x33600 .f32) : FVec Ideal S8x1x33600 .f32 :=
  broadcastInDim S8x1x33600 ![0, 2] bcast_S8x33600_S8x1x33600_0_2 (shapeCast S8x33600
    (extractStridedSlice S8x1x33600 ![0, 2, 0] D slices_S8x4x33600_S8x1x33600_0_2_0) shapeCasts_S8x1x33600_S8x33600)
/-- The bottom edges of the boxes. -/
def bottomEdge (D : FVec Ideal S8x4x33600 .f32) : FVec Ideal S8x1x33600 .f32 :=
  broadcastInDim S8x1x33600 ![0, 2] bcast_S8x33600_S8x1x33600_0_2 (shapeCast S8x33600
    (extractStridedSlice S8x1x33600 ![0, 3, 0] D slices_S8x4x33600_S8x1x33600_0_3_0) shapeCasts_S8x1x33600_S8x33600)

/-- The first coordinates of the targets' first corners. -/
def targetX1 (T : FVec Ideal S8x20x4 .f32) : FVec Ideal S8x20x1 .f32 :=
  broadcastInDim S8x20x1 ![0, 1] bcast_S8x20_S8x20x1_0_1 (shapeCast S8x20
    (extractStridedSlice S8x20x1 ![0, 0, 0] T slices_S8x20x4_S8x20x1_0_0_0) shapeCasts_S8x20x1_S8x20)
/-- The second coordinates of the targets' first corners. -/
def targetY1 (T : FVec Ideal S8x20x4 .f32) : FVec Ideal S8x20x1 .f32 :=
  broadcastInDim S8x20x1 ![0, 1] bcast_S8x20_S8x20x1_0_1 (shapeCast S8x20
    (extractStridedSlice S8x20x1 ![0, 0, 1] T slices_S8x20x4_S8x20x1_0_0_1) shapeCasts_S8x20x1_S8x20)
/-- The first coordinates of the targets' second corners. -/
def targetX2 (T : FVec Ideal S8x20x4 .f32) : FVec Ideal S8x20x1 .f32 :=
  broadcastInDim S8x20x1 ![0, 1] bcast_S8x20_S8x20x1_0_1 (shapeCast S8x20
    (extractStridedSlice S8x20x1 ![0, 0, 2] T slices_S8x20x4_S8x20x1_0_0_2) shapeCasts_S8x20x1_S8x20)
/-- The second coordinates of the targets' second corners. -/
def targetY2 (T : FVec Ideal S8x20x4 .f32) : FVec Ideal S8x20x1 .f32 :=
  broadcastInDim S8x20x1 ![0, 1] bcast_S8x20_S8x20x1_0_1 (shapeCast S8x20
    (extractStridedSlice S8x20x1 ![0, 0, 3] T slices_S8x20x4_S8x20x1_0_0_3) shapeCasts_S8x20x1_S8x20)

/-- A value of each anchor, for every target. -/
def perAnchor (x : FVec Ideal S8x1x33600 .f32) : FVec Ideal S8x20x33600 .f32 :=
  broadcastInDim S8x20x33600 ![0, 1, 2] bcast_S8x1x33600_S8x20x33600_0_1_2 x
/-- A value of each target, for every anchor. -/
def perTarget (x : FVec Ideal S8x20x1 .f32) : FVec Ideal S8x20x33600 .f32 :=
  broadcastInDim S8x20x33600 ![0, 1, 2] bcast_S8x20x1_S8x20x33600_0_1_2 x
/-- One value, everywhere. -/
def everywhere (w : BitVec 32) : FVec Ideal S8x20x33600 .f32 :=
  broadcastInDim S8x20x33600 ![] bcast_S_S8x20x33600 (constant S_ .f32 w)

/-- The common areas, of boxes `(p₁, q₁) – (p₂, q₂)` and targets `(x₁, y₁) – (x₂, y₂)`. -/
def interOf (p₁ q₁ p₂ q₂ : FVec Ideal S8x1x33600 .f32) (x₁ y₁ x₂ y₂ : FVec Ideal S8x20x1 .f32) :
    FVec Ideal S8x20x33600 .f32 :=
  mulf
    (maximumf (subf (minimumf (perAnchor p₂) (perTarget x₂)) (maximumf (perAnchor p₁) (perTarget x₁))) (everywhere 0x00000000#32))
    (maximumf (subf (minimumf (perAnchor q₂) (perTarget y₂)) (maximumf (perAnchor q₁) (perTarget y₁))) (everywhere 0x00000000#32))

/-- The plain IoUs. -/
def iouOf (p₁ q₁ p₂ q₂ : FVec Ideal S8x1x33600 .f32) (x₁ y₁ x₂ y₂ : FVec Ideal S8x20x1 .f32) :
    FVec Ideal S8x20x33600 .f32 :=
  Host.divf (interOf p₁ q₁ p₂ q₂ x₁ y₁ x₂ y₂)
    (addf
      (subf
        (addf (perAnchor (mulf (subf p₂ p₁) (subf q₂ q₁))) (perTarget (mulf (subf x₂ x₁) (subf y₂ y₁))))
        (interOf p₁ q₁ p₂ q₂ x₁ y₁ x₂ y₂))
      (everywhere 0x33D6BF95#32))

/-- The sides of the smallest box around both. -/
def aroundOf (p₁ p₂ : FVec Ideal S8x1x33600 .f32) (x₁ x₂ : FVec Ideal S8x20x1 .f32) : FVec Ideal S8x20x33600 .f32 :=
  subf (maximumf (perAnchor p₂) (perTarget x₂)) (minimumf (perAnchor p₁) (perTarget x₁))

/-- Twice the distance of the centres, along one axis. -/
def apartOf (p₁ p₂ : FVec Ideal S8x1x33600 .f32) (x₁ x₂ : FVec Ideal S8x20x1 .f32) : FVec Ideal S8x20x33600 .f32 :=
  subf (subf (perTarget (addf x₁ x₂)) (perAnchor p₁)) (perAnchor p₂)

/-- The aspect ratio terms. -/
def aspectOf (a₁ : FVec Ideal S8x1x33600 .f32) (a₂ : FVec Ideal S8x20x1 .f32) : FVec Ideal S8x20x33600 .f32 :=
  mulf (everywhere 0x3ECF817B#32)
    (mulf (subf (perTarget a₂) (perAnchor a₁)) (subf (perTarget a₂) (perAnchor a₁)))

/-- The complete IoUs from the edges, the corners and the arctangents. -/
def ciouOf (a₁ : FVec Ideal S8x1x33600 .f32) (a₂ : FVec Ideal S8x20x1 .f32) (p₁ q₁ p₂ q₂ : FVec Ideal S8x1x33600 .f32)
    (x₁ y₁ x₂ y₂ : FVec Ideal S8x20x1 .f32) : FVec Ideal S8x20x33600 .f32 :=
  subf (iouOf p₁ q₁ p₂ q₂ x₁ y₁ x₂ y₂)
    (addf
      (Host.divf
        (Host.divf
          (addf (mulf (apartOf p₁ p₂ x₁ x₂) (apartOf p₁ p₂ x₁ x₂)) (mulf (apartOf q₁ q₂ y₁ y₂) (apartOf q₁ q₂ y₁ y₂)))
          (everywhere 0x40800000#32))
        (addf
          (addf (mulf (aroundOf p₁ p₂ x₁ x₂) (aroundOf p₁ p₂ x₁ x₂)) (mulf (aroundOf q₁ q₂ y₁ y₂) (aroundOf q₁ q₂ y₁ y₂)))
          (everywhere 0x33D6BF95#32)))
      (mulf (aspectOf a₁ a₂)
        (Host.divf (aspectOf a₁ a₂)
          (addf (subf (aspectOf a₁ a₂) (iouOf p₁ q₁ p₂ q₂ x₁ y₁ x₂ y₂)) (everywhere 0x3F800001#32)))))

/-- The boxes' ratios of width to height. -/
def boxRatio (D : FVec Ideal S8x4x33600 .f32) : FVec Ideal S8x1x33600 .f32 :=
  Host.divf (subf (rightEdge D) (leftEdge D)) (addf (subf (bottomEdge D) (topEdge D))
    (broadcastInDim S8x1x33600 ![] bcast_S_S8x1x33600 (constant S_ .f32 0x33D6BF95#32)))
/-- The targets' ratios of width to height. -/
def targetRatio (T : FVec Ideal S8x20x4 .f32) : FVec Ideal S8x20x1 .f32 :=
  Host.divf (subf (targetX2 T) (targetX1 T)) (addf (subf (targetY2 T) (targetY1 T))
    (broadcastInDim S8x20x1 ![] bcast_S_S8x20x1 (constant S_ .f32 0x33D6BF95#32)))

/-- The complete IoUs from the distances, the targets and the arctangents. -/
def ciouArray (a₁ : FVec Ideal S8x1x33600 .f32) (a₂ : FVec Ideal S8x20x1 .f32) (D : FVec Ideal S8x4x33600 .f32)
    (T : FVec Ideal S8x20x4 .f32) : FVec Ideal S8x20x33600 .f32 :=
  ciouOf a₁ a₂ (leftEdge D) (topEdge D) (rightEdge D) (bottomEdge D) (targetX1 T) (targetY1 T) (targetX2 T) (targetY2 T)

/-- A box's edges, from its decoded distances. -/
theorem edges_apply (D : FVec Ideal S8x4x33600 .f32) (b : Fin 8) (n : Fin 33600) :
    leftEdge D (ix3 b 0 n) = -D (ix3 b 0 n) ∧ topEdge D (ix3 b 0 n) = -D (ix3 b 1 n)
      ∧ rightEdge D (ix3 b 0 n) = D (ix3 b 2 n) ∧ bottomEdge D (ix3 b 0 n) = D (ix3 b 3 n) := by
  refine ⟨?_, ?_, ?_, ?_⟩
  · pointwise [leftEdge]
  · pointwise [topEdge]
  · pointwise [rightEdge]
  · pointwise [bottomEdge]

/-- A target's corners. -/
theorem corners_apply (T : FVec Ideal S8x20x4 .f32) (b : Fin 8) (j : Fin 20) :
    targetX1 T (ix3 b j 0) = T (ix3 b j 0) ∧ targetY1 T (ix3 b j 0) = T (ix3 b j 1)
      ∧ targetX2 T (ix3 b j 0) = T (ix3 b j 2) ∧ targetY2 T (ix3 b j 0) = T (ix3 b j 3) := by
  refine ⟨?_, ?_, ?_, ?_⟩
  · pointwise [targetX1]
  · pointwise [targetY1]
  · pointwise [targetX2]
  · pointwise [targetY2]

/-- The complete IoU of a target with a box, from the numbers at that pair. -/
theorem ciouOf_apply (a₁ : FVec Ideal S8x1x33600 .f32) (a₂ : FVec Ideal S8x20x1 .f32)
    (p₁ q₁ p₂ q₂ : FVec Ideal S8x1x33600 .f32) (x₁ y₁ x₂ y₂ : FVec Ideal S8x20x1 .f32) (b : Fin 8) (j : Fin 20)
    (n : Fin 33600) :
    ciouOf a₁ a₂ p₁ q₁ p₂ q₂ x₁ y₁ x₂ y₂ (ix3 b j n)
      = ciouTwoDivisions (a₁ (ix3 b 0 n)) (a₂ (ix3 b j 0)) (p₁ (ix3 b 0 n)) (q₁ (ix3 b 0 n)) (p₂ (ix3 b 0 n))
          (q₂ (ix3 b 0 n)) (x₁ (ix3 b j 0)) (y₁ (ix3 b j 0)) (x₂ (ix3 b j 0)) (y₂ (ix3 b j 0)) := by
  pointwise [ciouOf, iouOf, interOf, aroundOf, apartOf, aspectOf, perAnchor, perTarget, everywhere]
  rfl

/-- The ratio of a box's sides. -/
theorem ratio_apply (x₁ x₂ y₁ y₂ : FVec Ideal S8x1x33600 .f32) (b : Fin 8) (n : Fin 33600) :
    Host.divf (subf x₂ x₁) (addf (subf y₂ y₁)
      (broadcastInDim S8x1x33600 ![] bcast_S_S8x1x33600 (constant S_ .f32 0x33D6BF95#32))) (ix3 b 0 n)
      = Ideal.div (x₂ (ix3 b 0 n) - x₁ (ix3 b 0 n)) (y₂ (ix3 b 0 n) - y₁ (ix3 b 0 n) + Ideal.ofBits .f32 0x33D6BF95#32) := by
  pointwise

/-- The ratio of a target's sides. -/
theorem targetRatio_apply (x₁ x₂ y₁ y₂ : FVec Ideal S8x20x1 .f32) (b : Fin 8) (j : Fin 20) :
    Host.divf (subf x₂ x₁) (addf (subf y₂ y₁)
      (broadcastInDim S8x20x1 ![] bcast_S_S8x20x1 (constant S_ .f32 0x33D6BF95#32))) (ix3 b j 0)
      = Ideal.div (x₂ (ix3 b j 0) - x₁ (ix3 b j 0)) (y₂ (ix3 b j 0) - y₁ (ix3 b j 0) + Ideal.ofBits .f32 0x33D6BF95#32) := by
  pointwise

/-! ### The choice of anchors -/

/-- Which anchors are among the ten best of a target, with a positive value. -/
def chosenOf (best : FVec Ideal S8x20x10 .f32) (place : IVec S8x20x10 32) : IVec S8x20x33600 1 :=
  Host.reduce IntOp.ori
    (andi
      (cmpi .eq
        (broadcastInDim S8x20x10x33600 ![0, 1, 2, 3] bcast_S8x20x10x1_S8x20x10x33600_0_1_2_3
          (broadcastInDim S8x20x10x1 ![0, 1, 2] bcast_S8x20x10_S8x20x10x1_0_1_2 place))
        (broadcastInDim S8x20x10x33600 ![0, 1, 2, 3] bcast_S1x1x1x33600_S8x20x10x33600_0_1_2_3
          (iotaInDim S1x1x1x33600 32 3)))
      (broadcastInDim S8x20x10x33600 ![0, 1, 2, 3] bcast_S8x20x10x1_S8x20x10x33600_0_1_2_3
        (broadcastInDim S8x20x10x1 ![0, 1, 2] bcast_S8x20x10_S8x20x10x1_0_1_2
          (cmpf .ogt best (broadcastInDim S8x20x10 ![] bcast_S_S8x20x10 (constant S_ .f32 0x00000000#32))))))
    (constantI S_ 1 0#1) reducesTo_S8x20x10x33600_S8x20x33600_d2 h_S_

/-- The largest chosen value of each anchor, zero where none is chosen. -/
def gainOf (ch : IVec S8x20x33600 1) (C : FVec Ideal S8x20x33600 .f32) : FVec Ideal S8x33600 .f32 :=
  Host.reduce FloatOps.maximumf
    (select ch C (broadcastInDim S8x20x33600 ![] bcast_S_S8x20x33600 (id (constant S_ .f32 0x00000000#32))))
    (constant S_ .f32 0xFF800000#32) reducesTo_S8x20x33600_S8x33600_d1 h_S_

/-- One at the anchors that some target has chosen, zero elsewhere. -/
def positiveOf (ch : IVec S8x20x33600 1) : FVec Ideal S8x33600 .f32 :=
  uitofp .f32 (Host.reduce IntOp.ori ch (constantI S_ 1 0#1) reducesTo_S8x20x33600_S8x33600_d1 h_S_)

/-- The number of those anchors, in each image. -/
def countOf (pos : FVec Ideal S8x33600 .f32) : FVec Ideal S8 .f32 :=
  Host.reduceAdd pos (constant S_ .f32 0x00000000#32) reducesTo_S8x33600_S8_d1 h_S_

/-- The mask of a target, at an anchor: one of the ten places is the anchor, with a positive value. -/
theorem chosenOf_apply (best : FVec Ideal S8x20x10 .f32) (place : IVec S8x20x10 32) (b : Fin 8) (j : Fin 20)
    (n : Fin 33600) :
    chosenOf best place (ix3 b j n) = Finset.fold IntOp.ori (0#1) (fun i : Fin 10 =>
      IntOp.andi (IntOp.cmpi .eq (place (ix3 b j i)) (BitVec.ofNat 32 n.val))
        (BitVec.ofBool (decide (0 < best (ix3 b j i))))) Finset.univ := by
  unfold chosenOf
  pointwise

/-- The largest, over the targets, of an anchor's value where it is chosen and zero elsewhere. -/
theorem gainOf_apply (ch : IVec S8x20x33600 1) (C : FVec Ideal S8x20x33600 .f32) (b : Fin 8) (n : Fin 33600) :
    gainOf ch C (ix2 b n) = Finset.fold max (Ideal.ofBits .f32 0xFF800000#32)
      (fun j : Fin 20 => Scalar.select (ch (ix3 b j n)) (C (ix3 b j n)) 0) Finset.univ := by
  unfold gainOf
  dsimp only [id]
  pointwise

/-- An anchor is positive when some target's mask holds it. -/
theorem positiveOf_apply (ch : IVec S8x20x33600 1) (b : Fin 8) (n : Fin 33600) :
    positiveOf ch (ix2 b n)
      = (FloatOps.uitofp (F := Ideal) .f32 (Finset.fold IntOp.ori (0#1) (fun j : Fin 20 => ch (ix3 b j n)) Finset.univ) : EReal) := by
  unfold positiveOf
  pointwise

/-- The number of an image's positive anchors. -/
theorem countOf_apply (pos : FVec Ideal S8x33600 .f32) (b : Fin 8) : countOf pos (ix1 b) = ∑ n : Fin 33600, pos (ix2 b n) := by
  unfold countOf
  pointwise

/-! ### The totals -/

/-- The mean box loss of each image, summed over the images. -/
def boxTotal (npos : FVec Ideal S8 .f32) (it pos : FVec Ideal S8x33600 .f32) : FVec Ideal S_ .f32 :=
  Host.reduceAdd
    (select (cmpf .ogt npos (broadcastInDim S8 ![] bcast_S_S8 (constant S_ .f32 0x00000000#32)))
      (Host.divf
        (Host.reduceAdd
          (mulf (subf (broadcastInDim S8x33600 ![] bcast_S_S8x33600 (constant S_ .f32 0x3F800000#32)) it) pos)
          (constant S_ .f32 0x00000000#32) reducesTo_S8x33600_S8_d1 h_S_)
        (maximumf npos (broadcastInDim S8 ![] bcast_S_S8 (constant S_ .f32 0x3F800000#32))))
      (broadcastInDim S8 ![] bcast_S_S8 (id (constant S_ .f32 0x00000000#32))))
    (constant S_ .f32 0x00000000#32) reducesTo_S8_S_d0 h_S_

/-- The objectness loss of each image, summed over the images. -/
def objTotal (s it : FVec Ideal S8x33600 .f32) : FVec Ideal S_ .f32 :=
  Host.reduceAdd
    (Host.divf
      (Host.reduceAdd
        (subf
          (select
            (cmpf .une (subf s (broadcastInDim S8x33600 ![] bcast_S_S8x33600 (constant S_ .f32 0x00000000#32)))
              (subf s (broadcastInDim S8x33600 ![] bcast_S_S8x33600 (constant S_ .f32 0x00000000#32))))
            (addf s (broadcastInDim S8x33600 ![] bcast_S_S8x33600 (constant S_ .f32 0x00000000#32)))
            (addf (maximumf s (broadcastInDim S8x33600 ![] bcast_S_S8x33600 (constant S_ .f32 0x00000000#32)))
              (Host.log1p (Host.exp (Host.negf (Host.absf
                (subf s (broadcastInDim S8x33600 ![] bcast_S_S8x33600 (constant S_ .f32 0x00000000#32)))))))))
          (mulf s it))
        (constant S_ .f32 0x00000000#32) reducesTo_S8x33600_S8_d1 h_S_)
      (broadcastInDim S8 ![] bcast_S_S8 (constant S_ .f32 0x47034000#32)))
    (constant S_ .f32 0x00000000#32) reducesTo_S8_S_d0 h_S_

/-- The reference's box loss, summed over the images. -/
theorem boxTotal_apply (npos : FVec Ideal S8 .f32) (it pos : FVec Ideal S8x33600 .f32) :
    boxTotal npos it pos ix0 = ∑ b : Fin 8, if 0 < npos (ix1 b) then
      Ideal.div (∑ n, (1 - it (ix2 b n)) * pos (ix2 b n)) (max (npos (ix1 b)) 1) else 0 := by
  unfold boxTotal
  dsimp only [id]
  pointwise

/-- The reference's objectness loss, summed over the images. -/
theorem objTotal_apply (s it : FVec Ideal S8x33600 .f32) :
    objTotal s it ix0 = ∑ b : Fin 8, Ideal.div (∑ n, ((max (s (ix2 b n)) 0
      + Ideal.log1p (Ideal.exp (-FloatOps.absf (s (ix2 b n))))) - s (ix2 b n) * it (ix2 b n)))
        (Ideal.ofBits .f32 0x47034000#32) := by
  unfold objTotal
  pointwise
  simp

end Cert.Loss
-- ==== Proof.Table.lean ====
/-
  The table of complete IoUs of one image, over the reals, from its logits and its targets; and the reference's array
  of complete IoUs as those tables.
-/
module

public import proofs.«01_k».proof.Proof.Decode
public import proofs.«01_k».proof.Proof.Reference

@[expose] public section

set_option maxRecDepth 16384

noncomputable section

open Idealize.ShloMosaic Idealize.ShloMosaic.TcCoe Cert.ReferenceIdeal Cert.ReferenceIdeal.Gen

namespace Cert.Loss

/-- The distance of a side of the box at an anchor. -/
def distance (L : Fin 64 → Fin 33600 → ℝ) (s : Fin 4) (n : Fin 33600) : ℝ := expect fun k => L (place s k) n

/-- A distance is not negative. -/
theorem distance_nonneg (L : Fin 64 → Fin 33600 → ℝ) (s : Fin 4) (n : Fin 33600) : 0 ≤ distance L s n := expect_nonneg _

/-- Width over height, the height kept from zero. -/
def aspectRatio (u₁ v₁ u₂ v₂ : ℝ) : ℝ := (u₂ - u₁) / (v₂ - v₁ + eps)

/-- The ratio of sides with real corners in order is a real. -/
theorem aspectRatio_coe (u₁ v₁ u₂ v₂ : ℝ) (h : v₁ ≤ v₂) :
    Ideal.div ((u₂ : EReal) - u₁) ((v₂ : EReal) - v₁ + Ideal.ofBits .f32 0x33D6BF95#32)
      = ((aspectRatio u₁ v₁ u₂ v₂ : ℝ) : EReal) := by
  rw [ofBits_eps, ← EReal.coe_sub, ← EReal.coe_sub, ← EReal.coe_add, div_real]
  · rfl
  · have := eps_pos
    linarith

/-- The complete IoU of target `j` with the box of anchor `n`, for an arctangent `f`. -/
def imageTable (f : ℝ → ℝ) (L : Fin 64 → Fin 33600 → ℝ) (T : Fin 20 → Fin 4 → ℝ) (j : Fin 20) (n : Fin 33600) : EReal :=
  ciou (f (aspectRatio (-distance L 0 n) (-distance L 1 n) (distance L 2 n) (distance L 3 n)))
    (f (aspectRatio (T j 0) (T j 1) (T j 2) (T j 3)))
    (-distance L 0 n) (-distance L 1 n) (distance L 2 n) (distance L 3 n) (T j 0) (T j 1) (T j 2) (T j 3)

/-- No complete IoU of an image is positive infinity. -/
theorem imageTable_ne_top (f : ℝ → ℝ) (L : Fin 64 → Fin 33600 → ℝ) (T : Fin 20 → Fin 4 → ℝ) (j : Fin 20)
    (n : Fin 33600) : imageTable f L T j n ≠ ⊤ := ciou_ne_top _ _ _ _ _ _ _ _ _ _

section
variable {A : FVec Ideal S8x64x33600 .f32} {T : FVec Ideal S8x20x4 .f32} {a : Fin 8 → Fin 64 → Fin 33600 → ℝ}
  {t : Fin 8 → Fin 20 → Fin 4 → ℝ}

/-- The reference's distances. -/
theorem decoded_eq (hA : ∀ b c n, A (ix3 b c n) = (a b c n : EReal)) (b : Fin 8) (s : Fin 4) (n : Fin 33600) :
    decoded (sides A) (ix3 b s n) = ((distance (a b) s n : ℝ) : EReal) := by
  have hs : ∀ k, sides A (ix4 b s k n) = ((a b (place s k) n : ℝ) : EReal) := fun k => (sides_apply A b s k n).trans (hA _ _ _)
  have hm : sideMax (sides A) (ix3 b s n)
      = Finset.univ.fold max (Ideal.ofBits .f32 0xFF800000#32) (fun k : Fin 16 => ((a b (place s k) n : ℝ) : EReal)) :=
    (sideMax_apply _ b s n).trans (congrArg (fun f : Fin 16 → EReal =>
      Finset.univ.fold max (Ideal.ofBits .f32 0xFF800000#32) f) (funext hs))
  rw [decoded_apply]
  simp only [softExp_apply, hs, hm]
  exact expect_reference (fun k => a b (place s k) n) _ rfl

/-- The ratio of width to height of the reference's boxes. -/
theorem boxRatio_eq (hA : ∀ b c n, A (ix3 b c n) = (a b c n : EReal)) (b : Fin 8) (n : Fin 33600) :
    boxRatio (decoded (sides A)) (ix3 b 0 n) = ((aspectRatio (-distance (a b) 0 n) (-distance (a b) 1 n)
      (distance (a b) 2 n) (distance (a b) 3 n) : ℝ) : EReal) := by
  obtain ⟨h1, h2, h3, h4⟩ := edges_apply (decoded (sides A)) b n
  refine (ratio_apply _ _ _ _ b n).trans ?_
  rw [h1, h2, h3, h4]
  simp only [decoded_eq hA, ← EReal.coe_neg]
  refine aspectRatio_coe _ _ _ _ ?_
  have h := distance_nonneg (a b) 1 n
  have h' := distance_nonneg (a b) 3 n
  linarith

/-- The ratio of width to height of the targets. -/
theorem targetRatio_eq (hT : ∀ b j k, T (ix3 b j k) = (t b j k : EReal)) (hy : ∀ b j, t b j 1 ≤ t b j 3) (b : Fin 8)
    (j : Fin 20) :
    targetRatio T (ix3 b j 0) = ((aspectRatio (t b j 0) (t b j 1) (t b j 2) (t b j 3) : ℝ) : EReal) := by
  obtain ⟨h1, h2, h3, h4⟩ := corners_apply T b j
  refine (targetRatio_apply _ _ _ _ b j).trans ?_
  rw [h1, h2, h3, h4]
  simp only [hT]
  exact aspectRatio_coe _ _ _ _ (hy b j)

/-- The reference's array holds the tables of the images, for arrays `a₁` and `a₂` that hold the values of `f` at the
    two ratios. -/
theorem ciouArray_eq (hA : ∀ b c n, A (ix3 b c n) = (a b c n : EReal)) (hT : ∀ b j k, T (ix3 b j k) = (t b j k : EReal))
    (hy : ∀ b j, t b j 1 ≤ t b j 3) (f : ℝ → ℝ) (a₁ : FVec Ideal S8x1x33600 .f32) (a₂ : FVec Ideal S8x20x1 .f32)
    (h₁ : ∀ b n z, boxRatio (decoded (sides A)) (ix3 b 0 n) = ((z : ℝ) : EReal) → a₁ (ix3 b 0 n) = ((f z : ℝ) : EReal))
    (h₂ : ∀ b j z, targetRatio T (ix3 b j 0) = ((z : ℝ) : EReal) → a₂ (ix3 b j 0) = ((f z : ℝ) : EReal))
    (b : Fin 8) (j : Fin 20) (n : Fin 33600) :
    ciouArray a₁ a₂ (decoded (sides A)) T (ix3 b j n) = imageTable f (a b) (t b) j n := by
  obtain ⟨h1, h2, h3, h4⟩ := edges_apply (decoded (sides A)) b n
  obtain ⟨g1, g2, g3, g4⟩ := corners_apply T b j
  refine (ciouOf_apply a₁ a₂ _ _ _ _ _ _ _ _ b j n).trans ?_
  rw [h₁ b n _ (boxRatio_eq hA b n), h₂ b j _ (targetRatio_eq hT hy b j), h1, h2, h3, h4, g1, g2, g3, g4]
  simp only [decoded_eq hA, hT, ← EReal.coe_neg]
  have d0 := distance_nonneg (a b) 0 n
  have d1 := distance_nonneg (a b) 1 n
  have d2 := distance_nonneg (a b) 2 n
  have d3 := distance_nonneg (a b) 3 n
  exact ciouTwoDivisions_eq _ _ (by linarith) (by linarith) (hy b j)

end

end Cert.Loss
-- ==== Proof.KernelTable.lean ====
/-
  The kernel's table of complete IoUs of one image, read from its blocks of logits and targets. The two programs
  differ only in how they compute the arctangents, so the arrays of arctangents are arguments.
-/
module

public import proofs.«01_k».proof.Proof.KernelChoice
public import proofs.«01_k».proof.Proof.Table

@[expose] public section

set_option maxRecDepth 16384

noncomputable section

open Idealize.ShloMosaic Idealize.ShloMosaic.TcCoe Cert.KernelIdeal Cert.KernelIdeal.Gen

namespace Cert.Loss

/-! ### The distances -/

/-- The integer weight of a logit in a row of sums, from the arrays the kernel builds it from. -/
def word (v35 : IVec S8x64 1) (v37 : BitVec 32) (v39 : IVec S8x64 32) (v41 : IVec S8x64 1) (r : Fin 8) (c : Fin 64) :
    BitVec 32 :=
  Scalar.select (v35 (ix2 r c)) (1#32)
    (Scalar.select
      (IntOp.andi (IntOp.xori (IntOp.cmpi .slt (v39 (ix2 r c)) 0#32) (Scalar.cmpi .slt v37 0#32)) (v41 (ix2 r c)))
      (IntOp.addi (v39 (ix2 r c)) v37) (v39 (ix2 r c)))

/-- One row of sums: the weighted exponentials, and what the split of each leaves. -/
def sums (v1 : FVec Ideal S64x33600 .f32) (v33 : IVec S8x64 1) (w : Fin 8 → Fin 64 → BitVec 32) (r : Fin 8)
    (n : Fin 33600) : EReal :=
  (∑ c : Fin 64, Scalar.select (v33 (ix2 r c))
      ((FloatOps.sitofp (F := Ideal) .f32 (w r c) : EReal) * Ideal.exp (v1 (ix2 c n))) 0)
    + ∑ c : Fin 64, Scalar.select (v33 (ix2 r c))
      ((FloatOps.sitofp (F := Ideal) .f32 (w r c) : EReal) * (Ideal.exp (v1 (ix2 c n)) - Ideal.exp (v1 (ix2 c n)))) 0

/-- The distances are quotients of two rows of sums. -/
theorem quotient_apply (v1 : FVec Ideal S64x33600 .f32) (v33 v35 : IVec S8x64 1) (v37 : BitVec 32) (v39 : IVec S8x64 32)
    (v41 : IVec S8x64 1) (f : Fin 4) (s : Fin 8) (l : Fin 4200) :
    k0_pay9 (F := Ideal) v1 v33 v35 v37 v39 v41 (ix3 f s l)
      = Ideal.div (sums v1 v33 (word v35 v37 v39 v41) ⟨4 + f.val, by omega⟩ (anchor s l))
          (sums v1 v33 (word v35 v37 v39 v41) ⟨f.val, by omega⟩ (anchor s l)) := by
  pointwise [k0_pay9]
  rfl

/-- A row of sums covers the sixteen logits of one side. -/
theorem mask_eq (r : Fin 8) (c : Fin 64) : k0_pay5 (ix2 r c) = BitVec.ofBool (decide (c.val / 16 = r.val % 4)) := by
  revert r c; decide +kernel

/-- The weights: one in the first four rows, the place in the side in the last four. -/
theorem word_eq (r : Fin 8) (c : Fin 64) :
    word k0_pay6 16#32 k0_pay7 k0_pay8 r c = if r.val < 4 then 1#32 else BitVec.ofNat 32 (c.val % 16) := by
  revert r c; decide +kernel

/-- The distances of the kernel's boxes. -/
def distances (x : FVec Ideal S1x64x33600 .f32) : FVec Ideal S4x8x4200 .f32 :=
  k0_pay9 (F := Ideal) (k0_pay4 x) k0_pay5 k0_pay6 16#32 k0_pay7 k0_pay8

section
variable {x : FVec Ideal S1x64x33600 .f32} {L : Fin 64 → Fin 33600 → ℝ}

/-- The integer one as a number. -/
theorem sitofp_one : (FloatOps.sitofp (F := Ideal) .f32 1#32 : EReal) = ((1 : ℝ) : EReal) := by
  show ((((1#32 : BitVec 32).toInt : ℤ) : ℝ) : EReal) = _
  rw [show (1#32 : BitVec 32).toInt = 1 from by decide]
  norm_num

/-- The image's distances, without the leading axis. -/
theorem logits_apply (x : FVec Ideal S1x64x33600 .f32) (c : Fin 64) (n : Fin 33600) :
    k0_pay4 (F := Ideal) x (ix2 c n) = x (ix3 0 c n) := by
  pointwise [k0_pay4]

/-- The first four rows of the product are the sums of exponentials. -/
theorem sums_low (hx : ∀ c n, x (ix3 0 c n) = (L c n : EReal)) (f : Fin 4) (n : Fin 33600) :
    sums (k0_pay4 x) k0_pay5 (word k0_pay6 16#32 k0_pay7 k0_pay8) ⟨f.val, by omega⟩ n
      = ((mass fun k => L (place f k) n : ℝ) : EReal) := by
  unfold sums
  simp only [logits_apply, hx]
  refine (dot_side f (fun c => L c n) (fun _ => 1) _ _ (fun c => ?_) fun c => ?_).trans ?_
  · rw [mask_eq]
    simp only [Nat.mod_eq_of_lt f.isLt]
  · rw [word_eq, if_pos f.isLt, sitofp_one]
  · unfold mass
    simp only [one_mul]

/-- The last four rows of the product are the sums of weighted exponentials. -/
theorem sums_high (hx : ∀ c n, x (ix3 0 c n) = (L c n : EReal)) (f : Fin 4) (n : Fin 33600) :
    sums (k0_pay4 x) k0_pay5 (word k0_pay6 16#32 k0_pay7 k0_pay8) ⟨4 + f.val, by omega⟩ n
      = ((∑ k : Fin 16, (k.val : ℝ) * Real.exp (L (place f k) n) : ℝ) : EReal) := by
  unfold sums
  simp only [logits_apply, hx]
  refine (dot_side f (fun c => L c n) (fun c => ((c.val % 16 : ℕ) : ℝ)) _ _ (fun c => ?_) fun c => ?_).trans ?_
  · rw [mask_eq]
    simp only [show (4 + f.val) % 4 = f.val from by omega]
  · rw [word_eq, if_neg (by show ¬ (4 + f.val < 4); omega)]
    exact sitofp_small ⟨c.val % 16, by omega⟩
  · simp only [show ∀ k : Fin 16, (f.val * 16 + k.val) % 16 = k.val from fun k => by omega]

/-- The kernel's distances are the weighted means. -/
theorem distances_eq (hx : ∀ c n, x (ix3 0 c n) = (L c n : EReal)) (f : Fin 4) (s : Fin 8) (l : Fin 4200) :
    distances x (ix3 f s l) = ((distance L f (anchor s l) : ℝ) : EReal) := by
  refine (quotient_apply _ _ _ _ _ _ f s l).trans ?_
  rw [sums_high hx, sums_low hx, div_real (mass_pos _).ne']
  rfl

end

/-! ### The complete IoUs -/

/-- The complete IoUs from the edges of the boxes, with their areas and the sums of their opposite edges, the targets
    and the arctangents. -/
def ciouLanes (p₁ q₁ p₂ q₂ area sx sy a₁ : FVec Ideal S8x4200 .f32) (y : FVec Ideal S1x20x4 .f32)
    (a₂ : FVec Ideal S20x1x1 .f32) : FVec Ideal S20x8x4200 .f32 :=
  k0_pay52 (F := Ideal)
    (k0_pay46 area (k0_pay30 y) (k0_pay44 p₂ p₁ (k0_pay24 y) (k0_pay26 y)) (k0_pay45 q₂ q₁ (k0_pay25 y) (k0_pay27 y))
      (Scalar.ofBits .f32 0x00000000#32))
    (k0_pay50 area sx sy a₁ (k0_pay24 y) (k0_pay25 y) (k0_pay26 y) (k0_pay27 y) (k0_pay30 y) (k0_pay31 y) (k0_pay32 y) a₂
      (k0_pay40 p₁) (k0_pay41 q₁) (k0_pay42 p₂) (k0_pay43 q₂) (k0_pay44 p₂ p₁ (k0_pay24 y) (k0_pay26 y))
      (k0_pay45 q₂ q₁ (k0_pay25 y) (k0_pay27 y)) (Scalar.ofBits .f32 0x00000000#32))
    (k0_pay51 area a₁ (k0_pay24 y) (k0_pay25 y) (k0_pay26 y) (k0_pay27 y) (k0_pay30 y) a₂
      (k0_pay40 p₁) (k0_pay41 q₁) (k0_pay42 p₂) (k0_pay43 q₂) (k0_pay44 p₂ p₁ (k0_pay24 y) (k0_pay26 y))
      (k0_pay45 q₂ q₁ (k0_pay25 y) (k0_pay27 y)) (Scalar.ofBits .f32 0x00000000#32))

/-- The kernel's complete IoU at a target and a lane, from the numbers at that lane. -/
theorem ciouLanes_apply (p₁ q₁ p₂ q₂ area sx sy a₁ : FVec Ideal S8x4200 .f32) (y : FVec Ideal S1x20x4 .f32)
    (a₂ : FVec Ideal S20x1x1 .f32) (j : Fin 20) (s : Fin 8) (l : Fin 4200)
    (ha : area (ix2 s l) = (p₂ (ix2 s l) - p₁ (ix2 s l)) * (q₂ (ix2 s l) - q₁ (ix2 s l)))
    (hsx : sx (ix2 s l) = p₁ (ix2 s l) + p₂ (ix2 s l)) (hsy : sy (ix2 s l) = q₁ (ix2 s l) + q₂ (ix2 s l)) :
    ciouLanes p₁ q₁ p₂ q₂ area sx sy a₁ y a₂ (ix3 j s l)
      = ciouOneDivision (a₁ (ix2 s l)) (a₂ (ix3 j 0 0)) (p₁ (ix2 s l)) (q₁ (ix2 s l)) (p₂ (ix2 s l)) (q₂ (ix2 s l))
          (y (ix3 0 j 0)) (y (ix3 0 j 1)) (y (ix3 0 j 2)) (y (ix3 0 j 3)) := by
  pointwise [ciouLanes, k0_pay52, k0_pay46, k0_pay50, k0_pay51, k0_pay44, k0_pay45, k0_pay24, k0_pay25, k0_pay26, k0_pay27,
    k0_pay23, k0_pay30, k0_pay31, k0_pay32, k0_pay40, k0_pay41, k0_pay42, k0_pay43, k0_pay28, k0_pay29, k0_pay47, k0_pay48,
    k0_pay49]
  rw [ha, hsx, hsy]
  rfl

section
variable (v1 : FVec Ideal S64x33600 .f32) (v33 v35 : IVec S8x64 1) (v37 : BitVec 32) (v39 : IVec S8x64 32)
  (v41 : IVec S8x64 1) (s : Fin 8) (l : Fin 4200)

/-- The edges of the kernel's boxes, from the distances. -/
theorem laneEdges_apply :
    k0_pay12 (F := Ideal) v1 v33 v35 v37 v39 v41 (ix2 s l) = 0 - k0_pay9 (F := Ideal) v1 v33 v35 v37 v39 v41 (ix3 0 s l)
      ∧ k0_pay13 (F := Ideal) v1 v33 v35 v37 v39 v41 (ix2 s l) = 0 - k0_pay9 (F := Ideal) v1 v33 v35 v37 v39 v41 (ix3 1 s l)
      ∧ k0_pay10 (F := Ideal) v1 v33 v35 v37 v39 v41 (ix2 s l) = k0_pay9 (F := Ideal) v1 v33 v35 v37 v39 v41 (ix3 2 s l)
      ∧ k0_pay11 (F := Ideal) v1 v33 v35 v37 v39 v41 (ix2 s l) = k0_pay9 (F := Ideal) v1 v33 v35 v37 v39 v41 (ix3 3 s l) := by
  refine ⟨?_, ?_, ?_, ?_⟩
  · pointwise [k0_pay12]
  · pointwise [k0_pay13]
  · pointwise [k0_pay10]
  · pointwise [k0_pay11]

end

/-- The ratio of width to height of the kernel's boxes. -/
def laneRatio (x : FVec Ideal S1x64x33600 .f32) : FVec Ideal S8x4200 .f32 :=
  k0_pay19 (F := Ideal) (k0_pay4 x) k0_pay5 k0_pay6 16#32 k0_pay7 k0_pay8

/-- The ratio of width to height of the targets. -/
def markRatio (y : FVec Ideal S1x20x4 .f32) : FVec Ideal S20x1x1 .f32 := k0_pay33 (F := Ideal) y

/-- The table of an image from its blocks and the arrays of arctangents. -/
def laneTable (a₁ : FVec Ideal S8x4200 .f32) (a₂ : FVec Ideal S20x1x1 .f32) (x : FVec Ideal S1x64x33600 .f32)
    (y : FVec Ideal S1x20x4 .f32) : FVec Ideal S20x8x4200 .f32 :=
  ciouLanes (k0_pay12 (k0_pay4 x) k0_pay5 k0_pay6 16#32 k0_pay7 k0_pay8)
    (k0_pay13 (k0_pay4 x) k0_pay5 k0_pay6 16#32 k0_pay7 k0_pay8)
    (k0_pay10 (k0_pay4 x) k0_pay5 k0_pay6 16#32 k0_pay7 k0_pay8)
    (k0_pay11 (k0_pay4 x) k0_pay5 k0_pay6 16#32 k0_pay7 k0_pay8)
    (k0_pay16 (k0_pay4 x) k0_pay5 k0_pay6 16#32 k0_pay7 k0_pay8)
    (k0_pay17 (k0_pay4 x) k0_pay5 k0_pay6 16#32 k0_pay7 k0_pay8)
    (k0_pay18 (k0_pay4 x) k0_pay5 k0_pay6 16#32 k0_pay7 k0_pay8) a₁ y a₂

/-- The ratio of a target's sides. -/
theorem markRatio_apply (y : FVec Ideal S1x20x4 .f32) (j : Fin 20) :
    markRatio y (ix3 j 0 0) = Ideal.div (y (ix3 0 j 2) - y (ix3 0 j 0))
      (y (ix3 0 j 3) - y (ix3 0 j 1) + Ideal.ofBits .f32 0x33D6BF95#32) := by
  pointwise [markRatio, k0_pay33, k0_pay28, k0_pay29, k0_pay24, k0_pay25, k0_pay26, k0_pay27, k0_pay23]

section
variable {x : FVec Ideal S1x64x33600 .f32} {L : Fin 64 → Fin 33600 → ℝ} {y : FVec Ideal S1x20x4 .f32}
  {T : Fin 20 → Fin 4 → ℝ}

/-- A box's edges are its expected distances. -/
theorem laneEdges_eq (hx : ∀ c n, x (ix3 0 c n) = (L c n : EReal)) (s : Fin 8) (l : Fin 4200) :
    k0_pay12 (F := Ideal) (k0_pay4 x) k0_pay5 k0_pay6 16#32 k0_pay7 k0_pay8 (ix2 s l)
        = ((-distance L 0 (anchor s l) : ℝ) : EReal)
      ∧ k0_pay13 (F := Ideal) (k0_pay4 x) k0_pay5 k0_pay6 16#32 k0_pay7 k0_pay8 (ix2 s l)
        = ((-distance L 1 (anchor s l) : ℝ) : EReal)
      ∧ k0_pay10 (F := Ideal) (k0_pay4 x) k0_pay5 k0_pay6 16#32 k0_pay7 k0_pay8 (ix2 s l)
        = ((distance L 2 (anchor s l) : ℝ) : EReal)
      ∧ k0_pay11 (F := Ideal) (k0_pay4 x) k0_pay5 k0_pay6 16#32 k0_pay7 k0_pay8 (ix2 s l)
        = ((distance L 3 (anchor s l) : ℝ) : EReal) := by
  obtain ⟨h0, h1, h2, h3⟩ := laneEdges_apply (k0_pay4 (F := Ideal) x) k0_pay5 k0_pay6 16#32 k0_pay7 k0_pay8 s l
  refine ⟨h0.trans ?_, h1.trans ?_, h2.trans (distances_eq hx 2 s l), h3.trans (distances_eq hx 3 s l)⟩
  · rw [EReal.coe_neg, zero_sub]
    exact congrArg _ (distances_eq hx 0 s l)
  · rw [EReal.coe_neg, zero_sub]
    exact congrArg _ (distances_eq hx 1 s l)

/-- The ratio of a box's sides is a real. -/
theorem laneRatio_eq (hx : ∀ c n, x (ix3 0 c n) = (L c n : EReal)) (s : Fin 8) (l : Fin 4200) :
    laneRatio x (ix2 s l) = ((aspectRatio (-distance L 0 (anchor s l)) (-distance L 1 (anchor s l))
      (distance L 2 (anchor s l)) (distance L 3 (anchor s l)) : ℝ) : EReal) := by
  obtain ⟨h0, h1, h2, h3⟩ := laneEdges_eq hx s l
  have d1 := distance_nonneg L 1 (anchor s l)
  have d3 := distance_nonneg L 3 (anchor s l)
  refine Eq.trans ?_ (aspectRatio_coe _ _ _ _ (by linarith))
  rw [← h0, ← h1, ← h2, ← h3]
  rfl

/-- The ratio of a target's sides is a real. -/
theorem markRatio_eq (hy : ∀ j k, y (ix3 0 j k) = (T j k : EReal)) (hT : ∀ j, T j 1 ≤ T j 3) (j : Fin 20) :
    markRatio y (ix3 j 0 0) = ((aspectRatio (T j 0) (T j 1) (T j 2) (T j 3) : ℝ) : EReal) := by
  rw [markRatio_apply]
  simp only [hy]
  exact aspectRatio_coe _ _ _ _ (hT j)

/-- The kernel's table is the image's table, for arrays that hold the values of `f` at the two ratios. -/
theorem laneTable_eq (hx : ∀ c n, x (ix3 0 c n) = (L c n : EReal)) (hy : ∀ j k, y (ix3 0 j k) = (T j k : EReal))
    (hT : ∀ j, T j 1 ≤ T j 3) (f : ℝ → ℝ) (a₁ : FVec Ideal S8x4200 .f32) (a₂ : FVec Ideal S20x1x1 .f32)
    (h₁ : ∀ s l z, laneRatio x (ix2 s l) = ((z : ℝ) : EReal) → a₁ (ix2 s l) = ((f z : ℝ) : EReal))
    (h₂ : ∀ j z, markRatio y (ix3 j 0 0) = ((z : ℝ) : EReal) → a₂ (ix3 j 0 0) = ((f z : ℝ) : EReal))
    (j : Fin 20) (n : Fin 33600) : row (laneTable a₁ a₂ x y) j n = imageTable f L T j n := by
  rw [← anchor_line_lane n, row_anchor]
  generalize line n = s
  generalize lane n = l
  obtain ⟨g0, g1, g2, g3⟩ := laneEdges_eq hx s l
  refine (ciouLanes_apply _ _ _ _ _ _ _ a₁ y a₂ j s l rfl rfl rfl).trans ?_
  rw [h₁ s l _ (laneRatio_eq hx s l), h₂ j _ (markRatio_eq hy hT j), g0, g1, g2, g3]
  simp only [hy]
  have d0 := distance_nonneg L 0 (anchor s l)
  have d1 := distance_nonneg L 1 (anchor s l)
  have d2 := distance_nonneg L 2 (anchor s l)
  have d3 := distance_nonneg L 3 (anchor s l)
  exact ciouOneDivision_eq _ _ (by linarith) (by linarith) (hT j)

end

end Cert.Loss
-- ==== Proof.PointLoss.lean ====
/-
  What one grid point adds to the two running totals: its image's box loss and its image's objectness loss.
-/
module

public import proofs.«01_k».proof.Proof.KernelChoice
public import proofs.«01_k».proof.Proof.KernelTable

@[expose] public section

set_option maxRecDepth 16384

noncomputable section

open Idealize.ShloMosaic Idealize.ShloMosaic.TcCoe Cert.KernelIdeal Cert.KernelIdeal.Gen

namespace Cert.Loss

/-- The box total after a point whose best overlaps are `B`. -/
def stepBox (B : FVec Ideal S8x4200 .f32) (acc : FVec Ideal S1x1x1 .f32) : FVec Ideal S1x1x1 .f32 :=
  k0_pay1 (k0_pay58 B (positiveLanes B) (Scalar.ofBits .f32 0x00000000#32)) (k0_pay62 acc)

/-- The objectness total after a point whose best overlaps are `B` and whose scores are `s`. -/
def stepObj (B : FVec Ideal S8x4200 .f32) (s : FVec Ideal S1x8x4200 .f32) (acc : FVec Ideal S1x1x1 .f32) :
    FVec Ideal S1x1x1 .f32 :=
  k0_pay2 (k0_pay59 B (Scalar.ofBits .f32 0x00000000#32) s) acc

/-- A step adds its term to the total. -/
theorem stepBox_apply (B : FVec Ideal S8x4200 .f32) (acc : FVec Ideal S1x1x1 .f32) :
    stepBox B acc (ix3 0 0 0) = acc (ix3 0 0 0) + k0_pay58 (F := Ideal) B (positiveLanes B) (0 : EReal) := by
  have h : ∀ z : EReal, k0_pay1 (F := Ideal) z (k0_pay62 acc) (ix3 0 0 0) = acc (ix3 0 0 0) + z := fun z => by
    pointwise [k0_pay1, k0_pay62]
  rw [← Ideal.ofBits_zero_f32]
  exact h _

/-- A step adds its term to the total. -/
theorem stepObj_apply (B : FVec Ideal S8x4200 .f32) (s : FVec Ideal S1x8x4200 .f32) (acc : FVec Ideal S1x1x1 .f32) :
    stepObj B s acc (ix3 0 0 0) = acc (ix3 0 0 0) + k0_pay59 (F := Ideal) B (0 : EReal) s := by
  have h : ∀ z : EReal, k0_pay2 (F := Ideal) z acc (ix3 0 0 0) = acc (ix3 0 0 0) + z := fun z => by
    pointwise [k0_pay2]
  rw [← Ideal.ofBits_zero_f32]
  exact h _

/-- The totals start at zero. -/
theorem start_apply : k0_pay60 (F := Ideal) (ix3 0 0 0) = 0 ∧ k0_pay61 (F := Ideal) (ix3 0 0 0) = 0 := by
  constructor <;> pointwise [k0_pay60, k0_pay61]

/-- The weighted total of the two losses. -/
theorem total_apply (b o : FVec Ideal S1x1x1 .f32) :
    k0_pay3 (F := Ideal) b o (ix3 0 0 0) = Ideal.div (Ideal.ofBits .f32 0x40F00000#32 * b (ix3 0 0 0)
      + Ideal.ofBits .f32 0x3F800000#32 * o (ix3 0 0 0)) (Ideal.ofBits .f32 0x41000000#32) := by
  pointwise [k0_pay3]

section
variable {x : FVec Ideal S1x64x33600 .f32} {y : FVec Ideal S1x20x4 .f32} {s : FVec Ideal S1x8x4200 .f32}
  {L : Fin 64 → Fin 33600 → ℝ} {T : Fin 20 → Fin 4 → ℝ} {S : Fin 33600 → ℝ}
  {f : ℝ → ℝ} {a₁ : FVec Ideal S8x4200 .f32} {a₂ : FVec Ideal S20x1x1 .f32}

/-- A point adds its image's box loss. -/
theorem boxPoint (hx : ∀ c n, x (ix3 0 c n) = (L c n : EReal)) (hy : ∀ j k, y (ix3 0 j k) = (T j k : EReal))
    (hT : ∀ j, T j 1 ≤ T j 3) (h₁ : ∀ s l (z : ℝ), laneRatio x (ix2 s l) = z → a₁ (ix2 s l) = (f z : EReal))
    (h₂ : ∀ j (z : ℝ), markRatio y (ix3 j 0 0) = z → a₂ (ix3 j 0 0) = (f z : EReal))
    (hK : Untied eleven_le (imageTable f L T)) (acc : FVec Ideal S1x1x1 .f32) :
    stepBox (bestOf (laneTable a₁ a₂ x y)) acc (ix3 0 0 0)
      = acc (ix3 0 0 0) + ((boxOf ten_le (imageTable f L T) : ℝ) : EReal) := by
  rw [stepBox_apply, box_block (laneTable_eq hx hy hT f a₁ a₂ h₁ h₂) hK (imageTable_ne_top f L T)]

/-- A point adds its image's objectness loss. -/
theorem objPoint (hx : ∀ c n, x (ix3 0 c n) = (L c n : EReal)) (hy : ∀ j k, y (ix3 0 j k) = (T j k : EReal))
    (hs : ∀ u l, s (ix3 0 u l) = (S (anchor u l) : EReal))
    (hT : ∀ j, T j 1 ≤ T j 3) (h₁ : ∀ s l (z : ℝ), laneRatio x (ix2 s l) = z → a₁ (ix2 s l) = (f z : EReal))
    (h₂ : ∀ j (z : ℝ), markRatio y (ix3 j 0 0) = z → a₂ (ix3 j 0 0) = (f z : EReal))
    (hK : Untied eleven_le (imageTable f L T)) (acc : FVec Ideal S1x1x1 .f32) :
    stepObj (bestOf (laneTable a₁ a₂ x y)) s acc (ix3 0 0 0)
      = acc (ix3 0 0 0) + ((objOf ten_le (imageTable f L T) S : ℝ) : EReal) := by
  rw [stepObj_apply, obj_block (laneTable_eq hx hy hT f a₁ a₂ h₁ h₂) hK (imageTable_ne_top f L T) s S hs]

end

/-! ## The three losses of a batch -/

section
variable (f : ℝ → ℝ) (L : Fin 8 → Fin 64 → Fin 33600 → ℝ) (S : Fin 8 → Fin 33600 → ℝ) (T : Fin 8 → Fin 20 → Fin 4 → ℝ)

/-- The box loss of the batch, with the arctangent `f`. -/
def boxSum : EReal := ∑ b, ((boxOf ten_le (imageTable f (L b) (T b)) : ℝ) : EReal)

/-- The objectness loss of the batch. -/
def objSum : EReal := ∑ b, ((objOf ten_le (imageTable f (L b) (T b)) (S b) : ℝ) : EReal)

/-- The box loss of image `n`. -/
def boxTerm (n : ℕ) : EReal := if h : n < 8 then ((boxOf ten_le (imageTable f (L ⟨n, h⟩) (T ⟨n, h⟩)) : ℝ) : EReal) else 0

/-- The objectness loss of image `n`. -/
def objTerm (n : ℕ) : EReal :=
  if h : n < 8 then ((objOf ten_le (imageTable f (L ⟨n, h⟩) (T ⟨n, h⟩)) (S ⟨n, h⟩) : ℝ) : EReal) else 0

/-- The box loss of an image of the batch. -/
theorem boxTerm_of_lt {n : ℕ} (h : n < 8) :
    boxTerm f L T n = ((boxOf ten_le (imageTable f (L ⟨n, h⟩) (T ⟨n, h⟩)) : ℝ) : EReal) := dif_pos h

/-- The objectness loss of an image of the batch. -/
theorem objTerm_of_lt {n : ℕ} (h : n < 8) :
    objTerm f L S T n = ((objOf ten_le (imageTable f (L ⟨n, h⟩) (T ⟨n, h⟩)) (S ⟨n, h⟩) : ℝ) : EReal) := dif_pos h

/-- The batch's box loss is the sum of its images' terms. -/
theorem boxSum_eq : ∑ n ∈ Finset.range (7 + 1), boxTerm f L T n = boxSum f L T := by
  rw [Finset.sum_range]
  exact Finset.sum_congr rfl fun b _ => boxTerm_of_lt f L T b.isLt

/-- The batch's objectness loss is the sum of its images' terms. -/
theorem objSum_eq : ∑ n ∈ Finset.range (7 + 1), objTerm f L S T n = objSum f L S T := by
  rw [Finset.sum_range]
  exact Finset.sum_congr rfl fun b _ => objTerm_of_lt f L S T b.isLt

end

/-- The weighted total of a box loss and an objectness loss. -/
def weighted (b o : EReal) : EReal :=
  Ideal.div (Ideal.ofBits .f32 0x40F00000#32 * b + Ideal.ofBits .f32 0x3F800000#32 * o) (Ideal.ofBits .f32 0x41000000#32)

/-- A result has one element. -/
theorem only_index (j : S1x1x1.Idx) : j = ix3 0 0 0 := by
  funext a
  fin_cases a <;> exact Subsingleton.elim (α := Fin 1) _ _

/-- The launch's arguments are the real arrays `L`, `S` and `T`; each target's lower edge is not above its upper edge; and
    no two of an image's eleven best overlaps are the same positive number. -/
structure Launched (X : FVec Ideal S8x64x33600 .f32) (s : FVec Ideal S8x1x33600 .f32) (Y : FVec Ideal S8x20x4 .f32)
    (L : Fin 8 → Fin 64 → Fin 33600 → ℝ) (S : Fin 8 → Fin 33600 → ℝ) (T : Fin 8 → Fin 20 → Fin 4 → ℝ) (f : ℝ → ℝ) : Prop where
  distance : ∀ b k n, X (ix3 b k n) = (L b k n : EReal)
  score : ∀ b n, s (ix3 b 0 n) = (S b n : EReal)
  mark : ∀ b j k, Y (ix3 b j k) = (T b j k : EReal)
  ordered : ∀ b j, T b j 1 ≤ T b j 3
  untied : ∀ b, Untied eleven_le (imageTable f (L b) (T b))

end Cert.Loss
-- ==== Proof.Arctan.lean ====
/-
  The arctangent: the odd polynomial with which it is approximated, in nested form (the kernel) and as a sum of powers
  (the reference), which agree on the reals; and the true one, by the angle of the point `(1, z)`.
-/
module

public import proofs.«01_k».proof.Proof.Overlap

@[expose] public section

noncomputable section

open Idealize.ShloMosaic

namespace Cert.Loss

/-! ### The polynomial -/

/-- The lower coefficients, from the last but one down to the first, as f32 words. -/
def lowerCoefficients : List (BitVec 32) :=
  [0xBB55BEA8#32, 0x3C3E17AC#32, 0xBCD7377C#32, 0x3D33D37F#32, 0xBD7756C5#32, 0x3D99A54C#32, 0xBDB95E07#32,
    0x3DE3719F#32, 0xBE1247F5#32, 0x3E4CCCC0#32, 0xBEAAAAAB#32, 0x3F800000#32]

/-- The higher coefficients, from the second up to the last. -/
def higherCoefficients : List (BitVec 32) :=
  [0xBEAAAAAB#32, 0x3E4CCCC0#32, 0xBE1247F5#32, 0x3DE3719F#32, 0xBDB95E07#32, 0x3D99A54C#32, 0xBD7756C5#32,
    0x3D33D37F#32, 0xBCD7377C#32, 0x3C3E17AC#32, 0xBB55BEA8#32, 0x39E187BE#32]

/-- The argument brought into `[0, 1]`: `1 / z` beyond one. -/
def reduced (z : EReal) : EReal :=
  if 1 < z then Ideal.div 1 (max z (Ideal.ofBits .f32 0x0DA24260#32)) else z

/-- The polynomial in nested form. -/
def nested (x : EReal) : EReal :=
  x * lowerCoefficients.foldl (fun a w => a * (x * x) + Ideal.ofBits .f32 w) (Ideal.ofBits .f32 0x39E187BE#32)

/-- One more term of the sum of powers: the sum so far and the last power go in and come out. -/
def nextTerm (x : EReal) (sp : EReal × EReal) (w : BitVec 32) : EReal × EReal :=
  (sp.1 + Ideal.ofBits .f32 w * (sp.2 * (x * x)), sp.2 * (x * x))

/-- The polynomial as a sum of powers. -/
def series (x : EReal) : EReal :=
  (higherCoefficients.foldl (nextTerm x) (Ideal.ofBits .f32 0x3F800000#32 * x, x)).1

/-- The kernel's polynomial arctangent: the complement to a right angle beyond one. -/
def polyNested (z : EReal) : EReal :=
  if 1 < z then Ideal.ofBits .f32 0x3FC90FDB#32 - nested (reduced z) else nested (reduced z)

/-- The reference's polynomial arctangent. -/
def polySeries (z : EReal) : EReal :=
  if 1 < z then Ideal.ofBits .f32 0x3FC90FDB#32 - series (reduced z) else series (reduced z)

/-! ### The two forms agree on the reals -/

/-- Horner's scheme with finite coefficients on reals gives the real of the same scheme. -/
theorem foldl_real (t : ℝ) (ws : List (BitVec 32)) (hw : ∀ w ∈ ws, (w.extractLsb' 23 8).toNat ≠ 255) (a : ℝ) :
    ws.foldl (fun (a : EReal) w => a * (t : EReal) + Ideal.ofBits .f32 w) (a : EReal)
      = ((ws.foldl (fun (a : ℝ) w => a * t + cst w) a : ℝ) : EReal) := by
  induction ws generalizing a with
  | nil => rfl
  | cons w ws ih =>
    rw [List.foldl_cons, List.foldl_cons, ofBits_cst w (hw w List.mem_cons_self), ← EReal.coe_mul, ← EReal.coe_add,
      ih fun v hv => hw v (List.mem_cons_of_mem _ hv)]

/-- Adding terms with finite coefficients on reals gives the reals of the same sums. -/
theorem nextTerm_real (x : ℝ) (ws : List (BitVec 32)) (hw : ∀ w ∈ ws, (w.extractLsb' 23 8).toNat ≠ 255) (s p : ℝ) :
    (ws.foldl (nextTerm (x : EReal)) ((s : EReal), (p : EReal))).1
      = (((ws.foldl (fun (sp : ℝ × ℝ) w => (sp.1 + cst w * (sp.2 * (x * x)), sp.2 * (x * x))) (s, p)).1 : ℝ) : EReal) := by
  induction ws generalizing s p with
  | nil => rfl
  | cons w ws ih =>
    rw [List.foldl_cons, List.foldl_cons, ← ih fun v hv => hw v (List.mem_cons_of_mem _ hv)]
    congr 2
    simp only [nextTerm, ofBits_cst w (hw w List.mem_cons_self), EReal.coe_mul, EReal.coe_add]

/-- The coefficients of Horner's scheme are finite. -/
theorem lower_finite : ∀ w ∈ lowerCoefficients, (w.extractLsb' 23 8).toNat ≠ 255 := by
  simp only [lowerCoefficients, List.forall_mem_cons]
  refine ⟨?_, ?_, ?_, ?_, ?_, ?_, ?_, ?_, ?_, ?_, ?_, ?_, ?_⟩ <;> first | exact fun _ h => absurd h List.not_mem_nil | decide
/-- The coefficients of the sum of powers are finite. -/
theorem higher_finite : ∀ w ∈ higherCoefficients, (w.extractLsb' 23 8).toNat ≠ 255 := by
  simp only [higherCoefficients, List.forall_mem_cons]
  refine ⟨?_, ?_, ?_, ?_, ?_, ?_, ?_, ?_, ?_, ?_, ?_, ?_, ?_⟩ <;> first | exact fun _ h => absurd h List.not_mem_nil | decide

/-- The polynomial on the reals. -/
def polynomial (x : ℝ) : ℝ := x * lowerCoefficients.foldl (fun (a : ℝ) w => a * (x * x) + cst w) (cst 0x39E187BE#32)

/-- On a real, Horner's scheme is the polynomial. -/
theorem nested_real (x : ℝ) : nested (x : EReal) = ((polynomial x : ℝ) : EReal) := by
  unfold nested polynomial
  rw [ofBits_cst 0x39E187BE#32 (by decide), ← EReal.coe_mul x x, foldl_real (x * x) _ lower_finite, EReal.coe_mul]

/-- On a real, the sum of powers is the polynomial. -/
theorem series_real (x : ℝ) : series (x : EReal) = ((polynomial x : ℝ) : EReal) := by
  unfold series polynomial
  rw [ofBits_cst 0x3F800000#32 (by decide), ← EReal.coe_mul _ x, nextTerm_real x _ higher_finite]
  congr 1
  simp only [higherCoefficients, lowerCoefficients, List.foldl_cons, List.foldl_nil]
  ring

/-- The reduced argument of a real is a real. -/
theorem reduced_real (z : ℝ) : ∃ x : ℝ, reduced (z : EReal) = (x : EReal) := by
  unfold reduced
  have ht : 0 < cst 0x0DA24260#32 := cst_pos _ (by decide) (by decide) (by decide)
  by_cases h : (1 : EReal) < z
  · rw [if_pos h, ofBits_cst _ (by decide), ← coe_max, ← EReal.coe_one,
      div_real (lt_of_lt_of_le ht (le_max_right _ _)).ne']
    exact ⟨_, rfl⟩
  · exact ⟨z, if_neg h⟩

/-- On the reals both polynomial arctangents are the same real. -/
theorem poly_real (z : ℝ) : ∃ a : ℝ, polyNested (z : EReal) = (a : EReal) ∧ polySeries (z : EReal) = (a : EReal) := by
  obtain ⟨x, hx⟩ := reduced_real z
  unfold polyNested polySeries
  rw [hx, nested_real, series_real, ofBits_cst 0x3FC90FDB#32 (by decide), ← EReal.coe_sub]
  by_cases h : (1 : EReal) < z
  · rw [if_pos h]; exact ⟨_, rfl, rfl⟩
  · rw [if_neg h]; exact ⟨_, rfl, rfl⟩

/-- The polynomial arctangent of a real, as a real. -/
def polyArctan (z : ℝ) : ℝ := (poly_real z).choose

/-- The kernel's polynomial arctangent of a real. -/
theorem polyNested_real (z : ℝ) : polyNested (z : EReal) = ((polyArctan z : ℝ) : EReal) := (poly_real z).choose_spec.1
/-- The reference's polynomial arctangent of a real. -/
theorem polySeries_real (z : ℝ) : polySeries (z : EReal) = ((polyArctan z : ℝ) : EReal) := (poly_real z).choose_spec.2

/-! ### The true arctangent -/

/-- The angle of the point `(1, z)` is the arctangent of `z`. -/
theorem atan2_one (z : ℝ) : Ideal.atan2 (z : EReal) 1 = ((Real.arctan z : ℝ) : EReal) := by
  rw [← EReal.coe_one]
  show ((if (0 : ℝ) < 1 then Real.arctan (z / 1) else _ : ℝ) : EReal) = _
  rw [if_pos one_pos, div_one]

/-! ### The reference's polynomial arctangent of a whole array -/

section
variable {S : Shape} (fill : BitVec 32 → FVec Ideal S .f32) (z : FVec Ideal S .f32)

/-- The reduced argument of an array; `fill w` is the array that holds the constant `w` everywhere. -/
def reducedArray : FVec Ideal S .f32 :=
  select (cmpf .ogt z (fill 0x3F800000#32)) (Host.divf (fill 0x3F800000#32) (maximumf z (fill 0x0DA24260#32))) z

/-- One more term, for an array. -/
def nextTermArray (x : FVec Ideal S .f32) (sp : FVec Ideal S .f32 × FVec Ideal S .f32) (w : BitVec 32) :
    FVec Ideal S .f32 × FVec Ideal S .f32 :=
  (addf sp.1 (mulf (fill w) (mulf sp.2 (mulf x x))), mulf sp.2 (mulf x x))

/-- The sum of powers of an array. -/
def seriesArray (x : FVec Ideal S .f32) : FVec Ideal S .f32 :=
  (higherCoefficients.foldl (nextTermArray fill x) (mulf (fill 0x3F800000#32) x, x)).1

/-- The reference's polynomial arctangent of an array. -/
def polyArray : FVec Ideal S .f32 :=
  select (cmpf .ogt z (fill 0x3F800000#32)) (subf (fill 0x3FC90FDB#32) (seriesArray fill (reducedArray fill z)))
    (seriesArray fill (reducedArray fill z))

variable {fill}

/-- The sum of powers of an array, at an index. -/
theorem seriesArray_apply (hf : ∀ w i, fill w i = Ideal.ofBits .f32 w) (x : FVec Ideal S .f32) (i : S.Idx) :
    seriesArray fill x i = series (x i) := by
  have h : ∀ (ws : List (BitVec 32)) (s p : FVec Ideal S .f32),
      (ws.foldl (nextTermArray fill x) (s, p)).1 i = (ws.foldl (nextTerm (x i)) (s i, p i)).1 := by
    intro ws
    induction ws with
    | nil => intro s p; rfl
    | cons w ws ih =>
      intro s p
      rw [List.foldl_cons, List.foldl_cons]
      refine (ih _ _).trans ?_
      unfold nextTerm
      rw [← hf w i]
      rfl
  refine (h _ _ _).trans ?_
  unfold series
  rw [← hf 0x3F800000#32 i]
  rfl

/-- A choice by "greater than". -/
theorem select_gt (x y a b : EReal) : Scalar.select (FloatOps.cmpf (F := Ideal) (φ := .f32) .ogt x y) a b = if y < x then a else b := by
  show Scalar.select (Ideal.cmp .ogt x y) a b = _
  unfold Ideal.cmp
  simp only
  by_cases h : y < x
  · rw [decide_eq_true h, if_pos h]; rfl
  · rw [decide_eq_false h, if_neg h]; rfl

/-- The polynomial arctangent of an array, at an index. -/
theorem polyArray_apply (hf : ∀ w i, fill w i = Ideal.ofBits .f32 w) (i : S.Idx) :
    polyArray fill z i = polySeries (z i) := by
  have h1 : fill 0x3F800000#32 i = (1 : EReal) := (hf _ i).trans Ideal.ofBits_one_f32
  have hr : reducedArray fill z i = reduced (z i) := by
    show Scalar.select (FloatOps.cmpf (F := Ideal) (φ := .f32) .ogt (z i) (fill 0x3F800000#32 i))
      (Ideal.div (fill 0x3F800000#32 i) (max (z i) (fill 0x0DA24260#32 i))) (z i) = _
    rw [select_gt, h1, hf]
    rfl
  show Scalar.select (FloatOps.cmpf (F := Ideal) (φ := .f32) .ogt (z i) (fill 0x3F800000#32 i))
    (fill 0x3FC90FDB#32 i - seriesArray fill (reducedArray fill z) i) (seriesArray fill (reducedArray fill z) i) = _
  rw [select_gt, h1, hf, seriesArray_apply hf, hr]
  rfl

end

end Cert.Loss
-- ==== Proof.KernelAtanGrid.lean ====
/-
  The kernel with the arctangent itself, over its grid: the same eight points, whose tables and steps are those of the
  kernel with the polynomial, with the arctangent in the polynomial's place.
-/
module

public import proofs.«01_k».proof.Proof.Gen.KernelAtanIdeal.Value
public import proofs.«01_k».proof.Proof.PointLoss
public import proofs.«01_k».proof.Proof.Arctan
public import Idealize.ShloMosaic.Lib.Pipeline.ValueKit

@[expose] public section

set_option maxRecDepth 16384

noncomputable section

open Idealize.ShloMosaic Idealize.ShloMosaic.TcCoe Idealize.SL.Sem Cert.KernelAtanIdeal Cert.KernelAtanIdeal.Gen

namespace Cert.Loss.Atan

/-! ## The payloads against the polynomial kernel's -/

/-- The arctangents of the boxes' ratios. -/
def laneAtan (x : FVec Ideal S1x64x33600 .f32) : FVec Ideal S8x4200 .f32 :=
  atan2 (laneRatio x) (broadcast S8x4200 (Scalar.ofBits .f32 0x3F800000#32))

/-- The arctangents of the targets' ratios. -/
def markAtan (y : FVec Ideal S1x20x4 .f32) : FVec Ideal S20x1x1 .f32 :=
  atan2 (markRatio y) (broadcast S20x1x1 (Scalar.ofBits .f32 0x3F800000#32))

/-- The arctangents of the boxes' ratios, at a lane. -/
theorem laneAtan_apply (x : FVec Ideal S1x64x33600 .f32) (s : Fin 8) (l : Fin 4200) :
    laneAtan x (ix2 s l) = Ideal.atan2 (laneRatio x (ix2 s l)) 1 := by
  rw [← Ideal.ofBits_one_f32]; rfl

/-- The arctangents of the targets' ratios, at a target. -/
theorem markAtan_apply (y : FVec Ideal S1x20x4 .f32) (j : Fin 20) :
    markAtan y (ix3 j 0 0) = Ideal.atan2 (markRatio y (ix3 j 0 0)) 1 := by
  rw [← Ideal.ofBits_one_f32]; rfl

/-- The overlaps of the image's boxes and targets, as this kernel computes them. -/
def tableOf (x : FVec Ideal S1x64x33600 .f32) (y : FVec Ideal S1x20x4 .f32) : FVec Ideal S20x8x4200 .f32 :=
  k0_pay37 (k0_pay17 (k0_pay4 x) k0_pay5 k0_pay6 16#32 k0_pay7 k0_pay8)
    (k0_pay18 (k0_pay4 x) k0_pay5 k0_pay6 16#32 k0_pay7 k0_pay8)
    (k0_pay19 (k0_pay4 x) k0_pay5 k0_pay6 16#32 k0_pay7 k0_pay8) (k0_pay21 y) (k0_pay22 y) (k0_pay23 y)
    (k0_pay24 y) (k0_pay27 y) (k0_pay28 y) (k0_pay29 y)
    (k0_pay30 (k0_pay12 (k0_pay4 x) k0_pay5 k0_pay6 16#32 k0_pay7 k0_pay8))
    (k0_pay31 (k0_pay13 (k0_pay4 x) k0_pay5 k0_pay6 16#32 k0_pay7 k0_pay8))
    (k0_pay32 (k0_pay10 (k0_pay4 x) k0_pay5 k0_pay6 16#32 k0_pay7 k0_pay8))
    (k0_pay33 (k0_pay11 (k0_pay4 x) k0_pay5 k0_pay6 16#32 k0_pay7 k0_pay8))
    (k0_pay34 (k0_pay10 (k0_pay4 x) k0_pay5 k0_pay6 16#32 k0_pay7 k0_pay8)
      (k0_pay11 (k0_pay4 x) k0_pay5 k0_pay6 16#32 k0_pay7 k0_pay8)
      (k0_pay12 (k0_pay4 x) k0_pay5 k0_pay6 16#32 k0_pay7 k0_pay8)
      (k0_pay13 (k0_pay4 x) k0_pay5 k0_pay6 16#32 k0_pay7 k0_pay8) y)
    (k0_pay35 (k0_pay16 (k0_pay4 x) k0_pay5 k0_pay6 16#32 k0_pay7 k0_pay8)) (k0_pay36 y)

/-- They are the polynomial kernel's, with these arctangents. -/
theorem tableOf_eq (x : FVec Ideal S1x64x33600 .f32) (y : FVec Ideal S1x20x4 .f32) :
    tableOf x y = laneTable (laneAtan x) (markAtan y) x y := rfl

/-- Each line's best overlap of a table. -/
def lineBest (C : FVec Ideal S20x8x4200 .f32) : FVec Ideal S20x8x1 .f32 :=
  shapeCast S20x8x1 (multiReduction .maximumf [2] S20x8 C 0xFF800000#32 reduces_S20x8x4200_S20x8 (.inl rfl) rfl)
    shapeCasts_S20x8_S20x8x1

/-- The rounds that strike the best overlaps are the same. -/
theorem best_eq (C : FVec Ideal S20x8x4200 .f32) :
    k0_pay41 (F := Ideal) C (k0_pay39 C (lineBest C)) (k0_pay40 (F := Ideal) C (lineBest C)) (Scalar.ofBits .f32 0xFF800000#32)
      = bestOf C := rfl

/-- The box total's step is the same, over any best overlaps. -/
theorem stepBox_eq (C : FVec Ideal S20x8x4200 .f32) (acc : FVec Ideal S1x1x1 .f32) :
    k0_pay1 (k0_pay47 (k0_pay42 C (k0_pay39 C (lineBest C)) (k0_pay40 (F := Ideal) C (lineBest C)) (Scalar.ofBits .f32 0xFF800000#32))
      (k0_pay43 C (k0_pay39 C (lineBest C)) (k0_pay40 (F := Ideal) C (lineBest C)) (Scalar.ofBits .f32 0xFF800000#32)) acc)
      = stepBox (bestOf C) acc := by
  unfold k0_pay42 k0_pay43
  rw [best_eq]
  rfl

/-- The objectness total's step is the same. -/
theorem stepObj_eq (C : FVec Ideal S20x8x4200 .f32) (s : FVec Ideal S1x8x4200 .f32) (acc : FVec Ideal S1x1x1 .f32) :
    k0_pay2 (k0_pay44 (k0_pay42 C (k0_pay39 C (lineBest C)) (k0_pay40 (F := Ideal) C (lineBest C)) (Scalar.ofBits .f32 0xFF800000#32)) s) acc
      = stepObj (bestOf C) s acc := by
  unfold k0_pay42
  rw [best_eq]
  rfl

variable (m : (ℓ : Loc nD τ sig) → Buf (Elt Ideal) ℓ) (c : Dev nD)

/-! ## The blocks that a point reads -/

/-- A point's block of distances is its image's. -/
theorem index_distances : ∀ t : Fin cfg0.N, win0_0.index t = ![t.val, 0, 0] := by decide +kernel
/-- A point's block of scores is its image's. -/
theorem index_scores : ∀ t : Fin cfg0.N, win0_1.index t = ![t.val, 0, 0] := by decide +kernel
/-- A point's block of targets is its image's. -/
theorem index_marks : ∀ t : Fin cfg0.N, win0_2.index t = ![t.val, 0, 0] := by decide +kernel

/-- A point reads its image's box distances. -/
theorem read_distances (t : Fin cfg0.N) (k : Fin 64) (n : Fin 33600) :
    (iblk m c 0 t : FVec Ideal S1x64x33600 .f32) (ix3 0 k n)
      = m ((c : Thread nD τ).loc main_arg0) (ix3 ⟨t.val, t.isLt⟩ k n) := by
  rw [← V_main_arg0 m c]
  unfold iblk
  rw [View.read_apply]
  refine congrArg (V m c main_arg0) (funext fun a => Fin.ext ?_)
  fin_cases a <;> (blk_simp [index_distances]; rfl)

/-- A point reads its image's targets. -/
theorem read_marks (t : Fin cfg0.N) (k : Fin 20) (n : Fin 4) :
    (iblk m c 2 t : FVec Ideal S1x20x4 .f32) (ix3 0 k n)
      = m ((c : Thread nD τ).loc main_arg2) (ix3 ⟨t.val, t.isLt⟩ k n) := by
  rw [← V_main_arg2 m c]
  unfold iblk
  rw [View.read_apply]
  refine congrArg (V m c main_arg2) (funext fun a => Fin.ext ?_)
  fin_cases a <;> (blk_simp [index_marks]; rfl)

/-- The scores in eight rows of 4200. -/
theorem scores_rows : V m c main_call0_v0
    = shapeCast S8x8x4200 (m ((c : Thread nD τ).loc main_arg1) : FVec Ideal S8x1x33600 .f32) shapeCasts_S8x1x33600_S8x8x4200 := rfl

/-- A score in rows is the score of the anchor at that place. -/
theorem rows_apply (s : FVec Ideal S8x1x33600 .f32) (b u : Fin 8) (l : Fin 4200) :
    shapeCast S8x8x4200 s shapeCasts_S8x1x33600_S8x8x4200 (ix3 b u l) = s (ix3 b 0 (anchor u l)) := by
  pointwise
  rfl

/-- A point reads its image's scores. -/
theorem read_scores (t : Fin cfg0.N) (u : Fin 8) (l : Fin 4200) :
    (iblk m c 1 t : FVec Ideal S1x8x4200 .f32) (ix3 0 u l)
      = m ((c : Thread nD τ).loc main_arg1) (ix3 ⟨t.val, t.isLt⟩ 0 (anchor u l)) := by
  refine Eq.trans ?_ (rows_apply (m ((c : Thread nD τ).loc main_arg1)) ⟨t.val, t.isLt⟩ u l)
  rw [← scores_rows m c]
  unfold iblk
  rw [View.read_apply]
  refine congrArg (V m c main_call0_v0) (funext fun a => Fin.ext ?_)
  fin_cases a <;> (blk_simp [index_scores]; rfl)

/-! ## The running totals -/

/-- The best overlaps of a point's image. -/
def pointBest (t : Fin cfg0.N) : FVec Ideal S8x4200 .f32 :=
  bestOf (laneTable (laneAtan (iblk m c 0 t)) (markAtan (iblk m c 2 t)) (iblk m c 0 t) (iblk m c 2 t))

/-- The first point starts the totals. -/
theorem first (t : Fin cfg0.N) (h0 : t.val % 8 = 0) :
    (outsAt0 m c t.val t.isLt).2.1 = stepBox (pointBest m c t) k0_pay45
      ∧ (outsAt0 m c t.val t.isLt).2.2 = stepObj (pointBest m c t) (iblk m c 1 t) k0_pay46 := by
  rw [outsAt0_A m c t h0 (by omega)]
  dsimp only
  frame_out
  rw [pointBest, ← tableOf_eq]
  exact ⟨stepBox_eq (tableOf _ _) _, stepObj_eq (tableOf _ _) _ _⟩

/-- A later point adds to them. -/
theorem later (t : Fin cfg0.N) (h0 : ¬ t.val % 8 = 0) :
    (outsAt0 m c t.val t.isLt).2.1
        = stepBox (pointBest m c t) (outsAt0 m c (t.val - 1) (Nat.lt_of_le_of_lt (Nat.sub_le _ _) t.isLt)).2.1
      ∧ (outsAt0 m c t.val t.isLt).2.2
        = stepObj (pointBest m c t) (iblk m c 1 t) (outsAt0 m c (t.val - 1) (Nat.lt_of_le_of_lt (Nat.sub_le _ _) t.isLt)).2.2 := by
  by_cases h1 : t.val % 8 = 7
  · rw [outsAt0_C m c t h0 h1]
    dsimp only
    frame_out
    rw [pointBest, ← tableOf_eq]
    exact ⟨stepBox_eq (tableOf _ _) _, stepObj_eq (tableOf _ _) _ _⟩
  · rw [outsAt0_B m c t h0 h1]
    dsimp only
    frame_out
    rw [pointBest, ← tableOf_eq]
    exact ⟨stepBox_eq (tableOf _ _) _, stepObj_eq (tableOf _ _) _ _⟩

/-- The last point writes the weighted total. -/
theorem last (t : Fin cfg0.N) (h0 : ¬ t.val % 8 = 0) (h1 : t.val % 8 = 7) :
    (outsAt0 m c t.val t.isLt).1 = k0_pay3 (outsAt0 m c t.val t.isLt).2.1 (outsAt0 m c t.val t.isLt).2.2 := by
  rw [outsAt0_C m c t h0 h1]
  dsimp only
  frame_out

/-! ## The results -/

section
variable {m c} {L : Fin 8 → Fin 64 → Fin 33600 → ℝ} {S : Fin 8 → Fin 33600 → ℝ} {T : Fin 8 → Fin 20 → Fin 4 → ℝ}
  (h : Launched (m ((c : Thread nD τ).loc main_arg0)) (m ((c : Thread nD τ).loc main_arg1))
    (m ((c : Thread nD τ).loc main_arg2)) L S T Real.arctan)
include h

/-- A point adds its image's box loss. -/
theorem box_step (t : Fin cfg0.N) (acc : FVec Ideal S1x1x1 .f32) : stepBox (pointBest m c t) acc (ix3 0 0 0)
    = acc (ix3 0 0 0) + boxTerm Real.arctan L T t.val := by
  rw [boxTerm_of_lt Real.arctan L T t.isLt]
  exact boxPoint (fun k n => (read_distances m c t k n).trans (h.distance _ k n))
    (fun j k => (read_marks m c t j k).trans (h.mark _ j k)) (h.ordered _)
    (fun s l z hz => by rw [laneAtan_apply, hz, atan2_one])
    (fun j z hz => by rw [markAtan_apply, hz, atan2_one]) (h.untied _) acc

/-- A point adds its image's objectness loss. -/
theorem obj_step (t : Fin cfg0.N) (acc : FVec Ideal S1x1x1 .f32) :
    stepObj (pointBest m c t) (iblk m c 1 t) acc (ix3 0 0 0) = acc (ix3 0 0 0) + objTerm Real.arctan L S T t.val := by
  rw [objTerm_of_lt Real.arctan L S T t.isLt]
  exact objPoint (fun k n => (read_distances m c t k n).trans (h.distance _ k n))
    (fun j k => (read_marks m c t j k).trans (h.mark _ j k))
    (fun u l => (read_scores m c t u l).trans (h.score _ _)) (h.ordered _)
    (fun s l z hz => by rw [laneAtan_apply, hz, atan2_one])
    (fun j z hz => by rw [markAtan_apply, hz, atan2_one]) (h.untied _) acc

/-- The box total after the last point. -/
theorem box_total (t : Fin cfg0.N) (ht : t.val = 7) :
    (outsAt0 m c t.val t.isLt).2.1 (ix3 0 0 0) = boxSum Real.arctan L T := by
  refine (Pipeline.eq_sum_of_reset_step_apply_single (N := cfg0.N) (ι := Unit) (M := EReal)
    (fun n hn _ => (outsAt0 m c n hn).2.1 (ix3 0 0 0)) 8 (fun _ => 0) (fun n _ => boxTerm Real.arctan L T n)
    (fun t h0 _ => ?_) (fun t h0 _ => ?_) (by decide +kernel) t ()).trans ?_
  · rw [(first m c t h0).1, box_step h]
    exact congrArg (· + _) start_apply.1
  · rw [(later m c t h0).1, box_step h]
  · rw [zero_add, ht, boxSum_eq]

/-- The objectness total after the last point. -/
theorem obj_total (t : Fin cfg0.N) (ht : t.val = 7) :
    (outsAt0 m c t.val t.isLt).2.2 (ix3 0 0 0) = objSum Real.arctan L S T := by
  refine (Pipeline.eq_sum_of_reset_step_apply_single (N := cfg0.N) (ι := Unit) (M := EReal)
    (fun n hn _ => (outsAt0 m c n hn).2.2 (ix3 0 0 0)) 8 (fun _ => 0) (fun n _ => objTerm Real.arctan L S T n)
    (fun t h0 _ => ?_) (fun t h0 _ => ?_) (by decide +kernel) t ()).trans ?_
  · rw [(first m c t h0).2, obj_step h]
    exact congrArg (· + _) start_apply.2
  · rw [(later m c t h0).2, obj_step h]
  · rw [zero_add, ht, objSum_eq]

/-- The kernel's second result: the box loss. -/
theorem result_box : (dats m 0 c).arrAt 4 cfg0.N = fun _ => boxSum Real.arctan L T := by
  refine (dats m 0 c).arrAt_eq_of_after_last 4 t0_7 (by decide +kernel) _ fun j => ?_
  blk_simp
  rw [after0_4, only_index j]
  exact box_total h t0_7 rfl

/-- The kernel's third result: the objectness loss. -/
theorem result_obj : (dats m 0 c).arrAt 5 cfg0.N = fun _ => objSum Real.arctan L S T := by
  refine (dats m 0 c).arrAt_eq_of_after_last 5 t0_7 (by decide +kernel) _ fun j => ?_
  blk_simp
  rw [after0_5, only_index j]
  exact obj_total h t0_7 rfl

/-- The kernel's first result: the weighted total. -/
theorem result_total : (dats m 0 c).arrAt 3 cfg0.N = fun _ => weighted (boxSum Real.arctan L T) (objSum Real.arctan L S T) := by
  refine (dats m 0 c).arrAt_eq_of_after_last 3 t0_7 (by decide +kernel) _ fun j => ?_
  blk_simp
  rw [after0_3, only_index j, last m c t0_7 (by decide) (by decide)]
  refine (total_apply _ _).trans ?_
  rw [box_total h t0_7 rfl, obj_total h t0_7 rfl]
  rfl

end

end Cert.Loss.Atan
-- ==== Proof.RefLoss.lean ====
/-
  The reference's two totals are the sums over the images of the losses of `Loss.lean`, whatever the table of
  complete IoUs.
-/
module

public import proofs.«01_k».proof.Proof.Reference
public import proofs.«01_k».proof.Proof.Loss
public import Idealize.ShloMosaic.Lib.Routing.OpsOrder

@[expose] public section

set_option maxRecDepth 16384

noncomputable section

open Idealize.ShloMosaic Idealize.ShloMosaic.TcCoe Cert.ReferenceIdeal Cert.ReferenceIdeal.Gen

namespace Cert.Loss

/-- The best ten of each target, and where they are. -/
def tenBest (C : FVec Ideal S8x20x33600 .f32) : FVec Ideal S8x20x10 .f32 × IVec S8x20x10 32 :=
  Host.topK S8x20x10 2 (FloatOps.cmpfTotal (F := Ideal) (φ := .f32) .gt) C sliceFits_S8x20x33600_S8x20x10

/-- Where a target chooses an anchor. -/
def chosenArray (C : FVec Ideal S8x20x33600 .f32) : IVec S8x20x33600 1 := chosenOf (tenBest C).1 (tenBest C).2

/-- The reference's box total. -/
def boxLoss (C : FVec Ideal S8x20x33600 .f32) : FVec Ideal S_ .f32 :=
  boxTotal (countOf (positiveOf (chosenArray C))) (gainOf (chosenArray C) C) (positiveOf (chosenArray C))

/-- The reference's objectness total. -/
def objLoss (s : FVec Ideal S8x33600 .f32) (C : FVec Ideal S8x20x33600 .f32) : FVec Ideal S_ .f32 :=
  objTotal s (gainOf (chosenArray C) C)

/-- There are at least ten anchors. -/
theorem ten : 10 ≤ 33600 := by norm_num

/-- The table of one image. -/
def table (C : FVec Ideal S8x20x33600 .f32) (b : Fin 8) (j : Fin 20) (n : Fin 33600) : EReal := C (ix3 b j n)

section
variable (C : FVec Ideal S8x20x33600 .f32) (b : Fin 8)

/-- The words that number the anchors are distinct. -/
theorem anchor_word_inj {i n : Fin 33600} : BitVec.ofNat 32 i.val = BitVec.ofNat 32 n.val ↔ i = n := by
  refine ⟨fun h => ?_, fun h => by rw [h]⟩
  have := congrArg BitVec.toNat h
  simp only [BitVec.toNat_ofNat] at this
  rw [Nat.mod_eq_of_lt (by omega), Nat.mod_eq_of_lt (by omega)] at this
  exact Fin.ext this

/-- The conjunction of two one-bit words. -/
theorem andi_one_iff (x y : BitVec 1) : IntOp.andi x y = 1#1 ↔ x = 1#1 ∧ y = 1#1 := by
  revert x y; decide

/-- A truth value as a one-bit word. -/
theorem ofBool_one_iff (x : Bool) : BitVec.ofBool x = 1#1 ↔ x = true := by
  revert x; decide

/-- The mask of a target marks the anchors that it chooses. -/
theorem chosenArray_iff (j : Fin 20) (n : Fin 33600) :
    chosenArray C (ix3 b j n) = 1#1 ↔ Chosen ten (table C b) j n := by
  unfold chosenArray
  rw [chosenOf_apply, Routing.fold_ori]
  have hv : ∀ i : Fin 10, (tenBest C).1 (ix3 b j i) = table C b j (order (table C b j) (Fin.castLE ten i)) :=
    fun i => (topK_apply C _ ten b j i).1
  have hp : ∀ i : Fin 10, (tenBest C).2 (ix3 b j i) = BitVec.ofNat 32 (order (table C b j) (Fin.castLE ten i)).val :=
    fun i => (topK_apply C _ ten b j i).2
  have hi : ∀ i : Fin 10, IntOp.andi (IntOp.cmpi .eq ((tenBest C).2 (ix3 b j i)) (BitVec.ofNat 32 n.val))
      (BitVec.ofBool (decide (0 < (tenBest C).1 (ix3 b j i)))) = 1#1
        ↔ order (table C b j) (Fin.castLE ten i) = n ∧ 0 < table C b j (order (table C b j) (Fin.castLE ten i)) := by
    intro i
    rw [andi_one_iff, hv, hp, ofBool_one_iff, decide_eq_true_iff]
    refine and_congr_left fun _ => ?_
    show BitVec.ofBool (_ == _) = 1#1 ↔ _
    rw [ofBool_one_iff, beq_iff_eq, anchor_word_inj]
  constructor
  · rintro ⟨i, -, h⟩
    obtain ⟨h1, h2⟩ := (hi i).1 h
    rw [h1] at h2
    exact ⟨h2, i, h1⟩
  · rintro ⟨h2, i, h1⟩
    refine ⟨i, Finset.mem_univ _, (hi i).2 ⟨h1, ?_⟩⟩
    rw [h1]
    exact h2

/-- A choice by a word that says a proposition. -/
theorem select_of_iff {α : Type} (c : BitVec 1) (p : Prop) [Decidable p] (h : c = 1#1 ↔ p) (x y : α) :
    Scalar.select c x y = if p then x else y := by
  by_cases hp : p
  · rw [if_pos hp, h.2 hp]; rfl
  · rw [if_neg hp]
    rcases BitVec.eq_zero_or_eq_one c with hc | hc
    · rw [hc]; rfl
    · exact absurd (h.1 hc) hp

variable {C} in
/-- The reference's gain of an anchor. -/
theorem gainOf_eq (hC : ∀ b j n, C (ix3 b j n) ≠ ⊤) (n : Fin 33600) :
    gainOf (chosenArray C) C (ix2 b n) = ((gain ten (table C b) n : ℝ) : EReal) := by
  rw [gainOf_apply, ofBits_bot, ← fold_select_eq_gain (C := table C b) ten n fun j n => hC b j n]
  refine congrArg (fun f : Fin 20 → EReal => Finset.fold max ⊥ f Finset.univ) (funext fun j => ?_)
  classical
  exact select_of_iff _ _ (chosenArray_iff C b j n) _ _

/-- A word that says a proposition, as one or zero. -/
theorem uitofp_of_iff (c : BitVec 1) (p : Prop) [Decidable p] (h : c = 1#1 ↔ p) :
    (FloatOps.uitofp (F := Ideal) .f32 c : EReal) = (((if p then 1 else 0 : ℝ)) : EReal) := by
  have : (FloatOps.uitofp (F := Ideal) .f32 c : EReal) = ((c.toNat : ℝ) : EReal) := rfl
  rw [this]
  by_cases hp : p
  · rw [if_pos hp, h.2 hp]; simp
  · rw [if_neg hp]
    rcases BitVec.eq_zero_or_eq_one c with hc | hc
    · rw [hc]; simp
    · exact absurd (h.1 hc) hp

/-- The reference's mask of the positive anchors. -/
theorem positiveOf_eq (n : Fin 33600) :
    positiveOf (chosenArray C) (ix2 b n) = ((positive ten (table C b) n : ℝ) : EReal) := by
  rw [positiveOf_apply]
  classical
  unfold positive
  rw [uitofp_of_iff _ (∃ j, Chosen ten (table C b) j n)]
  rw [Routing.fold_ori]
  simp only [chosenArray_iff, Finset.mem_univ, true_and]

end

variable {C : FVec Ideal S8x20x33600 .f32}

/-- The reference's box total is the sum of the box losses of the images. -/
theorem boxLoss_eq (hC : ∀ b j n, C (ix3 b j n) ≠ ⊤) :
    boxLoss C ix0 = ∑ b : Fin 8, ((boxOf ten (table C b) : ℝ) : EReal) := by
  unfold boxLoss
  rw [boxTotal_apply]
  refine Finset.sum_congr rfl fun b _ => ?_
  rw [countOf_apply]
  simp only [positiveOf_eq, gainOf_eq b hC]
  exact box_reference ten (table C b)

/-- The reference's objectness total is the sum of the objectness losses of the images. -/
theorem objLoss_eq (hC : ∀ b j n, C (ix3 b j n) ≠ ⊤) (s : FVec Ideal S8x33600 .f32) (S : Fin 8 → Fin 33600 → ℝ)
    (hs : ∀ b n, s (ix2 b n) = (S b n : EReal)) :
    objLoss s C ix0 = ∑ b : Fin 8, ((objOf ten (table C b) (S b) : ℝ) : EReal) := by
  unfold objLoss
  rw [objTotal_apply]
  refine Finset.sum_congr rfl fun b _ => ?_
  simp only [gainOf_eq b hC, hs, softplus_reference]
  exact obj_reference ten (table C b) (S b)

end Cert.Loss
-- ==== Proof.Allowed.lean ====
/-
  What the precondition says of the arguments, and what the reference's two totals are under it.
-/
module

public import proofs.«01_k».proof.Proof.RefLoss
public import proofs.«01_k».proof.Proof.Table
public import proofs.«01_k».proof.Proof.PointLoss

@[expose] public section

set_option maxRecDepth 16384

noncomputable section

open Idealize.ShloMosaic Idealize.ShloMosaic.TcCoe Cert.ReferenceIdeal Cert.ReferenceIdeal.Gen

namespace Cert.Loss

/-! ## The precondition's arrays -/

/-- The eleven best places fit in the row of anchors. -/
theorem slicesEleven : S8x20x33600.Slices (fun _ => 0) ⟨3, ![8, 20, 11]⟩ := by decide
/-- The second to the eleventh of the eleven best. -/
theorem slicesNext : (⟨3, ![8, 20, 11]⟩ : Shape).Slices ![0, 0, 1] S8x20x10 := by decide
/-- The first to the tenth of the eleven best. -/
theorem slicesHere : (⟨3, ![8, 20, 11]⟩ : Shape).Slices ![0, 0, 0] S8x20x10 := by decide

/-- Where an array is finite: its absolute value is below infinity. -/
def finiteArray {S : Shape} (h : S_.BroadcastsInDim S (![] : Fin 0 → Fin S.rank)) (x : FVec Ideal S .f32) : IVec S 1 :=
  cmpf .olt (Host.absf x) (broadcastInDim S ![] h (constant S_ .f32 0x7F800000#32))

/-- Where a target's lower edge is not above its upper edge. -/
def orderedArray (T : FVec Ideal S8x20x4 .f32) : IVec S8x20 1 :=
  cmpf .ole (shapeCast S8x20 (extractStridedSlice S8x20x1 ![0, 0, 1] T slices_S8x20x4_S8x20x1_0_0_1) shapeCasts_S8x20x1_S8x20)
    (shapeCast S8x20 (extractStridedSlice S8x20x1 ![0, 0, 3] T slices_S8x20x4_S8x20x1_0_0_3) shapeCasts_S8x20x1_S8x20)

/-- A target's best eleven. -/
def elevenBest (C : FVec Ideal S8x20x33600 .f32) : FVec Ideal ⟨3, ![8, 20, 11]⟩ .f32 :=
  (Host.topK ⟨3, ![8, 20, 11]⟩ 2 (FloatOps.cmpfTotal (F := Ideal) (φ := .f32) .gt) C slicesEleven).1

/-- Where the next of the best eleven is smaller, or this one is not positive. -/
def untiedArray (C : FVec Ideal S8x20x33600 .f32) : IVec S8x20x10 1 :=
  ori (cmpf .olt (extractStridedSlice S8x20x10 ![0, 0, 1] (elevenBest C) slicesNext)
      (extractStridedSlice S8x20x10 ![0, 0, 0] (elevenBest C) slicesHere))
    (cmpf .ole (extractStridedSlice S8x20x10 ![0, 0, 0] (elevenBest C) slicesHere)
      (broadcastInDim S8x20x10 ![] bcast_S_S8x20x10 (constant S_ .f32 0x00000000#32)))

/-! ## What they say -/

/-- The word of positive infinity. -/
theorem ofBits_top : Ideal.ofBits .f32 0x7F800000#32 = (⊤ : EReal) := by
  simp [Ideal.ofBits, Ideal.ieee]

/-- A word of one bit that says that a comparison holds. -/
theorem of_ofBool {p : Prop} [Decidable p] (h : BitVec.ofBool (decide p) = 1#1) : p := by
  by_contra hp
  rw [decide_eq_false hp] at h
  exact absurd h (by decide)

/-- A word of one bit that says that one of two comparisons holds. -/
theorem or_of_ofBool {p q : Prop} [Decidable p] [Decidable q]
    (h : IntOp.ori (BitVec.ofBool (decide p)) (BitVec.ofBool (decide q)) = 1#1) : p ∨ q := by
  by_contra hpq
  rw [not_or] at hpq
  rw [decide_eq_false hpq.1, decide_eq_false hpq.2] at h
  exact absurd h (by decide)

/-- A number whose absolute value is below infinity is real. -/
theorem real_of_abs {x : EReal} (h : max x (-x) < ⊤) : ∃ r : ℝ, x = r := by
  induction x using EReal.rec with
  | bot => simp at h
  | top => simp at h
  | coe r => exact ⟨r, rfl⟩

/-- A finite array's elements are real. -/
theorem real_of_finite {S : Shape} {h : S_.BroadcastsInDim S (![] : Fin 0 → Fin S.rank)} {x : FVec Ideal S .f32}
    (hx : finiteArray h x = fun _ => 1#1) (i : S.Idx) : ∃ r : ℝ, x i = r := by
  have h1 : BitVec.ofBool (decide (max (x i) (-(x i)) < Ideal.ofBits .f32 0x7F800000#32)) = 1#1 := congrFun hx i
  rw [ofBits_top] at h1
  exact real_of_abs (of_ofBool h1)

/-- The targets' edges are in order. -/
theorem le_of_ordered {T : FVec Ideal S8x20x4 .f32} (h : orderedArray T = fun _ => 1#1) (b : Fin 8) (j : Fin 20) :
    (T (ix3 b j 1) : EReal) ≤ T (ix3 b j 3) := by
  have h1 := congrFun h (ix2 b j)
  unfold orderedArray at h1
  pointwise at h1
  exact of_ofBool h1

/-- No two of the best eleven are the same positive number. -/
theorem untied_of_untiedArray {C : FVec Ideal S8x20x33600 .f32} (h : untiedArray C = fun _ => 1#1) (b : Fin 8) :
    Untied eleven_le (table C b) := by
  intro j i hi
  have key : ∀ i' : Fin 10, (elevenBest C (ix3 b j ⟨i'.val + 1, by omega⟩) : EReal) < elevenBest C (ix3 b j ⟨i'.val, by omega⟩)
      ∨ (elevenBest C (ix3 b j ⟨i'.val, by omega⟩) : EReal) ≤ 0 := fun i' => by
    have h1 := congrFun h (ix3 b j i')
    unfold untiedArray at h1
    generalize elevenBest C = E at h1 ⊢
    pointwise at h1
    simp only [Nat.add_comm 1] at h1
    exact or_of_ofBool h1
  have h2 := key ⟨i, hi⟩
  rw [show elevenBest C (ix3 b j ⟨i + 1, by omega⟩) = _ from (topK_apply C slicesEleven eleven_le b j ⟨i + 1, by omega⟩).1,
    show elevenBest C (ix3 b j ⟨i, by omega⟩) = _ from (topK_apply C slicesEleven eleven_le b j ⟨i, by omega⟩).1] at h2
  exact h2

/-! ## The launch -/

section
variable {A : FVec Ideal S8x64x33600 .f32} {s : FVec Ideal S8x1x33600 .f32} {T : FVec Ideal S8x20x4 .f32}
  {a₁ : FVec Ideal S8x1x33600 .f32} {a₂ : FVec Ideal S8x20x1 .f32} {f : ℝ → ℝ}

/-- Under the precondition the arguments are real, and the reference's totals are the batch's losses. -/
theorem launched_of
    {e₁ : S_.BroadcastsInDim S8x64x33600 (![] : Fin 0 → Fin 3)} {e₂ : S_.BroadcastsInDim S8x1x33600 (![] : Fin 0 → Fin 3)}
    {e₃ : S_.BroadcastsInDim S8x20x4 (![] : Fin 0 → Fin 3)}
    (hA : finiteArray e₁ A = fun _ => 1#1) (hs : finiteArray e₂ s = fun _ => 1#1)
    (hT : finiteArray e₃ T = fun _ => 1#1) (ho : orderedArray T = fun _ => 1#1)
    (hu : untiedArray (ciouArray a₁ a₂ (decoded (sides A)) T) = fun _ => 1#1)
    (h₁ : ∀ b n (z : ℝ), boxRatio (decoded (sides A)) (ix3 b 0 n) = z → a₁ (ix3 b 0 n) = (f z : EReal))
    (h₂ : ∀ b j (z : ℝ), targetRatio T (ix3 b j 0) = z → a₂ (ix3 b j 0) = (f z : EReal)) :
    ∃ L S T', Launched A s T L S T' f
      ∧ boxLoss (ciouArray a₁ a₂ (decoded (sides A)) T) ix0 = boxSum f L T'
      ∧ objLoss (shapeCast S8x33600 s shapeCasts_S8x1x33600_S8x33600) (ciouArray a₁ a₂ (decoded (sides A)) T) ix0
          = objSum f L S T' := by
  choose L hL using fun b k n => real_of_finite hA (ix3 b k n)
  choose S hS using fun b n => real_of_finite hs (ix3 b 0 n)
  choose T' hT' using fun b j k => real_of_finite hT (ix3 b j k)
  have hy : ∀ b j, T' b j 1 ≤ T' b j 3 := fun b j => by
    have := le_of_ordered ho b j
    rw [hT', hT'] at this
    exact EReal.coe_le_coe_iff.1 this
  have htable : ∀ b, table (ciouArray a₁ a₂ (decoded (sides A)) T) b = imageTable f (L b) (T' b) := fun b =>
    funext fun j => funext fun n => ciouArray_eq hL hT' hy f a₁ a₂ h₁ h₂ b j n
  have htop : ∀ b j n, ciouArray a₁ a₂ (decoded (sides A)) T (ix3 b j n) ≠ ⊤ := fun b j n => by
    rw [ciouArray_eq hL hT' hy f a₁ a₂ h₁ h₂ b j n]; exact imageTable_ne_top _ _ _ _ _
  refine ⟨L, S, T', ⟨hL, hS, hT', hy, fun b => by rw [← htable b]; exact untied_of_untiedArray hu b⟩, ?_, ?_⟩
  · rw [boxLoss_eq htop]
    simp only [htable]
    rfl
  · have hrow : ∀ (s : FVec Ideal S8x1x33600 .f32) (b : Fin 8) (n : Fin 33600),
        shapeCast S8x33600 s shapeCasts_S8x1x33600_S8x33600 (ix2 b n) = s (ix3 b 0 n) := fun s b n => by
      pointwise
    rw [objLoss_eq htop _ S fun b n => (hrow s b n).trans (hS b n)]
    simp only [htable]
    rfl

end

/-- A result array that holds one number holds it at its one index. -/
theorem one_number (x : FVec Ideal S_ .f32) {v : EReal} (h : x ix0 = v) :
    shapeCast S1x1x1 x shapeCasts_S_S1x1x1 = fun _ => v := by
  subst h
  funext j
  refine congrArg x (funext fun a => a.elim0)

/-- The reference's weighted total. -/
theorem one_total (x y : FVec Ideal S_ .f32) {v w : EReal} (h : x ix0 = v) (h' : y ix0 = w) :
    shapeCast S1x1x1 (Host.divf (addf (mulf (constant S_ .f32 0x40F00000#32) x) (mulf (constant S_ .f32 0x3F800000#32) y))
      (constant S_ .f32 0x41000000#32)) shapeCasts_S_S1x1x1 = fun _ => weighted v w := by
  refine one_number _ ?_
  subst h h'
  rfl

end Cert.Loss
-- ==== Proof.AtanResults.lean ====
/-
  The first pair of programs that the algebraic claim ties: the kernel with the arctangent and the reference with the
  arctangent have the same three results.
-/
module

public import proofs.«01_k».proof.Proof.Gen.ReferenceIdeal.Run
public import proofs.«01_k».proof.Proof.Gen.Pre_untied
public import proofs.«01_k».proof.Proof.Allowed
public import proofs.«01_k».proof.Proof.Arctan

@[expose] public section

set_option maxRecDepth 16384

noncomputable section

open Idealize.ShloMosaic Idealize.ShloMosaic.TcCoe Idealize.SL.Sem Idealize.ShloMosaic.StableHlo Cert.ReferenceIdeal Cert.ReferenceIdeal.Gen

namespace Cert.Loss

/-- The arctangent of an array, where the array holds a real. -/
theorem atan_real {S : Shape} (x : FVec Ideal S .f32) (i : S.Idx) {z : ℝ} (h : x i = (z : EReal)) :
    Host.atan x i = ((Real.arctan z : ℝ) : EReal) := by
  show Ideal.atan (x i) = _
  rw [h]
  exact Ideal.atan_coe z

/-- The reference's complete IoUs, with the arctangent. -/
def ciouAtan (A : FVec Ideal S8x64x33600 .f32) (T : FVec Ideal S8x20x4 .f32) : FVec Ideal S8x20x33600 .f32 :=
  ciouArray (Host.atan (boxRatio (decoded (sides A)))) (Host.atan (targetRatio T)) (decoded (sides A)) T

/-- The precondition's five parts. -/
theorem untied_parts (A : FVec Ideal S8x64x33600 .f32) (s : FVec Ideal S8x1x33600 .f32) (T : FVec Ideal S8x20x4 .f32) :
    (Cert.Pre_untied.fn (F := Ideal) A s T).1 = finiteArray Cert.Pre_untied.Facts.bcast_S_S8x64x33600 A
    ∧ (Cert.Pre_untied.fn (F := Ideal) A s T).2.1 = finiteArray Cert.Pre_untied.Facts.bcast_S_S8x1x33600 s
    ∧ (Cert.Pre_untied.fn (F := Ideal) A s T).2.2.1 = finiteArray Cert.Pre_untied.Facts.bcast_S_S8x20x4 T
    ∧ (Cert.Pre_untied.fn (F := Ideal) A s T).2.2.2.1 = orderedArray T
    ∧ (Cert.Pre_untied.fn (F := Ideal) A s T).2.2.2.2 = untiedArray (ciouAtan A T) := ⟨rfl, rfl, rfl, rfl, rfl⟩

section
variable (V0 : Valuation τ sig (Elt Ideal)) {A : FVec Ideal S8x64x33600 .f32} {s : FVec Ideal S8x1x33600 .f32}
  {T : FVec Ideal S8x20x4 .f32} (hA : V0 (Proc.devRef .tc main_arg0) = A) (hs : V0 (Proc.devRef .tc main_arg1) = s)
  (hT : V0 (Proc.devRef .tc main_arg2) = T)
include hA hT

/-- The reference's box total. -/
theorem atan_box : Cert.ReferenceIdeal.Value.res_main_v167 V0 = boxLoss (ciouAtan A T) := by
  subst hA hT; rfl

include hs in
/-- The reference's objectness total. -/
theorem atan_obj : Cert.ReferenceIdeal.Value.res_main_v168 V0
    = objLoss (shapeCast S8x33600 s shapeCasts_S8x1x33600_S8x33600) (ciouAtan A T) := by
  subst hA hs hT; rfl

end

end Cert.Loss
-- ==== Proof.AtanEqual.lean ====
/-
  The kernel with the arctangent against the reference with the arctangent: from
  equal arguments that the precondition allows, equal results.
-/
module

public import proofs.«01_k».proof.Defs
public import proofs.«01_k».proof.Proof.KernelAtanGrid
public import proofs.«01_k».proof.Proof.AtanResults

@[expose] public section

set_option maxRecDepth 16384

noncomputable section

open Idealize.ShloMosaic Idealize.ShloMosaic.TcCoe Idealize.SL.Sem Idealize.ShloMosaic.StableHlo Cert.KernelAtanIdeal Cert.KernelAtanIdeal.Gen

namespace Cert.Loss.Atan

/-- What the precondition gives: real arguments, and the reference's two totals. -/
theorem allowed (A : FVec Ideal S8x64x33600 .f32) (s : FVec Ideal S8x1x33600 .f32) (T : FVec Ideal S8x20x4 .f32)
    (h : (Cert.Pre_untied.fn (F := Ideal) A s T).1 = (fun _ => 1#1) ∧ (Cert.Pre_untied.fn (F := Ideal) A s T).2.1 = (fun _ => 1#1)
      ∧ (Cert.Pre_untied.fn (F := Ideal) A s T).2.2.1 = (fun _ => 1#1) ∧ (Cert.Pre_untied.fn (F := Ideal) A s T).2.2.2.1 = (fun _ => 1#1)
      ∧ (Cert.Pre_untied.fn (F := Ideal) A s T).2.2.2.2 = (fun _ => 1#1)) :
    ∃ L S T', Launched A s T L S T' Real.arctan ∧ boxLoss (ciouAtan A T) ix0 = boxSum Real.arctan L T'
      ∧ objLoss (shapeCast S8x33600 s Cert.ReferenceIdeal.Gen.shapeCasts_S8x1x33600_S8x33600) (ciouAtan A T) ix0
          = objSum Real.arctan L S T' := by
  obtain ⟨pA, ps, pT, po, pu⟩ := untied_parts A s T
  exact launched_of (pA.symm.trans h.1) (ps.symm.trans h.2.1) (pT.symm.trans h.2.2.1) (po.symm.trans h.2.2.2.1)
    (pu.symm.trans h.2.2.2.2)
    (fun b n z hz => atan_real _ _ hz)
    (fun b j z hz => atan_real _ _ hz)

/-- The algebraic claim. -/
theorem algebraic : Cert.algebraic_KernelAtanIdeal_ReferenceIdeal_pre_untied (hKernelAtanIdeal := Cert.KernelAtanIdeal.Gen.facts)
    (hReferenceIdeal := Cert.ReferenceIdeal.Gen.facts) (hPre_untied := Cert.Pre_untied.Gen.facts) := by
  intro m g m' g' hpre heq
  choose L S T h hB hO using fun c : Dev nD => allowed (m ((c.tc : Thread nD τ).loc main_arg0)) (m ((c.tc : Thread nD τ).loc main_arg1))
    (m ((c.tc : Thread nD τ).loc main_arg2)) (hpre c)
  have hbox : ∀ c : Dev nD, Cert.ReferenceIdeal.Value.res_main_v167 (launchContents m' c) ix0 = boxSum Real.arctan (L c) (T c) := fun c => by
    rw [atan_box _ (heq c).1 (heq c).2.2]; exact hB c
  have hobj : ∀ c : Dev nD, Cert.ReferenceIdeal.Value.res_main_v168 (launchContents m' c) ix0 = objSum Real.arctan (L c) (S c) (T c) := fun c => by
    rw [atan_obj _ (heq c).1 (heq c).2.1 (heq c).2.2]; exact hO c
  refine ⟨fun c _ => weighted (boxSum Real.arctan (L c) (T c)) (objSum Real.arctan (L c) (S c) (T c)),
    fun c _ => boxSum Real.arctan (L c) (T c), fun c _ => objSum Real.arctan (L c) (S c) (T c), ?_, ?_⟩
  · exact (θ_run _ _ _).mono (fun r hr c => ⟨(hr c).1.trans (result_total (h c)), (hr c).2.1.trans (result_box (h c)),
      (hr c).2.2.1.trans (result_obj (h c)), (hr c).2.2.2⟩) (Cert.KernelAtanIdeal.Value.run_blocks m g)
  · exact (θ_run _ _ _).mono (fun r hr c => ⟨(hr c).1.trans (one_total _ _ (hbox c) (hobj c)),
      (hr c).2.1.trans (one_number _ (hbox c)), (hr c).2.2.1.trans (one_number _ (hobj c)), (hr c).2.2.2⟩)
      (Cert.ReferenceIdeal.Value.run m' g')

end Cert.Loss.Atan
-- ==== Proof.KernelArctan.lean ====
/-
  The kernel's polynomial arctangents, read at an index.
-/
module

public import proofs.«01_k».proof.Proof.KernelTable
public import proofs.«01_k».proof.Proof.Arctan

@[expose] public section

set_option maxRecDepth 16384

noncomputable section

open Idealize.ShloMosaic Idealize.ShloMosaic.TcCoe Cert.KernelIdeal Cert.KernelIdeal.Gen

namespace Cert.Loss

/-- The polynomial in the kernel's steps. -/
theorem polyNested_steps (z : EReal) (x : EReal) (hx : x = reduced z) :
    (if 1 < z then Ideal.ofBits .f32 0x3FC90FDB#32 - nested x else nested x) = polyNested z := by
  rw [hx]; rfl

/-- The arctangents of the boxes' ratios. -/
def laneArctan (x : FVec Ideal S1x64x33600 .f32) : FVec Ideal S8x4200 .f32 :=
  k0_pay22 (F := Ideal) (k0_pay20 (F := Ideal) (k0_pay4 x) k0_pay5 k0_pay6 16#32 k0_pay7 k0_pay8)
    (k0_pay21 (laneRatio x) (k0_pay20 (F := Ideal) (k0_pay4 x) k0_pay5 k0_pay6 16#32 k0_pay7 k0_pay8))
    (Scalar.ofBits .f32 0x3FC90FDB#32)

/-- The arctangents of the targets' ratios. -/
def markArctan (y : FVec Ideal S1x20x4 .f32) : FVec Ideal S20x1x1 .f32 :=
  k0_pay39 (F := Ideal) (k0_pay34 (F := Ideal) y) (k0_pay35 y) (k0_pay36 y) (k0_pay37 y) k0_pay38

/-- The kernel's polynomial over the lanes, at a lane. -/
theorem lanePoly_apply (z : FVec Ideal S8x4200 .f32) (s : Fin 8) (l : Fin 4200) :
    k0_pay22 (F := Ideal) (cmpf .ogt z (broadcast S8x4200 (Scalar.ofBits .f32 0x3F800000#32)))
      (k0_pay21 z (cmpf .ogt z (broadcast S8x4200 (Scalar.ofBits .f32 0x3F800000#32)))) (Scalar.ofBits .f32 0x3FC90FDB#32)
      (ix2 s l) = polyNested (z (ix2 s l)) := by
  refine Eq.trans ?_ (polyNested_steps _ _ rfl)
  simp only [nested, reduced, lowerCoefficients, List.foldl_cons, List.foldl_nil, Ideal.ofBits_one_f32]
  pointwise [k0_pay22, k0_pay21]

/-- The arctangents of the boxes' ratios, at a lane. -/
theorem laneArctan_apply (x : FVec Ideal S1x64x33600 .f32) (s : Fin 8) (l : Fin 4200) :
    laneArctan x (ix2 s l) = polyNested (laneRatio x (ix2 s l)) := lanePoly_apply (laneRatio x) s l

/-- The arctangents of the targets' ratios, at a target. -/
theorem markArctan_apply (y : FVec Ideal S1x20x4 .f32) (j : Fin 20) :
    markArctan y (ix3 j 0 0) = polyNested (markRatio y (ix3 j 0 0)) := by
  refine Eq.trans ?_ (polyNested_steps _ _ rfl)
  unfold markArctan k0_pay37 k0_pay36 k0_pay35 k0_pay34 markRatio
  generalize k0_pay33 (F := Ideal) y = z
  simp only [nested, reduced, lowerCoefficients, List.foldl_cons, List.foldl_nil, Ideal.ofBits_one_f32]
  pointwise [k0_pay39, k0_pay38]

end Cert.Loss
-- ==== Proof.KernelGrid.lean ====
/-
  The kernel with the polynomial arctangent over its grid: eight points, one per image, each adding its image's two
  losses to the running totals; the last point also writes their weighted total.
-/
module

public import proofs.«01_k».proof.Proof.Gen.KernelIdeal.Value
public import proofs.«01_k».proof.Proof.PointLoss
public import proofs.«01_k».proof.Proof.KernelArctan
public import Idealize.ShloMosaic.Lib.Pipeline.ValueKit

@[expose] public section

set_option maxRecDepth 16384

noncomputable section

open Idealize.ShloMosaic Idealize.ShloMosaic.TcCoe Idealize.SL.Sem Cert.KernelIdeal Cert.KernelIdeal.Gen

namespace Cert.Loss.Poly

variable (m : (ℓ : Loc nD τ sig) → Buf (Elt Ideal) ℓ) (c : Dev nD)

/-! ## The blocks that a point reads -/

/-- A point's block of distances is its image's. -/
theorem index_distances : ∀ t : Fin cfg0.N, win0_0.index t = ![t.val, 0, 0] := by decide +kernel
/-- A point's block of scores is its image's. -/
theorem index_scores : ∀ t : Fin cfg0.N, win0_1.index t = ![t.val, 0, 0] := by decide +kernel
/-- A point's block of targets is its image's. -/
theorem index_marks : ∀ t : Fin cfg0.N, win0_2.index t = ![t.val, 0, 0] := by decide +kernel

/-- A point reads its image's box distances. -/
theorem read_distances (t : Fin cfg0.N) (k : Fin 64) (n : Fin 33600) :
    (iblk m c 0 t : FVec Ideal S1x64x33600 .f32) (ix3 0 k n)
      = m ((c : Thread nD τ).loc main_arg0) (ix3 ⟨t.val, t.isLt⟩ k n) := by
  rw [← V_main_arg0 m c]
  unfold iblk
  rw [View.read_apply]
  refine congrArg (V m c main_arg0) (funext fun a => Fin.ext ?_)
  fin_cases a <;> (blk_simp [index_distances]; rfl)

/-- A point reads its image's targets. -/
theorem read_marks (t : Fin cfg0.N) (k : Fin 20) (n : Fin 4) :
    (iblk m c 2 t : FVec Ideal S1x20x4 .f32) (ix3 0 k n)
      = m ((c : Thread nD τ).loc main_arg2) (ix3 ⟨t.val, t.isLt⟩ k n) := by
  rw [← V_main_arg2 m c]
  unfold iblk
  rw [View.read_apply]
  refine congrArg (V m c main_arg2) (funext fun a => Fin.ext ?_)
  fin_cases a <;> (blk_simp [index_marks]; rfl)

/-- The scores in eight rows of 4200. -/
theorem scores_rows : V m c main_call0_v0
    = shapeCast S8x8x4200 (m ((c : Thread nD τ).loc main_arg1) : FVec Ideal S8x1x33600 .f32) shapeCasts_S8x1x33600_S8x8x4200 := rfl

/-- A score in rows is the score of the anchor at that place. -/
theorem rows_apply (s : FVec Ideal S8x1x33600 .f32) (b u : Fin 8) (l : Fin 4200) :
    shapeCast S8x8x4200 s shapeCasts_S8x1x33600_S8x8x4200 (ix3 b u l) = s (ix3 b 0 (anchor u l)) := by
  pointwise
  rfl

/-- A point reads its image's scores. -/
theorem read_scores (t : Fin cfg0.N) (u : Fin 8) (l : Fin 4200) :
    (iblk m c 1 t : FVec Ideal S1x8x4200 .f32) (ix3 0 u l)
      = m ((c : Thread nD τ).loc main_arg1) (ix3 ⟨t.val, t.isLt⟩ 0 (anchor u l)) := by
  refine Eq.trans ?_ (rows_apply (m ((c : Thread nD τ).loc main_arg1)) ⟨t.val, t.isLt⟩ u l)
  rw [← scores_rows m c]
  unfold iblk
  rw [View.read_apply]
  refine congrArg (V m c main_call0_v0) (funext fun a => Fin.ext ?_)
  fin_cases a <;> (blk_simp [index_scores]; rfl)

/-! ## The running totals -/

/-- The best overlaps of a point's image. -/
def pointBest (t : Fin cfg0.N) : FVec Ideal S8x4200 .f32 :=
  bestOf (laneTable (laneArctan (iblk m c 0 t)) (markArctan (iblk m c 2 t)) (iblk m c 0 t) (iblk m c 2 t))

/-- The first point starts the totals. -/
theorem first (t : Fin cfg0.N) (h0 : t.val % 8 = 0) :
    (outsAt0 m c t.val t.isLt).2.1 = stepBox (pointBest m c t) k0_pay60
      ∧ (outsAt0 m c t.val t.isLt).2.2 = stepObj (pointBest m c t) (iblk m c 1 t) k0_pay61 := by
  rw [outsAt0_A m c t h0 (by omega)]
  dsimp only
  frame_out
  exact ⟨rfl, rfl⟩

/-- A later point adds to them. -/
theorem later (t : Fin cfg0.N) (h0 : ¬ t.val % 8 = 0) :
    (outsAt0 m c t.val t.isLt).2.1
        = stepBox (pointBest m c t) (outsAt0 m c (t.val - 1) (Nat.lt_of_le_of_lt (Nat.sub_le _ _) t.isLt)).2.1
      ∧ (outsAt0 m c t.val t.isLt).2.2
        = stepObj (pointBest m c t) (iblk m c 1 t) (outsAt0 m c (t.val - 1) (Nat.lt_of_le_of_lt (Nat.sub_le _ _) t.isLt)).2.2 := by
  by_cases h1 : t.val % 8 = 7
  · rw [outsAt0_C m c t h0 h1]
    dsimp only
    frame_out
    exact ⟨rfl, rfl⟩
  · rw [outsAt0_B m c t h0 h1]
    dsimp only
    frame_out
    exact ⟨rfl, rfl⟩

/-- The last point writes the weighted total. -/
theorem last (t : Fin cfg0.N) (h0 : ¬ t.val % 8 = 0) (h1 : t.val % 8 = 7) :
    (outsAt0 m c t.val t.isLt).1 = k0_pay3 (outsAt0 m c t.val t.isLt).2.1 (outsAt0 m c t.val t.isLt).2.2 := by
  rw [outsAt0_C m c t h0 h1]
  dsimp only
  frame_out

/-! ## The results -/

section
variable {m c} {L : Fin 8 → Fin 64 → Fin 33600 → ℝ} {S : Fin 8 → Fin 33600 → ℝ} {T : Fin 8 → Fin 20 → Fin 4 → ℝ}
  (h : Launched (m ((c : Thread nD τ).loc main_arg0)) (m ((c : Thread nD τ).loc main_arg1))
    (m ((c : Thread nD τ).loc main_arg2)) L S T polyArctan)
include h

/-- A point adds its image's box loss. -/
theorem box_step (t : Fin cfg0.N) (acc : FVec Ideal S1x1x1 .f32) : stepBox (pointBest m c t) acc (ix3 0 0 0)
    = acc (ix3 0 0 0) + boxTerm polyArctan L T t.val := by
  rw [boxTerm_of_lt polyArctan L T t.isLt]
  exact boxPoint (fun k n => (read_distances m c t k n).trans (h.distance _ k n))
    (fun j k => (read_marks m c t j k).trans (h.mark _ j k)) (h.ordered _)
    (fun s l z hz => by rw [laneArctan_apply, hz, polyNested_real])
    (fun j z hz => by rw [markArctan_apply, hz, polyNested_real]) (h.untied _) acc

/-- A point adds its image's objectness loss. -/
theorem obj_step (t : Fin cfg0.N) (acc : FVec Ideal S1x1x1 .f32) :
    stepObj (pointBest m c t) (iblk m c 1 t) acc (ix3 0 0 0) = acc (ix3 0 0 0) + objTerm polyArctan L S T t.val := by
  rw [objTerm_of_lt polyArctan L S T t.isLt]
  exact objPoint (fun k n => (read_distances m c t k n).trans (h.distance _ k n))
    (fun j k => (read_marks m c t j k).trans (h.mark _ j k))
    (fun u l => (read_scores m c t u l).trans (h.score _ _)) (h.ordered _)
    (fun s l z hz => by rw [laneArctan_apply, hz, polyNested_real])
    (fun j z hz => by rw [markArctan_apply, hz, polyNested_real]) (h.untied _) acc

/-- The box total after the last point. -/
theorem box_total (t : Fin cfg0.N) (ht : t.val = 7) :
    (outsAt0 m c t.val t.isLt).2.1 (ix3 0 0 0) = boxSum polyArctan L T := by
  refine (Pipeline.eq_sum_of_reset_step_apply_single (N := cfg0.N) (ι := Unit) (M := EReal)
    (fun n hn _ => (outsAt0 m c n hn).2.1 (ix3 0 0 0)) 8 (fun _ => 0) (fun n _ => boxTerm polyArctan L T n)
    (fun t h0 _ => ?_) (fun t h0 _ => ?_) (by decide +kernel) t ()).trans ?_
  · rw [(first m c t h0).1, box_step h, start_apply.1]
  · rw [(later m c t h0).1, box_step h]
  · rw [zero_add, ht, boxSum_eq]

/-- The objectness total after the last point. -/
theorem obj_total (t : Fin cfg0.N) (ht : t.val = 7) :
    (outsAt0 m c t.val t.isLt).2.2 (ix3 0 0 0) = objSum polyArctan L S T := by
  refine (Pipeline.eq_sum_of_reset_step_apply_single (N := cfg0.N) (ι := Unit) (M := EReal)
    (fun n hn _ => (outsAt0 m c n hn).2.2 (ix3 0 0 0)) 8 (fun _ => 0) (fun n _ => objTerm polyArctan L S T n)
    (fun t h0 _ => ?_) (fun t h0 _ => ?_) (by decide +kernel) t ()).trans ?_
  · rw [(first m c t h0).2, obj_step h, start_apply.2]
  · rw [(later m c t h0).2, obj_step h]
  · rw [zero_add, ht, objSum_eq]

/-- The kernel's second result: the box loss. -/
theorem result_box : (dats m 0 c).arrAt 4 cfg0.N = fun _ => boxSum polyArctan L T := by
  refine (dats m 0 c).arrAt_eq_of_after_last 4 t0_7 (by decide +kernel) _ fun j => ?_
  blk_simp
  rw [after0_4, only_index j]
  exact box_total h t0_7 rfl

/-- The kernel's third result: the objectness loss. -/
theorem result_obj : (dats m 0 c).arrAt 5 cfg0.N = fun _ => objSum polyArctan L S T := by
  refine (dats m 0 c).arrAt_eq_of_after_last 5 t0_7 (by decide +kernel) _ fun j => ?_
  blk_simp
  rw [after0_5, only_index j]
  exact obj_total h t0_7 rfl

/-- The kernel's first result: the weighted total. -/
theorem result_total : (dats m 0 c).arrAt 3 cfg0.N = fun _ => weighted (boxSum polyArctan L T) (objSum polyArctan L S T) := by
  refine (dats m 0 c).arrAt_eq_of_after_last 3 t0_7 (by decide +kernel) _ fun j => ?_
  blk_simp
  rw [after0_3, only_index j, last m c t0_7 (by decide) (by decide), total_apply, box_total h t0_7 rfl, obj_total h t0_7 rfl]
  rfl

end

end Cert.Loss.Poly
-- ==== Proof.PolyResults.lean ====
/-
  The reference with the polynomial arctangent, and its precondition.
-/
module

public import proofs.«01_k».proof.Proof.Gen.ReferencePolyIdeal.Run
public import proofs.«01_k».proof.Proof.Gen.Pre_untied_poly
public import proofs.«01_k».proof.Proof.Allowed
public import proofs.«01_k».proof.Proof.Arctan

@[expose] public section

set_option maxRecDepth 65536

noncomputable section

open Idealize.ShloMosaic Idealize.ShloMosaic.TcCoe Idealize.SL.Sem Idealize.ShloMosaic.StableHlo Cert.ReferencePolyIdeal Cert.ReferencePolyIdeal.Gen

namespace Cert.Loss

section
variable {S : Shape} (fill : BitVec 32 → FVec Ideal S .f32)

/-- The sum of powers of an array, written out term by term. -/
def longSeries (x : FVec Ideal S .f32) : FVec Ideal S .f32 :=
  let p₁ := mulf x (mulf x x)
  let p₂ := mulf p₁ (mulf x x)
  let p₃ := mulf p₂ (mulf x x)
  let p₄ := mulf p₃ (mulf x x)
  let p₅ := mulf p₄ (mulf x x)
  let p₆ := mulf p₅ (mulf x x)
  let p₇ := mulf p₆ (mulf x x)
  let p₈ := mulf p₇ (mulf x x)
  let p₉ := mulf p₈ (mulf x x)
  let p₁₀ := mulf p₉ (mulf x x)
  let p₁₁ := mulf p₁₀ (mulf x x)
  let p₁₂ := mulf p₁₁ (mulf x x)
  addf (addf (addf (addf (addf (addf (addf (addf (addf (addf (addf (addf (mulf (fill 0x3F800000#32) x)
    (mulf (fill 0xBEAAAAAB#32) p₁)) (mulf (fill 0x3E4CCCC0#32) p₂)) (mulf (fill 0xBE1247F5#32) p₃))
    (mulf (fill 0x3DE3719F#32) p₄)) (mulf (fill 0xBDB95E07#32) p₅)) (mulf (fill 0x3D99A54C#32) p₆))
    (mulf (fill 0xBD7756C5#32) p₇)) (mulf (fill 0x3D33D37F#32) p₈)) (mulf (fill 0xBCD7377C#32) p₉))
    (mulf (fill 0x3C3E17AC#32) p₁₀)) (mulf (fill 0xBB55BEA8#32) p₁₁)) (mulf (fill 0x39E187BE#32) p₁₂)

/-- Term by term it is the sum of powers. -/
theorem seriesArray_long (x : FVec Ideal S .f32) : seriesArray fill x = longSeries fill x := by
  simp only [seriesArray, higherCoefficients, List.foldl, nextTermArray, longSeries]

/-- The arctangent of `z` from the series of its reduced argument. -/
def withComplement (z s : FVec Ideal S .f32) : FVec Ideal S .f32 :=
  select (cmpf .ogt z (fill 0x3F800000#32)) (subf (fill 0x3FC90FDB#32) s) s

/-- The polynomial arctangent, written out term by term. -/
theorem polyArray_long (z : FVec Ideal S .f32) :
    polyArray fill z = withComplement fill z (longSeries fill (reducedArray fill z)) := by
  rw [← seriesArray_long]; rfl

end

/-- A constant for every box. -/
def fillBox (w : BitVec 32) : FVec Ideal S8x1x33600 .f32 :=
  broadcastInDim S8x1x33600 ![] bcast_S_S8x1x33600 (constant S_ .f32 w)

/-- A constant for every target. -/
def fillTarget (w : BitVec 32) : FVec Ideal S8x20x1 .f32 :=
  broadcastInDim S8x20x1 ![] bcast_S_S8x20x1 (constant S_ .f32 w)

/-- The reference's complete IoUs, with the polynomial arctangent. -/
def ciouPoly (A : FVec Ideal S8x64x33600 .f32) (T : FVec Ideal S8x20x4 .f32) : FVec Ideal S8x20x33600 .f32 :=
  ciouArray (polyArray fillBox (boxRatio (decoded (sides A)))) (polyArray fillTarget (targetRatio T)) (decoded (sides A)) T

/-- The same with the polynomials written out. -/
def ciouLong (A : FVec Ideal S8x64x33600 .f32) (T : FVec Ideal S8x20x4 .f32) : FVec Ideal S8x20x33600 .f32 :=
  ciouArray (withComplement fillBox (boxRatio (decoded (sides A)))
      (longSeries fillBox (reducedArray fillBox (boxRatio (decoded (sides A))))))
    (withComplement fillTarget (targetRatio T) (longSeries fillTarget (reducedArray fillTarget (targetRatio T))))
    (decoded (sides A)) T

/-- The two forms of the complete IoUs are the same. -/
theorem ciouPoly_long (A : FVec Ideal S8x64x33600 .f32) (T : FVec Ideal S8x20x4 .f32) : ciouPoly A T = ciouLong A T := by
  unfold ciouPoly ciouLong
  rw [polyArray_long, polyArray_long]

section
variable (V0 : Valuation τ sig (Elt Ideal)) {A : FVec Ideal S8x64x33600 .f32} {s : FVec Ideal S8x1x33600 .f32}
  {T : FVec Ideal S8x20x4 .f32} (hA : V0 (Proc.devRef .tc main_arg0) = A) (hs : V0 (Proc.devRef .tc main_arg1) = s)
  (hT : V0 (Proc.devRef .tc main_arg2) = T)

/-- The targets' sum of powers. -/
theorem target_series : Cert.ReferencePolyIdeal.Value.res_main_v184 V0
    = longSeries fillTarget (Cert.ReferencePolyIdeal.Value.res_main_v122 V0) := rfl

/-- The boxes' sum of powers. -/
theorem box_series : Cert.ReferencePolyIdeal.Value.res_main_v261 V0
    = longSeries fillBox (Cert.ReferencePolyIdeal.Value.res_main_v199 V0) := rfl

include hT in
/-- The targets' reduced argument. -/
theorem target_reduced : Cert.ReferencePolyIdeal.Value.res_main_v122 V0 = reducedArray fillTarget (targetRatio T) := by
  subst hT; rfl

include hA in
/-- The boxes' reduced argument. -/
theorem box_reduced : Cert.ReferencePolyIdeal.Value.res_main_v199 V0
    = reducedArray fillBox (boxRatio (decoded (sides A))) := by
  subst hA; rfl

include hA hT in
/-- The reference's complete IoUs, from the sums of powers. -/
theorem ciou_series : Cert.ReferencePolyIdeal.Value.res_main_v280 V0
    = ciouArray (withComplement fillBox (boxRatio (decoded (sides A))) (Cert.ReferencePolyIdeal.Value.res_main_v261 V0))
      (withComplement fillTarget (targetRatio T) (Cert.ReferencePolyIdeal.Value.res_main_v184 V0)) (decoded (sides A)) T := by
  subst hA hT; rfl

include hA hT in
/-- The reference's complete IoUs. -/
theorem poly_ciou : Cert.ReferencePolyIdeal.Value.res_main_v280 V0 = ciouPoly A T := by
  rw [ciou_series V0 hA hT, box_series, target_series, box_reduced V0 hA, target_reduced V0 hT, ciouPoly_long]
  rfl

include hA hT in
/-- The reference's box total. -/
theorem poly_box : Cert.ReferencePolyIdeal.Value.res_main_v313 V0 = boxLoss (ciouPoly A T) := by
  rw [← poly_ciou V0 hA hT]; rfl

include hA hs hT in
/-- The reference's objectness total. -/
theorem poly_obj : Cert.ReferencePolyIdeal.Value.res_main_v314 V0
    = objLoss (shapeCast S8x33600 s shapeCasts_S8x1x33600_S8x33600) (ciouPoly A T) := by
  rw [← poly_ciou V0 hA hT]; subst hs; rfl

end

/-- The precondition's parts on the numbers and the corners. -/
theorem untied_poly_parts (A : FVec Ideal S8x64x33600 .f32) (s : FVec Ideal S8x1x33600 .f32) (T : FVec Ideal S8x20x4 .f32) :
    (Cert.Pre_untied_poly.fn (F := Ideal) A s T).1 = finiteArray Cert.Pre_untied_poly.Facts.bcast_S_S8x64x33600 A
    ∧ (Cert.Pre_untied_poly.fn (F := Ideal) A s T).2.1 = finiteArray Cert.Pre_untied_poly.Facts.bcast_S_S8x1x33600 s
    ∧ (Cert.Pre_untied_poly.fn (F := Ideal) A s T).2.2.1 = finiteArray Cert.Pre_untied_poly.Facts.bcast_S_S8x20x4 T
    ∧ (Cert.Pre_untied_poly.fn (F := Ideal) A s T).2.2.2.1 = orderedArray T := ⟨rfl, rfl, rfl, rfl⟩

/-- The precondition's part on ties. -/
theorem untied_poly_untied (A : FVec Ideal S8x64x33600 .f32) (s : FVec Ideal S8x1x33600 .f32) (T : FVec Ideal S8x20x4 .f32) :
    (Cert.Pre_untied_poly.fn (F := Ideal) A s T).2.2.2.2 = untiedArray (ciouPoly A T) := by
  rw [ciouPoly_long]; rfl

end Cert.Loss
-- ==== Proof.PolyEqual.lean ====
/-
  The kernel with the polynomial arctangent against the reference with the same polynomial: from
  equal arguments that the precondition allows, equal results.
-/
module

public import proofs.«01_k».proof.Defs
public import proofs.«01_k».proof.Proof.KernelGrid
public import proofs.«01_k».proof.Proof.PolyResults

@[expose] public section

set_option maxRecDepth 16384

noncomputable section

open Idealize.ShloMosaic Idealize.ShloMosaic.TcCoe Idealize.SL.Sem Idealize.ShloMosaic.StableHlo Cert.KernelIdeal Cert.KernelIdeal.Gen

namespace Cert.Loss.Poly

/-- What the precondition gives: real arguments, and the reference's two totals. -/
theorem allowed (A : FVec Ideal S8x64x33600 .f32) (s : FVec Ideal S8x1x33600 .f32) (T : FVec Ideal S8x20x4 .f32)
    (h : (Cert.Pre_untied_poly.fn (F := Ideal) A s T).1 = (fun _ => 1#1) ∧ (Cert.Pre_untied_poly.fn (F := Ideal) A s T).2.1 = (fun _ => 1#1)
      ∧ (Cert.Pre_untied_poly.fn (F := Ideal) A s T).2.2.1 = (fun _ => 1#1) ∧ (Cert.Pre_untied_poly.fn (F := Ideal) A s T).2.2.2.1 = (fun _ => 1#1)
      ∧ (Cert.Pre_untied_poly.fn (F := Ideal) A s T).2.2.2.2 = (fun _ => 1#1)) :
    ∃ L S T', Launched A s T L S T' polyArctan ∧ boxLoss (ciouPoly A T) ix0 = boxSum polyArctan L T'
      ∧ objLoss (shapeCast S8x33600 s Cert.ReferenceIdeal.Gen.shapeCasts_S8x1x33600_S8x33600) (ciouPoly A T) ix0
          = objSum polyArctan L S T' := by
  obtain ⟨pA, ps, pT, po⟩ := untied_poly_parts A s T
  have pu := untied_poly_untied A s T
  exact launched_of (pA.symm.trans h.1) (ps.symm.trans h.2.1) (pT.symm.trans h.2.2.1) (po.symm.trans h.2.2.2.1)
    (pu.symm.trans h.2.2.2.2)
    (fun b n z hz => (polyArray_apply _ (fun _ _ => rfl) _).trans (by rw [hz]; exact polySeries_real z))
    (fun b j z hz => (polyArray_apply _ (fun _ _ => rfl) _).trans (by rw [hz]; exact polySeries_real z))

/-- The algebraic claim. -/
theorem algebraic : Cert.algebraic_KernelIdeal_ReferencePolyIdeal_pre_untied_poly (hKernelIdeal := Cert.KernelIdeal.Gen.facts)
    (hReferencePolyIdeal := Cert.ReferencePolyIdeal.Gen.facts) (hPre_untied_poly := Cert.Pre_untied_poly.Gen.facts) := by
  intro m g m' g' hpre heq
  choose L S T h hB hO using fun c : Dev nD => allowed (m ((c.tc : Thread nD τ).loc main_arg0)) (m ((c.tc : Thread nD τ).loc main_arg1))
    (m ((c.tc : Thread nD τ).loc main_arg2)) (hpre c)
  have hbox : ∀ c : Dev nD, Cert.ReferencePolyIdeal.Value.res_main_v313 (launchContents m' c) ix0 = boxSum polyArctan (L c) (T c) := fun c => by
    rw [poly_box _ (heq c).1 (heq c).2.2]; exact hB c
  have hobj : ∀ c : Dev nD, Cert.ReferencePolyIdeal.Value.res_main_v314 (launchContents m' c) ix0 = objSum polyArctan (L c) (S c) (T c) := fun c => by
    rw [poly_obj _ (heq c).1 (heq c).2.1 (heq c).2.2]; exact hO c
  refine ⟨fun c _ => weighted (boxSum polyArctan (L c) (T c)) (objSum polyArctan (L c) (S c) (T c)),
    fun c _ => boxSum polyArctan (L c) (T c), fun c _ => objSum polyArctan (L c) (S c) (T c), ?_, ?_⟩
  · exact (θ_run _ _ _).mono (fun r hr c => ⟨(hr c).1.trans (result_total (h c)), (hr c).2.1.trans (result_box (h c)),
      (hr c).2.2.1.trans (result_obj (h c)), (hr c).2.2.2⟩) (Cert.KernelIdeal.Value.run_blocks m g)
  · exact (θ_run _ _ _).mono (fun r hr c => ⟨(hr c).1.trans (one_total _ _ (hbox c) (hobj c)),
      (hr c).2.1.trans (one_number _ (hbox c)), (hr c).2.2.1.trans (one_number _ (hobj c)), (hr c).2.2.2⟩)
      (Cert.ReferencePolyIdeal.Value.run m' g')

end Cert.Loss.Poly
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferencePolyIdeal
public import proofs.«01_k».proof.Proof.Gen.KernelAtan
public import proofs.«01_k».proof.Proof.Gen.KernelAtan.Skeleton
public import proofs.«01_k».proof.Proof.Gen.KernelAtan.Launch
public import proofs.«01_k».proof.Proof.Gen.KernelAtan.Points
public import proofs.«01_k».proof.Proof.Gen.KernelAtan.Frame
public import proofs.«01_k».proof.Proof.Gen.KernelAtanIdeal
public import proofs.«01_k».proof.Proof.Gen.KernelAtanIdeal.Skeleton
public import proofs.«01_k».proof.Proof.Gen.KernelAtanIdeal.Launch
public import proofs.«01_k».proof.Proof.Gen.KernelAtanIdeal.Points
public import proofs.«01_k».proof.Proof.Gen.KernelAtanIdeal.Frame
public import proofs.«01_k».proof.Proof.Gen.ReferenceIdeal
public import proofs.«01_k».proof.Proof.Gen.Pre_untied_poly
public import proofs.«01_k».proof.Proof.Gen.Pre_untied
public import proofs.«01_k».proof.Proof.Gen.KernelIdeal.Value
public import proofs.«01_k».proof.Proof.Gen.KernelAtanIdeal.Value
public import proofs.«01_k».proof.Proof.Gen.ReferenceIdeal.Run
public import proofs.«01_k».proof.Proof.Gen.ReferencePolyIdeal.Run
public import proofs.«01_k».proof.Proof.AtanEqual
public import proofs.«01_k».proof.Proof.PolyEqual
public import Idealize.ShloMosaic.Adequacy
public import Idealize.ShloMosaic.Init

@[expose] public section

noncomputable section

namespace Cert.Proof

open Idealize.ShloMosaic Idealize.SL.Sem Cert.Kernel

/-- The frame of the reference with the arctangent: it runs, leaves its arguments, and declares no semaphore. -/
theorem atanFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run _ _ _).mono (fun _ h => ⟨fun c => (h c).2.2.2, funext fun g => nomatch g⟩) (Cert.ReferenceIdeal.Value.run m ρ)

/-- The frame of the reference with the polynomial arctangent: it runs, leaves its arguments, and declares no semaphore. -/
theorem polyFrame (m : (ℓ : Loc Cert.ReferencePolyIdeal.nD Cert.ReferencePolyIdeal.τ Cert.ReferencePolyIdeal.sig) → Buf (Elt Ideal) ℓ)
    (ρ : Dev Cert.ReferencePolyIdeal.nD → PrngReg) :
    θ_run (Cert.ReferencePolyIdeal.defs (F := Ideal)) (onTc (τ := Cert.ReferencePolyIdeal.τ) (Cert.ReferencePolyIdeal.main (F := Ideal)))
      ⟨m, fun _ => 0, ρ⟩ (fun r => (∀ c : Dev Cert.ReferencePolyIdeal.nD,
        r.2.mem ((c.tc : Thread Cert.ReferencePolyIdeal.nD Cert.ReferencePolyIdeal.τ).loc Cert.ReferencePolyIdeal.main_arg0)
          = m ((c.tc : Thread Cert.ReferencePolyIdeal.nD Cert.ReferencePolyIdeal.τ).loc Cert.ReferencePolyIdeal.main_arg0)
        ∧ r.2.mem ((c.tc : Thread Cert.ReferencePolyIdeal.nD Cert.ReferencePolyIdeal.τ).loc Cert.ReferencePolyIdeal.main_arg1)
          = m ((c.tc : Thread Cert.ReferencePolyIdeal.nD Cert.ReferencePolyIdeal.τ).loc Cert.ReferencePolyIdeal.main_arg1)
        ∧ r.2.mem ((c.tc : Thread Cert.ReferencePolyIdeal.nD Cert.ReferencePolyIdeal.τ).loc Cert.ReferencePolyIdeal.main_arg2)
          = m ((c.tc : Thread Cert.ReferencePolyIdeal.nD Cert.ReferencePolyIdeal.τ).loc Cert.ReferencePolyIdeal.main_arg2))
        ∧ r.2.sem = fun _ => 0) :=
  (θ_run _ _ _).mono (fun _ h => ⟨fun c => (h c).2.2.2, funext fun g => nomatch g⟩) (Cert.ReferencePolyIdeal.Value.run m ρ)

/-- Every claim: the frames come from the generated modules, the two algebraic claims from `AtanEqual` and `PolyEqual`. -/
theorem claim : Cert.Claim := ⟨Cert.Kernel.Gen.facts, Cert.KernelIdeal.Gen.facts, Cert.ReferencePolyIdeal.Gen.facts, Cert.KernelAtan.Gen.facts, Cert.KernelAtanIdeal.Gen.facts, Cert.ReferenceIdeal.Gen.facts, Cert.Pre_untied_poly.Gen.facts, Cert.Pre_untied.Gen.facts,
  fun m ρ _ => Cert.Kernel.Gen.frame m ρ,
  fun m ρ _ => Cert.KernelIdeal.Gen.frame m ρ,
  fun m ρ _ => Cert.KernelIdeal.Gen.frame m ρ,
  fun m ρ _ => polyFrame m ρ,
  fun m ρ _ => polyFrame m ρ,
  fun m ρ _ => Cert.KernelAtan.Gen.frame m ρ,
  fun m ρ _ => Cert.KernelAtanIdeal.Gen.frame m ρ,
  fun m ρ _ => Cert.KernelAtanIdeal.Gen.frame m ρ,
  fun m ρ _ => atanFrame m ρ,
  fun m ρ _ => atanFrame m ρ,
  trivial,
  Cert.Loss.Poly.algebraic,
  trivial,
  Cert.Loss.Atan.algebraic⟩

end Cert.Proof

end
